-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S32x8x256 : Shape := ⟨3, ![32, 8, 256]⟩
abbrev S32 : Shape := ⟨1, ![32]⟩
abbrev S_ : Shape := ⟨0, ![]⟩
abbrev S64x256 : Shape := ⟨2, ![64, 256]⟩
abbrev S64x512 : Shape := ⟨2, ![64, 512]⟩
abbrev S1 : Shape := ⟨1, ![1]⟩
abbrev S1x8x256 : Shape := ⟨3, ![1, 8, 256]⟩
abbrev S8x256 : Shape := ⟨2, ![8, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S32x8x256, .f32⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg16 : BitVec 32 := Scf.iv c1_i32_0 c1_i32_1 k0_t1
  let v1396 : BitVec 32 := Scalar.addi v2 arg16
  let c32_i32_899 : BitVec 32 := 32#32
  let c0_i32_900 : BitVec 32 := 0#32
  let v1397 : BitVec 1 := Scalar.cmpi .eq c32_i32_899 c0_i32_900
  let c1_i32_901 : BitVec 32 := 1#32
  let v1398 : BitVec 32 := Scalar.select v1397 c1_i32_901 c32_i32_899
  let v1399 : BitVec 32 := Scalar.remsi v1396 v1398
  let c0_i32_903 : BitVec 32 := 0#32
  let v1401 : BitVec 1 := Scalar.cmpi .slt v1399 c0_i32_903
  let c0_i32_904 : BitVec 32 := 0#32
  let v1402 : BitVec 1 := Scalar.cmpi .slt v1398 c0_i32_904
  let v1403 : BitVec 1 := Scalar.xori v1401 v1402
  let c0_i32_902 : BitVec 32 := 0#32
  let v1400 : BitVec 1 := Scalar.cmpi .ne v1399 c0_i32_902
  let v1404 : BitVec 1 := Scalar.andi v1403 v1400
  let v1405 : BitVec 32 := Scalar.addi v1399 v1398
  let v1406 : BitVec 32 := Scalar.select v1404 v1405 v1399
  let c1_i32_906 : BitVec 32 := 1#32
  let v1407 : BitVec 32 := Scalar.muli v1406 c1_i32_906
  let v1408 : BitVec 32 := Scalar.addi c0_i32_907 v1407
  v1408.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v22 : BitVec 1 := Scalar.cmpi .ne v2 c0_i32
  let v23 : BitVec 32 := Scalar.extui v22
  let c0_i32_13 : BitVec 32 := 0#32
  let v24 : BitVec 1 := Scalar.cmpi .ne v23 c0_i32_13
  v24

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev2 : Nat :=
  let c0_i32_902 : BitVec 32 := 0#32
  let c0_i32_900 : BitVec 32 := 0#32
  let c1_i32_901 : BitVec 32 := 1#32
  let v1396 : BitVec 32 := Scalar.muli c0_i32_900 c1_i32_901
  let v1397 : BitVec 32 := Scalar.addi c0_i32_902 v1396
  v1397.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v25 : BitVec 1 := Scalar.cmpi .ne v2 c1_i32_14
  let v26 : BitVec 32 := Scalar.extui v25
  let c0_i32_15 : BitVec 32 := 0#32
  let v27 : BitVec 1 := Scalar.cmpi .ne v26 c0_i32_15
  v27

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev3 : Nat :=
  let c0_i32_902 : BitVec 32 := 0#32
  let c1_i32_900 : BitVec 32 := 1#32
  let c1_i32_901 : BitVec 32 := 1#32
  let v1396 : BitVec 32 := Scalar.muli c1_i32_900 c1_i32_901
  let v1397 : BitVec 32 := Scalar.addi c0_i32_902 v1396
  v1397.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v28 : BitVec 1 := Scalar.cmpi .ne v2 c2_i32
  let v29 : BitVec 32 := Scalar.extui v28
  let c0_i32_16 : BitVec 32 := 0#32
  let v30 : BitVec 1 := Scalar.cmpi .ne v29 c0_i32_16
  v30

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev4 : Nat :=
  let c0_i32_902 : BitVec 32 := 0#32
  let c2_i32_900 : BitVec 32 := 2#32
  let c1_i32_901 : BitVec 32 := 1#32
  let v1396 : BitVec 32 := Scalar.muli c2_i32_900 c1_i32_901
  let v1397 : BitVec 32 := Scalar.addi c0_i32_902 v1396
  v1397.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v31 : BitVec 1 := Scalar.cmpi .ne v2 c3_i32
  let v32 : BitVec 32 := Scalar.extui v31
  let c0_i32_17 : BitVec 32 := 0#32
  let v33 : BitVec 1 := Scalar.cmpi .ne v32 c0_i32_17
  v33

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev5 : Nat :=
  let c0_i32_902 : BitVec 32 := 0#32
  let c3_i32_900 : BitVec 32 := 3#32
  let c1_i32_901 : BitVec 32 := 1#32
  let v1396 : BitVec 32 := Scalar.muli c3_i32_900 c1_i32_901
  let v1397 : BitVec 32 := Scalar.addi c0_i32_902 v1396
  v1397.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v34 : BitVec 1 := Scalar.cmpi .ne v2 c4_i32
  let v35 : BitVec 32 := Scalar.extui v34
  let c0_i32_18 : BitVec 32 := 0#32
  let v36 : BitVec 1 := Scalar.cmpi .ne v35 c0_i32_18
  v36

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev6 : Nat :=
  let c0_i32_902 : BitVec 32 := 0#32
  let c4_i32_900 : BitVec 32 := 4#32
  let c1_i32_901 : BitVec 32 := 1#32
  let v1396 : BitVec 32 := Scalar.muli c4_i32_900 c1_i32_901
  let v1397 : BitVec 32 := Scalar.addi c0_i32_902 v1396
  v1397.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v37 : BitVec 1 := Scalar.cmpi .ne v2 c5_i32
  let v38 : BitVec 32 := Scalar.extui v37
  let c0_i32_19 : BitVec 32 := 0#32
  let v39 : BitVec 1 := Scalar.cmpi .ne v38 c0_i32_19
  v39

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev7 : Nat :=
  let c0_i32_902 : BitVec 32 := 0#32
  let c5_i32_900 : BitVec 32 := 5#32
  let c1_i32_901 : BitVec 32 := 1#32
  let v1396 : BitVec 32 := Scalar.muli c5_i32_900 c1_i32_901
  let v1397 : BitVec 32 := Scalar.addi c0_i32_902 v1396
  v1397.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v40 : BitVec 1 := Scalar.cmpi .ne v2 c6_i32
  let v41 : BitVec 32 := Scalar.extui v40
  let c0_i32_20 : BitVec 32 := 0#32
  let v42 : BitVec 1 := Scalar.cmpi .ne v41 c0_i32_20
  v42

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev8 : Nat :=
  let c0_i32_902 : BitVec 32 := 0#32
  let c6_i32_900 : BitVec 32 := 6#32
  let c1_i32_901 : BitVec 32 := 1#32
  let v1396 : BitVec 32 := Scalar.muli c6_i32_900 c1_i32_901
  let v1397 : BitVec 32 := Scalar.addi c0_i32_902 v1396
  v1397.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v43 : BitVec 1 := Scalar.cmpi .ne v2 c7_i32
  let v44 : BitVec 32 := Scalar.extui v43
  let c0_i32_21 : BitVec 32 := 0#32
  let v45 : BitVec 1 := Scalar.cmpi .ne v44 c0_i32_21
  v45

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev9 : Nat :=
  let c0_i32_902 : BitVec 32 := 0#32
  let c7_i32_900 : BitVec 32 := 7#32
  let c1_i32_901 : BitVec 32 := 1#32
  let v1396 : BitVec 32 := Scalar.muli c7_i32_900 c1_i32_901
  let v1397 : BitVec 32 := Scalar.addi c0_i32_902 v1396
  v1397.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v63 : BitVec 1 := Scalar.cmpi .ne v2 c8_i32
  let v64 : BitVec 32 := Scalar.extui v63
  let c0_i32_32 : BitVec 32 := 0#32
  let v65 : BitVec 1 := Scalar.cmpi .ne v64 c0_i32_32
  v65

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev10 : Nat :=
  let c0_i32_902 : BitVec 32 := 0#32
  let c8_i32_900 : BitVec 32 := 8#32
  let c1_i32_901 : BitVec 32 := 1#32
  let v1396 : BitVec 32 := Scalar.muli c8_i32_900 c1_i32_901
  let v1397 : BitVec 32 := Scalar.addi c0_i32_902 v1396
  v1397.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v66 : BitVec 1 := Scalar.cmpi .ne v2 c9_i32
  let v67 : BitVec 32 := Scalar.extui v66
  let c0_i32_33 : BitVec 32 := 0#32
  let v68 : BitVec 1 := Scalar.cmpi .ne v67 c0_i32_33
  v68

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev11 : Nat :=
  let c0_i32_902 : BitVec 32 := 0#32
  let c9_i32_900 : BitVec 32 := 9#32
  let c1_i32_901 : BitVec 32 := 1#32
  let v1396 : BitVec 32 := Scalar.muli c9_i32_900 c1_i32_901
  let v1397 : BitVec 32 := Scalar.addi c0_i32_902 v1396
  v1397.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v69 : BitVec 1 := Scalar.cmpi .ne v2 c10_i32
  let v70 : BitVec 32 := Scalar.extui v69
  let c0_i32_34 : BitVec 32 := 0#32
  let v71 : BitVec 1 := Scalar.cmpi .ne v70 c0_i32_34
  v71

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev12 : Nat :=
  let c0_i32_902 : BitVec 32 := 0#32
  let c10_i32_900 : BitVec 32 := 10#32
  let c1_i32_901 : BitVec 32 := 1#32
  let v1396 : BitVec 32 := Scalar.muli c10_i32_900 c1_i32_901
  let v1397 : BitVec 32 := Scalar.addi c0_i32_902 v1396
  v1397.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v72 : BitVec 1 := Scalar.cmpi .ne v2 c11_i32
  let v73 : BitVec 32 := Scalar.extui v72
  let c0_i32_35 : BitVec 32 := 0#32
  let v74 : BitVec 1 := Scalar.cmpi .ne v73 c0_i32_35
  v74

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev13 : Nat :=
  let c0_i32_902 : BitVec 32 := 0#32
  let c11_i32_900 : BitVec 32 := 11#32
  let c1_i32_901 : BitVec 32 := 1#32
  let v1396 : BitVec 32 := Scalar.muli c11_i32_900 c1_i32_901
  let v1397 : BitVec 32 := Scalar.addi c0_i32_902 v1396
  v1397.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v75 : BitVec 1 := Scalar.cmpi .ne v2 c12_i32
  let v76 : BitVec 32 := Scalar.extui v75
  let c0_i32_36 : BitVec 32 := 0#32
  let v77 : BitVec 1 := Scalar.cmpi .ne v76 c0_i32_36
  v77

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev14 : Nat :=
  let c0_i32_902 : BitVec 32 := 0#32
  let c12_i32_900 : BitVec 32 := 12#32
  let c1_i32_901 : BitVec 32 := 1#32
  let v1396 : BitVec 32 := Scalar.muli c12_i32_900 c1_i32_901
  let v1397 : BitVec 32 := Scalar.addi c0_i32_902 v1396
  v1397.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v78 : BitVec 1 := Scalar.cmpi .ne v2 c13_i32
  let v79 : BitVec 32 := Scalar.extui v78
  let c0_i32_37 : BitVec 32 := 0#32
  let v80 : BitVec 1 := Scalar.cmpi .ne v79 c0_i32_37
  v80

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev15 : Nat :=
  let c0_i32_902 : BitVec 32 := 0#32
  let c13_i32_900 : BitVec 32 := 13#32
  let c1_i32_901 : BitVec 32 := 1#32
  let v1396 : BitVec 32 := Scalar.muli c13_i32_900 c1_i32_901
  let v1397 : BitVec 32 := Scalar.addi c0_i32_902 v1396
  v1397.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v81 : BitVec 1 := Scalar.cmpi .ne v2 c14_i32
  let v82 : BitVec 32 := Scalar.extui v81
  let c0_i32_38 : BitVec 32 := 0#32
  let v83 : BitVec 1 := Scalar.cmpi .ne v82 c0_i32_38
  v83

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev16 : Nat :=
  let c0_i32_902 : BitVec 32 := 0#32
  let c14_i32_900 : BitVec 32 := 14#32
  let c1_i32_901 : BitVec 32 := 1#32
  let v1396 : BitVec 32 := Scalar.muli c14_i32_900 c1_i32_901
  let v1397 : BitVec 32 := Scalar.addi c0_i32_902 v1396
  v1397.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v84 : BitVec 1 := Scalar.cmpi .ne v2 c15_i32
  let v85 : BitVec 32 := Scalar.extui v84
  let c0_i32_39 : BitVec 32 := 0#32
  let v86 : BitVec 1 := Scalar.cmpi .ne v85 c0_i32_39
  v86

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev17 : Nat :=
  let c0_i32_902 : BitVec 32 := 0#32
  let c15_i32_900 : BitVec 32 := 15#32
  let c1_i32_901 : BitVec 32 := 1#32
  let v1396 : BitVec 32 := Scalar.muli c15_i32_900 c1_i32_901
  let v1397 : BitVec 32 := Scalar.addi c0_i32_902 v1396
  v1397.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v104 : BitVec 1 := Scalar.cmpi .ne v2 c16_i32
  let v105 : BitVec 32 := Scalar.extui v104
  let c0_i32_50 : BitVec 32 := 0#32
  let v106 : BitVec 1 := Scalar.cmpi .ne v105 c0_i32_50
  v106

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev18 : Nat :=
  let c0_i32_902 : BitVec 32 := 0#32
  let c16_i32_900 : BitVec 32 := 16#32
  let c1_i32_901 : BitVec 32 := 1#32
  let v1396 : BitVec 32 := Scalar.muli c16_i32_900 c1_i32_901
  let v1397 : BitVec 32 := Scalar.addi c0_i32_902 v1396
  v1397.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v107 : BitVec 1 := Scalar.cmpi .ne v2 c17_i32
  let v108 : BitVec 32 := Scalar.extui v107
  let c0_i32_51 : BitVec 32 := 0#32
  let v109 : BitVec 1 := Scalar.cmpi .ne v108 c0_i32_51
  v109

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev19 : Nat :=
  let c0_i32_902 : BitVec 32 := 0#32
  let c17_i32_900 : BitVec 32 := 17#32
  let c1_i32_901 : BitVec 32 := 1#32
  let v1396 : BitVec 32 := Scalar.muli c17_i32_900 c1_i32_901
  let v1397 : BitVec 32 := Scalar.addi c0_i32_902 v1396
  v1397.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v110 : BitVec 1 := Scalar.cmpi .ne v2 c18_i32
  let v111 : BitVec 32 := Scalar.extui v110
  let c0_i32_52 : BitVec 32 := 0#32
  let v112 : BitVec 1 := Scalar.cmpi .ne v111 c0_i32_52
  v112

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev20 : Nat :=
  let c0_i32_902 : BitVec 32 := 0#32
  let c18_i32_900 : BitVec 32 := 18#32
  let c1_i32_901 : BitVec 32 := 1#32
  let v1396 : BitVec 32 := Scalar.muli c18_i32_900 c1_i32_901
  let v1397 : BitVec 32 := Scalar.addi c0_i32_902 v1396
  v1397.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v113 : BitVec 1 := Scalar.cmpi .ne v2 c19_i32
  let v114 : BitVec 32 := Scalar.extui v113
  let c0_i32_53 : BitVec 32 := 0#32
  let v115 : BitVec 1 := Scalar.cmpi .ne v114 c0_i32_53
  v115

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev21 : Nat :=
  let c0_i32_902 : BitVec 32 := 0#32
  let c19_i32_900 : BitVec 32 := 19#32
  let c1_i32_901 : BitVec 32 := 1#32
  let v1396 : BitVec 32 := Scalar.muli c19_i32_900 c1_i32_901
  let v1397 : BitVec 32 := Scalar.addi c0_i32_902 v1396
  v1397.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v116 : BitVec 1 := Scalar.cmpi .ne v2 c20_i32
  let v117 : BitVec 32 := Scalar.extui v116
  let c0_i32_54 : BitVec 32 := 0#32
  let v118 : BitVec 1 := Scalar.cmpi .ne v117 c0_i32_54
  v118

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev22 : Nat :=
  let c0_i32_902 : BitVec 32 := 0#32
  let c20_i32_900 : BitVec 32 := 20#32
  let c1_i32_901 : BitVec 32 := 1#32
  let v1396 : BitVec 32 := Scalar.muli c20_i32_900 c1_i32_901
  let v1397 : BitVec 32 := Scalar.addi c0_i32_902 v1396
  v1397.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v119 : BitVec 1 := Scalar.cmpi .ne v2 c21_i32
  let v120 : BitVec 32 := Scalar.extui v119
  let c0_i32_55 : BitVec 32 := 0#32
  let v121 : BitVec 1 := Scalar.cmpi .ne v120 c0_i32_55
  v121

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev23 : Nat :=
  let c0_i32_902 : BitVec 32 := 0#32
  let c21_i32_900 : BitVec 32 := 21#32
  let c1_i32_901 : BitVec 32 := 1#32
  let v1396 : BitVec 32 := Scalar.muli c21_i32_900 c1_i32_901
  let v1397 : BitVec 32 := Scalar.addi c0_i32_902 v1396
  v1397.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v122 : BitVec 1 := Scalar.cmpi .ne v2 c22_i32
  let v123 : BitVec 32 := Scalar.extui v122
  let c0_i32_56 : BitVec 32 := 0#32
  let v124 : BitVec 1 := Scalar.cmpi .ne v123 c0_i32_56
  v124

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev24 : Nat :=
  let c0_i32_902 : BitVec 32 := 0#32
  let c22_i32_900 : BitVec 32 := 22#32
  let c1_i32_901 : BitVec 32 := 1#32
  let v1396 : BitVec 32 := Scalar.muli c22_i32_900 c1_i32_901
  let v1397 : BitVec 32 := Scalar.addi c0_i32_902 v1396
  v1397.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v125 : BitVec 1 := Scalar.cmpi .ne v2 c23_i32
  let v126 : BitVec 32 := Scalar.extui v125
  let c0_i32_57 : BitVec 32 := 0#32
  let v127 : BitVec 1 := Scalar.cmpi .ne v126 c0_i32_57
  v127

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev25 : Nat :=
  let c0_i32_902 : BitVec 32 := 0#32
  let c23_i32_900 : BitVec 32 := 23#32
  let c1_i32_901 : BitVec 32 := 1#32
  let v1396 : BitVec 32 := Scalar.muli c23_i32_900 c1_i32_901
  let v1397 : BitVec 32 := Scalar.addi c0_i32_902 v1396
  v1397.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v145 : BitVec 1 := Scalar.cmpi .ne v2 c24_i32
  let v146 : BitVec 32 := Scalar.extui v145
  let c0_i32_68 : BitVec 32 := 0#32
  let v147 : BitVec 1 := Scalar.cmpi .ne v146 c0_i32_68
  v147

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev26 : Nat :=
  let c0_i32_902 : BitVec 32 := 0#32
  let c24_i32_900 : BitVec 32 := 24#32
  let c1_i32_901 : BitVec 32 := 1#32
  let v1396 : BitVec 32 := Scalar.muli c24_i32_900 c1_i32_901
  let v1397 : BitVec 32 := Scalar.addi c0_i32_902 v1396
  v1397.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v148 : BitVec 1 := Scalar.cmpi .ne v2 c25_i32
  let v149 : BitVec 32 := Scalar.extui v148
  let c0_i32_69 : BitVec 32 := 0#32
  let v150 : BitVec 1 := Scalar.cmpi .ne v149 c0_i32_69
  v150

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev27 : Nat :=
  let c0_i32_902 : BitVec 32 := 0#32
  let c25_i32_900 : BitVec 32 := 25#32
  let c1_i32_901 : BitVec 32 := 1#32
  let v1396 : BitVec 32 := Scalar.muli c25_i32_900 c1_i32_901
  let v1397 : BitVec 32 := Scalar.addi c0_i32_902 v1396
  v1397.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v151 : BitVec 1 := Scalar.cmpi .ne v2 c26_i32
  let v152 : BitVec 32 := Scalar.extui v151
  let c0_i32_70 : BitVec 32 := 0#32
  let v153 : BitVec 1 := Scalar.cmpi .ne v152 c0_i32_70
  v153

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev28 : Nat :=
  let c0_i32_902 : BitVec 32 := 0#32
  let c26_i32_900 : BitVec 32 := 26#32
  let c1_i32_901 : BitVec 32 := 1#32
  let v1396 : BitVec 32 := Scalar.muli c26_i32_900 c1_i32_901
  let v1397 : BitVec 32 := Scalar.addi c0_i32_902 v1396
  v1397.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v154 : BitVec 1 := Scalar.cmpi .ne v2 c27_i32
  let v155 : BitVec 32 := Scalar.extui v154
  let c0_i32_71 : BitVec 32 := 0#32
  let v156 : BitVec 1 := Scalar.cmpi .ne v155 c0_i32_71
  v156

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev29 : Nat :=
  let c0_i32_902 : BitVec 32 := 0#32
  let c27_i32_900 : BitVec 32 := 27#32
  let c1_i32_901 : BitVec 32 := 1#32
  let v1396 : BitVec 32 := Scalar.muli c27_i32_900 c1_i32_901
  let v1397 : BitVec 32 := Scalar.addi c0_i32_902 v1396
  v1397.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v157 : BitVec 1 := Scalar.cmpi .ne v2 c28_i32
  let v158 : BitVec 32 := Scalar.extui v157
  let c0_i32_72 : BitVec 32 := 0#32
  let v159 : BitVec 1 := Scalar.cmpi .ne v158 c0_i32_72
  v159

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev30 : Nat :=
  let c0_i32_902 : BitVec 32 := 0#32
  let c28_i32_900 : BitVec 32 := 28#32
  let c1_i32_901 : BitVec 32 := 1#32
  let v1396 : BitVec 32 := Scalar.muli c28_i32_900 c1_i32_901
  let v1397 : BitVec 32 := Scalar.addi c0_i32_902 v1396
  v1397.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v160 : BitVec 1 := Scalar.cmpi .ne v2 c29_i32
  let v161 : BitVec 32 := Scalar.extui v160
  let c0_i32_73 : BitVec 32 := 0#32
  let v162 : BitVec 1 := Scalar.cmpi .ne v161 c0_i32_73
  v162

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev31 : Nat :=
  let c0_i32_902 : BitVec 32 := 0#32
  let c29_i32_900 : BitVec 32 := 29#32
  let c1_i32_901 : BitVec 32 := 1#32
  let v1396 : BitVec 32 := Scalar.muli c29_i32_900 c1_i32_901
  let v1397 : BitVec 32 := Scalar.addi c0_i32_902 v1396
  v1397.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v163 : BitVec 1 := Scalar.cmpi .ne v2 c30_i32
  let v164 : BitVec 32 := Scalar.extui v163
  let c0_i32_74 : BitVec 32 := 0#32
  let v165 : BitVec 1 := Scalar.cmpi .ne v164 c0_i32_74
  v165

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev32 : Nat :=
  let c0_i32_902 : BitVec 32 := 0#32
  let c30_i32_900 : BitVec 32 := 30#32
  let c1_i32_901 : BitVec 32 := 1#32
  let v1396 : BitVec 32 := Scalar.muli c30_i32_900 c1_i32_901
  let v1397 : BitVec 32 := Scalar.addi c0_i32_902 v1396
  v1397.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_75 : BitVec 32 := 31#32
  let v166 : BitVec 1 := Scalar.cmpi .ne v2 c31_i32_75
  let v167 : BitVec 32 := Scalar.extui v166
  let c0_i32_76 : BitVec 32 := 0#32
  let v168 : BitVec 1 := Scalar.cmpi .ne v167 c0_i32_76
  v168

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev33 : Nat :=
  let c0_i32_902 : BitVec 32 := 0#32
  let c31_i32_900 : BitVec 32 := 31#32
  let c1_i32_901 : BitVec 32 := 1#32
  let v1396 : BitVec 32 := Scalar.muli c31_i32_900 c1_i32_901
  let v1397 : BitVec 32 := Scalar.addi c0_i32_902 v1396
  v1397.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_77 : BitVec 32 := 8#32
  let v169 : BitVec 32 := Scalar.muli v2 c8_i32_77
  let v170 : Index := Scalar.indexCast v169
  let c0_78 : Index := 0#32
  ![v170.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v173 : Index := Scalar.indexCast v2
  let c0_79 : Index := 0#32
  let c0_80 : Index := 0#32
  ![v173.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_151 : BitVec 32 := 0#32
  let v280 : BitVec 1 := Scalar.cmpi .ne v2 c0_i32_151
  let v281 : BitVec 32 := Scalar.extui v280
  let c0_i32_152 : BitVec 32 := 0#32
  let v282 : BitVec 1 := Scalar.cmpi .ne v281 c0_i32_152
  v282

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev34 : Nat :=
  let c0_i32_904 : BitVec 32 := 0#32
  let c0_i32_902 : BitVec 32 := 0#32
  let c1_i32_903 : BitVec 32 := 1#32
  let v1398 : BitVec 32 := Scalar.muli c0_i32_902 c1_i32_903
  let v1399 : BitVec 32 := Scalar.addi c0_i32_904 v1398
  v1399.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_153 : BitVec 32 := 1#32
  let v283 : BitVec 1 := Scalar.cmpi .ne v2 c1_i32_153
  let v284 : BitVec 32 := Scalar.extui v283
  let c0_i32_154 : BitVec 32 := 0#32
  let v285 : BitVec 1 := Scalar.cmpi .ne v284 c0_i32_154
  v285

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev35 : Nat :=
  let c0_i32_904 : BitVec 32 := 0#32
  let c1_i32_902 : BitVec 32 := 1#32
  let c1_i32_903 : BitVec 32 := 1#32
  let v1398 : BitVec 32 := Scalar.muli c1_i32_902 c1_i32_903
  let v1399 : BitVec 32 := Scalar.addi c0_i32_904 v1398
  v1399.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_155 : BitVec 32 := 2#32
  let v286 : BitVec 1 := Scalar.cmpi .ne v2 c2_i32_155
  let v287 : BitVec 32 := Scalar.extui v286
  let c0_i32_156 : BitVec 32 := 0#32
  let v288 : BitVec 1 := Scalar.cmpi .ne v287 c0_i32_156
  v288

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev36 : Nat :=
  let c0_i32_904 : BitVec 32 := 0#32
  let c2_i32_902 : BitVec 32 := 2#32
  let c1_i32_903 : BitVec 32 := 1#32
  let v1398 : BitVec 32 := Scalar.muli c2_i32_902 c1_i32_903
  let v1399 : BitVec 32 := Scalar.addi c0_i32_904 v1398
  v1399.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_157 : BitVec 32 := 3#32
  let v289 : BitVec 1 := Scalar.cmpi .ne v2 c3_i32_157
  let v290 : BitVec 32 := Scalar.extui v289
  let c0_i32_158 : BitVec 32 := 0#32
  let v291 : BitVec 1 := Scalar.cmpi .ne v290 c0_i32_158
  v291

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev37 : Nat :=
  let c0_i32_904 : BitVec 32 := 0#32
  let c3_i32_902 : BitVec 32 := 3#32
  let c1_i32_903 : BitVec 32 := 1#32
  let v1398 : BitVec 32 := Scalar.muli c3_i32_902 c1_i32_903
  let v1399 : BitVec 32 := Scalar.addi c0_i32_904 v1398
  v1399.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_159 : BitVec 32 := 4#32
  let v292 : BitVec 1 := Scalar.cmpi .ne v2 c4_i32_159
  let v293 : BitVec 32 := Scalar.extui v292
  let c0_i32_160 : BitVec 32 := 0#32
  let v294 : BitVec 1 := Scalar.cmpi .ne v293 c0_i32_160
  v294

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev38 : Nat :=
  let c0_i32_904 : BitVec 32 := 0#32
  let c4_i32_902 : BitVec 32 := 4#32
  let c1_i32_903 : BitVec 32 := 1#32
  let v1398 : BitVec 32 := Scalar.muli c4_i32_902 c1_i32_903
  let v1399 : BitVec 32 := Scalar.addi c0_i32_904 v1398
  v1399.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_161 : BitVec 32 := 5#32
  let v295 : BitVec 1 := Scalar.cmpi .ne v2 c5_i32_161
  let v296 : BitVec 32 := Scalar.extui v295
  let c0_i32_162 : BitVec 32 := 0#32
  let v297 : BitVec 1 := Scalar.cmpi .ne v296 c0_i32_162
  v297

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev39 : Nat :=
  let c0_i32_904 : BitVec 32 := 0#32
  let c5_i32_902 : BitVec 32 := 5#32
  let c1_i32_903 : BitVec 32 := 1#32
  let v1398 : BitVec 32 := Scalar.muli c5_i32_902 c1_i32_903
  let v1399 : BitVec 32 := Scalar.addi c0_i32_904 v1398
  v1399.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_163 : BitVec 32 := 6#32
  let v298 : BitVec 1 := Scalar.cmpi .ne v2 c6_i32_163
  let v299 : BitVec 32 := Scalar.extui v298
  let c0_i32_164 : BitVec 32 := 0#32
  let v300 : BitVec 1 := Scalar.cmpi .ne v299 c0_i32_164
  v300

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev40 : Nat :=
  let c0_i32_904 : BitVec 32 := 0#32
  let c6_i32_902 : BitVec 32 := 6#32
  let c1_i32_903 : BitVec 32 := 1#32
  let v1398 : BitVec 32 := Scalar.muli c6_i32_902 c1_i32_903
  let v1399 : BitVec 32 := Scalar.addi c0_i32_904 v1398
  v1399.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_165 : BitVec 32 := 7#32
  let v301 : BitVec 1 := Scalar.cmpi .ne v2 c7_i32_165
  let v302 : BitVec 32 := Scalar.extui v301
  let c0_i32_166 : BitVec 32 := 0#32
  let v303 : BitVec 1 := Scalar.cmpi .ne v302 c0_i32_166
  v303

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev41 : Nat :=
  let c0_i32_904 : BitVec 32 := 0#32
  let c7_i32_902 : BitVec 32 := 7#32
  let c1_i32_903 : BitVec 32 := 1#32
  let v1398 : BitVec 32 := Scalar.muli c7_i32_902 c1_i32_903
  let v1399 : BitVec 32 := Scalar.addi c0_i32_904 v1398
  v1399.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_167 : BitVec 32 := 8#32
  let v304 : BitVec 1 := Scalar.cmpi .ne v2 c8_i32_167
  let v305 : BitVec 32 := Scalar.extui v304
  let c0_i32_168 : BitVec 32 := 0#32
  let v306 : BitVec 1 := Scalar.cmpi .ne v305 c0_i32_168
  v306

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev42 : Nat :=
  let c0_i32_904 : BitVec 32 := 0#32
  let c8_i32_902 : BitVec 32 := 8#32
  let c1_i32_903 : BitVec 32 := 1#32
  let v1398 : BitVec 32 := Scalar.muli c8_i32_902 c1_i32_903
  let v1399 : BitVec 32 := Scalar.addi c0_i32_904 v1398
  v1399.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_169 : BitVec 32 := 9#32
  let v307 : BitVec 1 := Scalar.cmpi .ne v2 c9_i32_169
  let v308 : BitVec 32 := Scalar.extui v307
  let c0_i32_170 : BitVec 32 := 0#32
  let v309 : BitVec 1 := Scalar.cmpi .ne v308 c0_i32_170
  v309

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev43 : Nat :=
  let c0_i32_904 : BitVec 32 := 0#32
  let c9_i32_902 : BitVec 32 := 9#32
  let c1_i32_903 : BitVec 32 := 1#32
  let v1398 : BitVec 32 := Scalar.muli c9_i32_902 c1_i32_903
  let v1399 : BitVec 32 := Scalar.addi c0_i32_904 v1398
  v1399.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_171 : BitVec 32 := 10#32
  let v310 : BitVec 1 := Scalar.cmpi .ne v2 c10_i32_171
  let v311 : BitVec 32 := Scalar.extui v310
  let c0_i32_172 : BitVec 32 := 0#32
  let v312 : BitVec 1 := Scalar.cmpi .ne v311 c0_i32_172
  v312

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev44 : Nat :=
  let c0_i32_904 : BitVec 32 := 0#32
  let c10_i32_902 : BitVec 32 := 10#32
  let c1_i32_903 : BitVec 32 := 1#32
  let v1398 : BitVec 32 := Scalar.muli c10_i32_902 c1_i32_903
  let v1399 : BitVec 32 := Scalar.addi c0_i32_904 v1398
  v1399.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_173 : BitVec 32 := 11#32
  let v313 : BitVec 1 := Scalar.cmpi .ne v2 c11_i32_173
  let v314 : BitVec 32 := Scalar.extui v313
  let c0_i32_174 : BitVec 32 := 0#32
  let v315 : BitVec 1 := Scalar.cmpi .ne v314 c0_i32_174
  v315

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev45 : Nat :=
  let c0_i32_904 : BitVec 32 := 0#32
  let c11_i32_902 : BitVec 32 := 11#32
  let c1_i32_903 : BitVec 32 := 1#32
  let v1398 : BitVec 32 := Scalar.muli c11_i32_902 c1_i32_903
  let v1399 : BitVec 32 := Scalar.addi c0_i32_904 v1398
  v1399.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_175 : BitVec 32 := 12#32
  let v316 : BitVec 1 := Scalar.cmpi .ne v2 c12_i32_175
  let v317 : BitVec 32 := Scalar.extui v316
  let c0_i32_176 : BitVec 32 := 0#32
  let v318 : BitVec 1 := Scalar.cmpi .ne v317 c0_i32_176
  v318

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev46 : Nat :=
  let c0_i32_904 : BitVec 32 := 0#32
  let c12_i32_902 : BitVec 32 := 12#32
  let c1_i32_903 : BitVec 32 := 1#32
  let v1398 : BitVec 32 := Scalar.muli c12_i32_902 c1_i32_903
  let v1399 : BitVec 32 := Scalar.addi c0_i32_904 v1398
  v1399.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_177 : BitVec 32 := 13#32
  let v319 : BitVec 1 := Scalar.cmpi .ne v2 c13_i32_177
  let v320 : BitVec 32 := Scalar.extui v319
  let c0_i32_178 : BitVec 32 := 0#32
  let v321 : BitVec 1 := Scalar.cmpi .ne v320 c0_i32_178
  v321

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev47 : Nat :=
  let c0_i32_904 : BitVec 32 := 0#32
  let c13_i32_902 : BitVec 32 := 13#32
  let c1_i32_903 : BitVec 32 := 1#32
  let v1398 : BitVec 32 := Scalar.muli c13_i32_902 c1_i32_903
  let v1399 : BitVec 32 := Scalar.addi c0_i32_904 v1398
  v1399.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_179 : BitVec 32 := 14#32
  let v322 : BitVec 1 := Scalar.cmpi .ne v2 c14_i32_179
  let v323 : BitVec 32 := Scalar.extui v322
  let c0_i32_180 : BitVec 32 := 0#32
  let v324 : BitVec 1 := Scalar.cmpi .ne v323 c0_i32_180
  v324

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev48 : Nat :=
  let c0_i32_904 : BitVec 32 := 0#32
  let c14_i32_902 : BitVec 32 := 14#32
  let c1_i32_903 : BitVec 32 := 1#32
  let v1398 : BitVec 32 := Scalar.muli c14_i32_902 c1_i32_903
  let v1399 : BitVec 32 := Scalar.addi c0_i32_904 v1398
  v1399.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_181 : BitVec 32 := 15#32
  let v325 : BitVec 1 := Scalar.cmpi .ne v2 c15_i32_181
  let v326 : BitVec 32 := Scalar.extui v325
  let c0_i32_182 : BitVec 32 := 0#32
  let v327 : BitVec 1 := Scalar.cmpi .ne v326 c0_i32_182
  v327

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev49 : Nat :=
  let c0_i32_904 : BitVec 32 := 0#32
  let c15_i32_902 : BitVec 32 := 15#32
  let c1_i32_903 : BitVec 32 := 1#32
  let v1398 : BitVec 32 := Scalar.muli c15_i32_902 c1_i32_903
  let v1399 : BitVec 32 := Scalar.addi c0_i32_904 v1398
  v1399.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_183 : BitVec 32 := 16#32
  let v328 : BitVec 1 := Scalar.cmpi .ne v2 c16_i32_183
  let v329 : BitVec 32 := Scalar.extui v328
  let c0_i32_184 : BitVec 32 := 0#32
  let v330 : BitVec 1 := Scalar.cmpi .ne v329 c0_i32_184
  v330

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev50 : Nat :=
  let c0_i32_904 : BitVec 32 := 0#32
  let c16_i32_902 : BitVec 32 := 16#32
  let c1_i32_903 : BitVec 32 := 1#32
  let v1398 : BitVec 32 := Scalar.muli c16_i32_902 c1_i32_903
  let v1399 : BitVec 32 := Scalar.addi c0_i32_904 v1398
  v1399.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_185 : BitVec 32 := 17#32
  let v331 : BitVec 1 := Scalar.cmpi .ne v2 c17_i32_185
  let v332 : BitVec 32 := Scalar.extui v331
  let c0_i32_186 : BitVec 32 := 0#32
  let v333 : BitVec 1 := Scalar.cmpi .ne v332 c0_i32_186
  v333

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev51 : Nat :=
  let c0_i32_904 : BitVec 32 := 0#32
  let c17_i32_902 : BitVec 32 := 17#32
  let c1_i32_903 : BitVec 32 := 1#32
  let v1398 : BitVec 32 := Scalar.muli c17_i32_902 c1_i32_903
  let v1399 : BitVec 32 := Scalar.addi c0_i32_904 v1398
  v1399.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_187 : BitVec 32 := 18#32
  let v334 : BitVec 1 := Scalar.cmpi .ne v2 c18_i32_187
  let v335 : BitVec 32 := Scalar.extui v334
  let c0_i32_188 : BitVec 32 := 0#32
  let v336 : BitVec 1 := Scalar.cmpi .ne v335 c0_i32_188
  v336

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev52 : Nat :=
  let c0_i32_904 : BitVec 32 := 0#32
  let c18_i32_902 : BitVec 32 := 18#32
  let c1_i32_903 : BitVec 32 := 1#32
  let v1398 : BitVec 32 := Scalar.muli c18_i32_902 c1_i32_903
  let v1399 : BitVec 32 := Scalar.addi c0_i32_904 v1398
  v1399.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_189 : BitVec 32 := 19#32
  let v337 : BitVec 1 := Scalar.cmpi .ne v2 c19_i32_189
  let v338 : BitVec 32 := Scalar.extui v337
  let c0_i32_190 : BitVec 32 := 0#32
  let v339 : BitVec 1 := Scalar.cmpi .ne v338 c0_i32_190
  v339

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev53 : Nat :=
  let c0_i32_904 : BitVec 32 := 0#32
  let c19_i32_902 : BitVec 32 := 19#32
  let c1_i32_903 : BitVec 32 := 1#32
  let v1398 : BitVec 32 := Scalar.muli c19_i32_902 c1_i32_903
  let v1399 : BitVec 32 := Scalar.addi c0_i32_904 v1398
  v1399.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_191 : BitVec 32 := 20#32
  let v340 : BitVec 1 := Scalar.cmpi .ne v2 c20_i32_191
  let v341 : BitVec 32 := Scalar.extui v340
  let c0_i32_192 : BitVec 32 := 0#32
  let v342 : BitVec 1 := Scalar.cmpi .ne v341 c0_i32_192
  v342

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev54 : Nat :=
  let c0_i32_904 : BitVec 32 := 0#32
  let c20_i32_902 : BitVec 32 := 20#32
  let c1_i32_903 : BitVec 32 := 1#32
  let v1398 : BitVec 32 := Scalar.muli c20_i32_902 c1_i32_903
  let v1399 : BitVec 32 := Scalar.addi c0_i32_904 v1398
  v1399.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_193 : BitVec 32 := 21#32
  let v343 : BitVec 1 := Scalar.cmpi .ne v2 c21_i32_193
  let v344 : BitVec 32 := Scalar.extui v343
  let c0_i32_194 : BitVec 32 := 0#32
  let v345 : BitVec 1 := Scalar.cmpi .ne v344 c0_i32_194
  v345

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev55 : Nat :=
  let c0_i32_904 : BitVec 32 := 0#32
  let c21_i32_902 : BitVec 32 := 21#32
  let c1_i32_903 : BitVec 32 := 1#32
  let v1398 : BitVec 32 := Scalar.muli c21_i32_902 c1_i32_903
  let v1399 : BitVec 32 := Scalar.addi c0_i32_904 v1398
  v1399.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_195 : BitVec 32 := 22#32
  let v346 : BitVec 1 := Scalar.cmpi .ne v2 c22_i32_195
  let v347 : BitVec 32 := Scalar.extui v346
  let c0_i32_196 : BitVec 32 := 0#32
  let v348 : BitVec 1 := Scalar.cmpi .ne v347 c0_i32_196
  v348

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev56 : Nat :=
  let c0_i32_904 : BitVec 32 := 0#32
  let c22_i32_902 : BitVec 32 := 22#32
  let c1_i32_903 : BitVec 32 := 1#32
  let v1398 : BitVec 32 := Scalar.muli c22_i32_902 c1_i32_903
  let v1399 : BitVec 32 := Scalar.addi c0_i32_904 v1398
  v1399.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_197 : BitVec 32 := 23#32
  let v349 : BitVec 1 := Scalar.cmpi .ne v2 c23_i32_197
  let v350 : BitVec 32 := Scalar.extui v349
  let c0_i32_198 : BitVec 32 := 0#32
  let v351 : BitVec 1 := Scalar.cmpi .ne v350 c0_i32_198
  v351

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev57 : Nat :=
  let c0_i32_904 : BitVec 32 := 0#32
  let c23_i32_902 : BitVec 32 := 23#32
  let c1_i32_903 : BitVec 32 := 1#32
  let v1398 : BitVec 32 := Scalar.muli c23_i32_902 c1_i32_903
  let v1399 : BitVec 32 := Scalar.addi c0_i32_904 v1398
  v1399.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_199 : BitVec 32 := 24#32
  let v352 : BitVec 1 := Scalar.cmpi .ne v2 c24_i32_199
  let v353 : BitVec 32 := Scalar.extui v352
  let c0_i32_200 : BitVec 32 := 0#32
  let v354 : BitVec 1 := Scalar.cmpi .ne v353 c0_i32_200
  v354

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev58 : Nat :=
  let c0_i32_904 : BitVec 32 := 0#32
  let c24_i32_902 : BitVec 32 := 24#32
  let c1_i32_903 : BitVec 32 := 1#32
  let v1398 : BitVec 32 := Scalar.muli c24_i32_902 c1_i32_903
  let v1399 : BitVec 32 := Scalar.addi c0_i32_904 v1398
  v1399.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_201 : BitVec 32 := 25#32
  let v355 : BitVec 1 := Scalar.cmpi .ne v2 c25_i32_201
  let v356 : BitVec 32 := Scalar.extui v355
  let c0_i32_202 : BitVec 32 := 0#32
  let v357 : BitVec 1 := Scalar.cmpi .ne v356 c0_i32_202
  v357

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev59 : Nat :=
  let c0_i32_904 : BitVec 32 := 0#32
  let c25_i32_902 : BitVec 32 := 25#32
  let c1_i32_903 : BitVec 32 := 1#32
  let v1398 : BitVec 32 := Scalar.muli c25_i32_902 c1_i32_903
  let v1399 : BitVec 32 := Scalar.addi c0_i32_904 v1398
  v1399.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_203 : BitVec 32 := 26#32
  let v358 : BitVec 1 := Scalar.cmpi .ne v2 c26_i32_203
  let v359 : BitVec 32 := Scalar.extui v358
  let c0_i32_204 : BitVec 32 := 0#32
  let v360 : BitVec 1 := Scalar.cmpi .ne v359 c0_i32_204
  v360

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev60 : Nat :=
  let c0_i32_904 : BitVec 32 := 0#32
  let c26_i32_902 : BitVec 32 := 26#32
  let c1_i32_903 : BitVec 32 := 1#32
  let v1398 : BitVec 32 := Scalar.muli c26_i32_902 c1_i32_903
  let v1399 : BitVec 32 := Scalar.addi c0_i32_904 v1398
  v1399.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_205 : BitVec 32 := 27#32
  let v361 : BitVec 1 := Scalar.cmpi .ne v2 c27_i32_205
  let v362 : BitVec 32 := Scalar.extui v361
  let c0_i32_206 : BitVec 32 := 0#32
  let v363 : BitVec 1 := Scalar.cmpi .ne v362 c0_i32_206
  v363

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev61 : Nat :=
  let c0_i32_904 : BitVec 32 := 0#32
  let c27_i32_902 : BitVec 32 := 27#32
  let c1_i32_903 : BitVec 32 := 1#32
  let v1398 : BitVec 32 := Scalar.muli c27_i32_902 c1_i32_903
  let v1399 : BitVec 32 := Scalar.addi c0_i32_904 v1398
  v1399.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_207 : BitVec 32 := 28#32
  let v364 : BitVec 1 := Scalar.cmpi .ne v2 c28_i32_207
  let v365 : BitVec 32 := Scalar.extui v364
  let c0_i32_208 : BitVec 32 := 0#32
  let v366 : BitVec 1 := Scalar.cmpi .ne v365 c0_i32_208
  v366

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev62 : Nat :=
  let c0_i32_904 : BitVec 32 := 0#32
  let c28_i32_902 : BitVec 32 := 28#32
  let c1_i32_903 : BitVec 32 := 1#32
  let v1398 : BitVec 32 := Scalar.muli c28_i32_902 c1_i32_903
  let v1399 : BitVec 32 := Scalar.addi c0_i32_904 v1398
  v1399.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_209 : BitVec 32 := 29#32
  let v367 : BitVec 1 := Scalar.cmpi .ne v2 c29_i32_209
  let v368 : BitVec 32 := Scalar.extui v367
  let c0_i32_210 : BitVec 32 := 0#32
  let v369 : BitVec 1 := Scalar.cmpi .ne v368 c0_i32_210
  v369

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev63 : Nat :=
  let c0_i32_904 : BitVec 32 := 0#32
  let c29_i32_902 : BitVec 32 := 29#32
  let c1_i32_903 : BitVec 32 := 1#32
  let v1398 : BitVec 32 := Scalar.muli c29_i32_902 c1_i32_903
  let v1399 : BitVec 32 := Scalar.addi c0_i32_904 v1398
  v1399.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_211 : BitVec 32 := 30#32
  let v370 : BitVec 1 := Scalar.cmpi .ne v2 c30_i32_211
  let v371 : BitVec 32 := Scalar.extui v370
  let c0_i32_212 : BitVec 32 := 0#32
  let v372 : BitVec 1 := Scalar.cmpi .ne v371 c0_i32_212
  v372

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev64 : Nat :=
  let c0_i32_904 : BitVec 32 := 0#32
  let c30_i32_902 : BitVec 32 := 30#32
  let c1_i32_903 : BitVec 32 := 1#32
  let v1398 : BitVec 32 := Scalar.muli c30_i32_902 c1_i32_903
  let v1399 : BitVec 32 := Scalar.addi c0_i32_904 v1398
  v1399.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_213 : BitVec 32 := 31#32
  let v373 : BitVec 1 := Scalar.cmpi .ne v2 c31_i32_213
  let v374 : BitVec 32 := Scalar.extui v373
  let c0_i32_214 : BitVec 32 := 0#32
  let v375 : BitVec 1 := Scalar.cmpi .ne v374 c0_i32_214
  v375

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev65 : Nat :=
  let c0_i32_904 : BitVec 32 := 0#32
  let c31_i32_902 : BitVec 32 := 31#32
  let c1_i32_903 : BitVec 32 := 1#32
  let v1398 : BitVec 32 := Scalar.muli c31_i32_902 c1_i32_903
  let v1399 : BitVec 32 := Scalar.addi c0_i32_904 v1398
  v1399.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_215 : BitVec 32 := 0#32
  let v376 : BitVec 1 := Scalar.cmpi .ne v2 c0_i32_215
  let v377 : BitVec 32 := Scalar.extui v376
  let c0_i32_216 : BitVec 32 := 0#32
  let v378 : BitVec 1 := Scalar.cmpi .ne v377 c0_i32_216
  v378

def k0_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_217 : BitVec 32 := 1#32
  let v379 : BitVec 1 := Scalar.cmpi .ne v2 c1_i32_217
  let v380 : BitVec 32 := Scalar.extui v379
  let c0_i32_218 : BitVec 32 := 0#32
  let v381 : BitVec 1 := Scalar.cmpi .ne v380 c0_i32_218
  v381

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_219 : BitVec 32 := 2#32
  let v382 : BitVec 1 := Scalar.cmpi .ne v2 c2_i32_219
  let v383 : BitVec 32 := Scalar.extui v382
  let c0_i32_220 : BitVec 32 := 0#32
  let v384 : BitVec 1 := Scalar.cmpi .ne v383 c0_i32_220
  v384

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_221 : BitVec 32 := 3#32
  let v385 : BitVec 1 := Scalar.cmpi .ne v2 c3_i32_221
  let v386 : BitVec 32 := Scalar.extui v385
  let c0_i32_222 : BitVec 32 := 0#32
  let v387 : BitVec 1 := Scalar.cmpi .ne v386 c0_i32_222
  v387

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_223 : BitVec 32 := 4#32
  let v388 : BitVec 1 := Scalar.cmpi .ne v2 c4_i32_223
  let v389 : BitVec 32 := Scalar.extui v388
  let c0_i32_224 : BitVec 32 := 0#32
  let v390 : BitVec 1 := Scalar.cmpi .ne v389 c0_i32_224
  v390

def k0_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_225 : BitVec 32 := 5#32
  let v391 : BitVec 1 := Scalar.cmpi .ne v2 c5_i32_225
  let v392 : BitVec 32 := Scalar.extui v391
  let c0_i32_226 : BitVec 32 := 0#32
  let v393 : BitVec 1 := Scalar.cmpi .ne v392 c0_i32_226
  v393

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_227 : BitVec 32 := 6#32
  let v394 : BitVec 1 := Scalar.cmpi .ne v2 c6_i32_227
  let v395 : BitVec 32 := Scalar.extui v394
  let c0_i32_228 : BitVec 32 := 0#32
  let v396 : BitVec 1 := Scalar.cmpi .ne v395 c0_i32_228
  v396

def k0_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_229 : BitVec 32 := 7#32
  let v397 : BitVec 1 := Scalar.cmpi .ne v2 c7_i32_229
  let v398 : BitVec 32 := Scalar.extui v397
  let c0_i32_230 : BitVec 32 := 0#32
  let v399 : BitVec 1 := Scalar.cmpi .ne v398 c0_i32_230
  v399

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let v416 : BitVec 1 := Scalar.cmpi .ne v2 c0_i32_242
  let v417 : BitVec 32 := Scalar.extui v416
  let c0_i32_243 : BitVec 32 := 0#32
  let v418 : BitVec 1 := Scalar.cmpi .ne v417 c0_i32_243
  v418

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev66 : Nat :=
  let c0_i32_902 : BitVec 32 := 0#32
  let c0_i32_900 : BitVec 32 := 0#32
  let c1_i32_901 : BitVec 32 := 1#32
  let v1396 : BitVec 32 := Scalar.muli c0_i32_900 c1_i32_901
  let v1397 : BitVec 32 := Scalar.addi c0_i32_902 v1396
  v1397.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_244 : BitVec 32 := 1#32
  let v419 : BitVec 1 := Scalar.cmpi .ne v2 c1_i32_244
  let v420 : BitVec 32 := Scalar.extui v419
  let c0_i32_245 : BitVec 32 := 0#32
  let v421 : BitVec 1 := Scalar.cmpi .ne v420 c0_i32_245
  v421

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev67 : Nat :=
  let c0_i32_902 : BitVec 32 := 0#32
  let c1_i32_900 : BitVec 32 := 1#32
  let c1_i32_901 : BitVec 32 := 1#32
  let v1396 : BitVec 32 := Scalar.muli c1_i32_900 c1_i32_901
  let v1397 : BitVec 32 := Scalar.addi c0_i32_902 v1396
  v1397.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_246 : BitVec 32 := 2#32
  let v422 : BitVec 1 := Scalar.cmpi .ne v2 c2_i32_246
  let v423 : BitVec 32 := Scalar.extui v422
  let c0_i32_247 : BitVec 32 := 0#32
  let v424 : BitVec 1 := Scalar.cmpi .ne v423 c0_i32_247
  v424

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev68 : Nat :=
  let c0_i32_902 : BitVec 32 := 0#32
  let c2_i32_900 : BitVec 32 := 2#32
  let c1_i32_901 : BitVec 32 := 1#32
  let v1396 : BitVec 32 := Scalar.muli c2_i32_900 c1_i32_901
  let v1397 : BitVec 32 := Scalar.addi c0_i32_902 v1396
  v1397.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_248 : BitVec 32 := 3#32
  let v425 : BitVec 1 := Scalar.cmpi .ne v2 c3_i32_248
  let v426 : BitVec 32 := Scalar.extui v425
  let c0_i32_249 : BitVec 32 := 0#32
  let v427 : BitVec 1 := Scalar.cmpi .ne v426 c0_i32_249
  v427

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev69 : Nat :=
  let c0_i32_902 : BitVec 32 := 0#32
  let c3_i32_900 : BitVec 32 := 3#32
  let c1_i32_901 : BitVec 32 := 1#32
  let v1396 : BitVec 32 := Scalar.muli c3_i32_900 c1_i32_901
  let v1397 : BitVec 32 := Scalar.addi c0_i32_902 v1396
  v1397.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_250 : BitVec 32 := 4#32
  let v428 : BitVec 1 := Scalar.cmpi .ne v2 c4_i32_250
  let v429 : BitVec 32 := Scalar.extui v428
  let c0_i32_251 : BitVec 32 := 0#32
  let v430 : BitVec 1 := Scalar.cmpi .ne v429 c0_i32_251
  v430

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev70 : Nat :=
  let c0_i32_902 : BitVec 32 := 0#32
  let c4_i32_900 : BitVec 32 := 4#32
  let c1_i32_901 : BitVec 32 := 1#32
  let v1396 : BitVec 32 := Scalar.muli c4_i32_900 c1_i32_901
  let v1397 : BitVec 32 := Scalar.addi c0_i32_902 v1396
  v1397.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_252 : BitVec 32 := 5#32
  let v431 : BitVec 1 := Scalar.cmpi .ne v2 c5_i32_252
  let v432 : BitVec 32 := Scalar.extui v431
  let c0_i32_253 : BitVec 32 := 0#32
  let v433 : BitVec 1 := Scalar.cmpi .ne v432 c0_i32_253
  v433

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev71 : Nat :=
  let c0_i32_902 : BitVec 32 := 0#32
  let c5_i32_900 : BitVec 32 := 5#32
  let c1_i32_901 : BitVec 32 := 1#32
  let v1396 : BitVec 32 := Scalar.muli c5_i32_900 c1_i32_901
  let v1397 : BitVec 32 := Scalar.addi c0_i32_902 v1396
  v1397.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_254 : BitVec 32 := 6#32
  let v434 : BitVec 1 := Scalar.cmpi .ne v2 c6_i32_254
  let v435 : BitVec 32 := Scalar.extui v434
  let c0_i32_255 : BitVec 32 := 0#32
  let v436 : BitVec 1 := Scalar.cmpi .ne v435 c0_i32_255
  v436

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev72 : Nat :=
  let c0_i32_902 : BitVec 32 := 0#32
  let c6_i32_900 : BitVec 32 := 6#32
  let c1_i32_901 : BitVec 32 := 1#32
  let v1396 : BitVec 32 := Scalar.muli c6_i32_900 c1_i32_901
  let v1397 : BitVec 32 := Scalar.addi c0_i32_902 v1396
  v1397.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_256 : BitVec 32 := 7#32
  let v437 : BitVec 1 := Scalar.cmpi .ne v2 c7_i32_256
  let v438 : BitVec 32 := Scalar.extui v437
  let c0_i32_257 : BitVec 32 := 0#32
  let v439 : BitVec 1 := Scalar.cmpi .ne v438 c0_i32_257
  v439

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev73 : Nat :=
  let c0_i32_902 : BitVec 32 := 0#32
  let c7_i32_900 : BitVec 32 := 7#32
  let c1_i32_901 : BitVec 32 := 1#32
  let v1396 : BitVec 32 := Scalar.muli c7_i32_900 c1_i32_901
  let v1397 : BitVec 32 := Scalar.addi c0_i32_902 v1396
  v1397.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_258 : BitVec 32 := 8#32
  let v440 : BitVec 1 := Scalar.cmpi .ne v2 c8_i32_258
  let v441 : BitVec 32 := Scalar.extui v440
  let c0_i32_259 : BitVec 32 := 0#32
  let v442 : BitVec 1 := Scalar.cmpi .ne v441 c0_i32_259
  v442

def k0_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_260 : BitVec 32 := 9#32
  let v443 : BitVec 1 := Scalar.cmpi .ne v2 c9_i32_260
  let v444 : BitVec 32 := Scalar.extui v443
  let c0_i32_261 : BitVec 32 := 0#32
  let v445 : BitVec 1 := Scalar.cmpi .ne v444 c0_i32_261
  v445

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_262 : BitVec 32 := 10#32
  let v446 : BitVec 1 := Scalar.cmpi .ne v2 c10_i32_262
  let v447 : BitVec 32 := Scalar.extui v446
  let c0_i32_263 : BitVec 32 := 0#32
  let v448 : BitVec 1 := Scalar.cmpi .ne v447 c0_i32_263
  v448

def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_264 : BitVec 32 := 11#32
  let v449 : BitVec 1 := Scalar.cmpi .ne v2 c11_i32_264
  let v450 : BitVec 32 := Scalar.extui v449
  let c0_i32_265 : BitVec 32 := 0#32
  let v451 : BitVec 1 := Scalar.cmpi .ne v450 c0_i32_265
  v451

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_266 : BitVec 32 := 12#32
  let v452 : BitVec 1 := Scalar.cmpi .ne v2 c12_i32_266
  let v453 : BitVec 32 := Scalar.extui v452
  let c0_i32_267 : BitVec 32 := 0#32
  let v454 : BitVec 1 := Scalar.cmpi .ne v453 c0_i32_267
  v454

def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_268 : BitVec 32 := 13#32
  let v455 : BitVec 1 := Scalar.cmpi .ne v2 c13_i32_268
  let v456 : BitVec 32 := Scalar.extui v455
  let c0_i32_269 : BitVec 32 := 0#32
  let v457 : BitVec 1 := Scalar.cmpi .ne v456 c0_i32_269
  v457

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_270 : BitVec 32 := 14#32
  let v458 : BitVec 1 := Scalar.cmpi .ne v2 c14_i32_270
  let v459 : BitVec 32 := Scalar.extui v458
  let c0_i32_271 : BitVec 32 := 0#32
  let v460 : BitVec 1 := Scalar.cmpi .ne v459 c0_i32_271
  v460

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_272 : BitVec 32 := 15#32
  let v461 : BitVec 1 := Scalar.cmpi .ne v2 c15_i32_272
  let v462 : BitVec 32 := Scalar.extui v461
  let c0_i32_273 : BitVec 32 := 0#32
  let v463 : BitVec 1 := Scalar.cmpi .ne v462 c0_i32_273
  v463

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_285 : BitVec 32 := 8#32
  let v480 : BitVec 1 := Scalar.cmpi .ne v2 c8_i32_285
  let v481 : BitVec 32 := Scalar.extui v480
  let c0_i32_286 : BitVec 32 := 0#32
  let v482 : BitVec 1 := Scalar.cmpi .ne v481 c0_i32_286
  v482

def k0_off163 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev74 : Nat :=
  let c0_i32_902 : BitVec 32 := 0#32
  let c8_i32_900 : BitVec 32 := 8#32
  let c1_i32_901 : BitVec 32 := 1#32
  let v1396 : BitVec 32 := Scalar.muli c8_i32_900 c1_i32_901
  let v1397 : BitVec 32 := Scalar.addi c0_i32_902 v1396
  v1397.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_287 : BitVec 32 := 9#32
  let v483 : BitVec 1 := Scalar.cmpi .ne v2 c9_i32_287
  let v484 : BitVec 32 := Scalar.extui v483
  let c0_i32_288 : BitVec 32 := 0#32
  let v485 : BitVec 1 := Scalar.cmpi .ne v484 c0_i32_288
  v485

def k0_off165 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev75 : Nat :=
  let c0_i32_902 : BitVec 32 := 0#32
  let c9_i32_900 : BitVec 32 := 9#32
  let c1_i32_901 : BitVec 32 := 1#32
  let v1396 : BitVec 32 := Scalar.muli c9_i32_900 c1_i32_901
  let v1397 : BitVec 32 := Scalar.addi c0_i32_902 v1396
  v1397.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_289 : BitVec 32 := 10#32
  let v486 : BitVec 1 := Scalar.cmpi .ne v2 c10_i32_289
  let v487 : BitVec 32 := Scalar.extui v486
  let c0_i32_290 : BitVec 32 := 0#32
  let v488 : BitVec 1 := Scalar.cmpi .ne v487 c0_i32_290
  v488

def k0_off167 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev76 : Nat :=
  let c0_i32_902 : BitVec 32 := 0#32
  let c10_i32_900 : BitVec 32 := 10#32
  let c1_i32_901 : BitVec 32 := 1#32
  let v1396 : BitVec 32 := Scalar.muli c10_i32_900 c1_i32_901
  let v1397 : BitVec 32 := Scalar.addi c0_i32_902 v1396
  v1397.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_291 : BitVec 32 := 11#32
  let v489 : BitVec 1 := Scalar.cmpi .ne v2 c11_i32_291
  let v490 : BitVec 32 := Scalar.extui v489
  let c0_i32_292 : BitVec 32 := 0#32
  let v491 : BitVec 1 := Scalar.cmpi .ne v490 c0_i32_292
  v491

def k0_off169 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev77 : Nat :=
  let c0_i32_902 : BitVec 32 := 0#32
  let c11_i32_900 : BitVec 32 := 11#32
  let c1_i32_901 : BitVec 32 := 1#32
  let v1396 : BitVec 32 := Scalar.muli c11_i32_900 c1_i32_901
  let v1397 : BitVec 32 := Scalar.addi c0_i32_902 v1396
  v1397.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_293 : BitVec 32 := 12#32
  let v492 : BitVec 1 := Scalar.cmpi .ne v2 c12_i32_293
  let v493 : BitVec 32 := Scalar.extui v492
  let c0_i32_294 : BitVec 32 := 0#32
  let v494 : BitVec 1 := Scalar.cmpi .ne v493 c0_i32_294
  v494

def k0_off171 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev78 : Nat :=
  let c0_i32_902 : BitVec 32 := 0#32
  let c12_i32_900 : BitVec 32 := 12#32
  let c1_i32_901 : BitVec 32 := 1#32
  let v1396 : BitVec 32 := Scalar.muli c12_i32_900 c1_i32_901
  let v1397 : BitVec 32 := Scalar.addi c0_i32_902 v1396
  v1397.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_295 : BitVec 32 := 13#32
  let v495 : BitVec 1 := Scalar.cmpi .ne v2 c13_i32_295
  let v496 : BitVec 32 := Scalar.extui v495
  let c0_i32_296 : BitVec 32 := 0#32
  let v497 : BitVec 1 := Scalar.cmpi .ne v496 c0_i32_296
  v497

def k0_off173 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev79 : Nat :=
  let c0_i32_902 : BitVec 32 := 0#32
  let c13_i32_900 : BitVec 32 := 13#32
  let c1_i32_901 : BitVec 32 := 1#32
  let v1396 : BitVec 32 := Scalar.muli c13_i32_900 c1_i32_901
  let v1397 : BitVec 32 := Scalar.addi c0_i32_902 v1396
  v1397.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_297 : BitVec 32 := 14#32
  let v498 : BitVec 1 := Scalar.cmpi .ne v2 c14_i32_297
  let v499 : BitVec 32 := Scalar.extui v498
  let c0_i32_298 : BitVec 32 := 0#32
  let v500 : BitVec 1 := Scalar.cmpi .ne v499 c0_i32_298
  v500

def k0_off175 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev80 : Nat :=
  let c0_i32_902 : BitVec 32 := 0#32
  let c14_i32_900 : BitVec 32 := 14#32
  let c1_i32_901 : BitVec 32 := 1#32
  let v1396 : BitVec 32 := Scalar.muli c14_i32_900 c1_i32_901
  let v1397 : BitVec 32 := Scalar.addi c0_i32_902 v1396
  v1397.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_299 : BitVec 32 := 15#32
  let v501 : BitVec 1 := Scalar.cmpi .ne v2 c15_i32_299
  let v502 : BitVec 32 := Scalar.extui v501
  let c0_i32_300 : BitVec 32 := 0#32
  let v503 : BitVec 1 := Scalar.cmpi .ne v502 c0_i32_300
  v503

def k0_off177 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev81 : Nat :=
  let c0_i32_902 : BitVec 32 := 0#32
  let c15_i32_900 : BitVec 32 := 15#32
  let c1_i32_901 : BitVec 32 := 1#32
  let v1396 : BitVec 32 := Scalar.muli c15_i32_900 c1_i32_901
  let v1397 : BitVec 32 := Scalar.addi c0_i32_902 v1396
  v1397.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_301 : BitVec 32 := 16#32
  let v504 : BitVec 1 := Scalar.cmpi .ne v2 c16_i32_301
  let v505 : BitVec 32 := Scalar.extui v504
  let c0_i32_302 : BitVec 32 := 0#32
  let v506 : BitVec 1 := Scalar.cmpi .ne v505 c0_i32_302
  v506

def k0_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_303 : BitVec 32 := 17#32
  let v507 : BitVec 1 := Scalar.cmpi .ne v2 c17_i32_303
  let v508 : BitVec 32 := Scalar.extui v507
  let c0_i32_304 : BitVec 32 := 0#32
  let v509 : BitVec 1 := Scalar.cmpi .ne v508 c0_i32_304
  v509

def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_305 : BitVec 32 := 18#32
  let v510 : BitVec 1 := Scalar.cmpi .ne v2 c18_i32_305
  let v511 : BitVec 32 := Scalar.extui v510
  let c0_i32_306 : BitVec 32 := 0#32
  let v512 : BitVec 1 := Scalar.cmpi .ne v511 c0_i32_306
  v512

def k0_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v513 : BitVec 1 := Scalar.cmpi .ne v2 c19_i32_307
  let v514 : BitVec 32 := Scalar.extui v513
  let c0_i32_308 : BitVec 32 := 0#32
  let v515 : BitVec 1 := Scalar.cmpi .ne v514 c0_i32_308
  v515

def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_309 : BitVec 32 := 20#32
  let v516 : BitVec 1 := Scalar.cmpi .ne v2 c20_i32_309
  let v517 : BitVec 32 := Scalar.extui v516
  let c0_i32_310 : BitVec 32 := 0#32
  let v518 : BitVec 1 := Scalar.cmpi .ne v517 c0_i32_310
  v518

def k0_off183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_311 : BitVec 32 := 21#32
  let v519 : BitVec 1 := Scalar.cmpi .ne v2 c21_i32_311
  let v520 : BitVec 32 := Scalar.extui v519
  let c0_i32_312 : BitVec 32 := 0#32
  let v521 : BitVec 1 := Scalar.cmpi .ne v520 c0_i32_312
  v521

def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_313 : BitVec 32 := 22#32
  let v522 : BitVec 1 := Scalar.cmpi .ne v2 c22_i32_313
  let v523 : BitVec 32 := Scalar.extui v522
  let c0_i32_314 : BitVec 32 := 0#32
  let v524 : BitVec 1 := Scalar.cmpi .ne v523 c0_i32_314
  v524

def k0_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_315 : BitVec 32 := 23#32
  let v525 : BitVec 1 := Scalar.cmpi .ne v2 c23_i32_315
  let v526 : BitVec 32 := Scalar.extui v525
  let c0_i32_316 : BitVec 32 := 0#32
  let v527 : BitVec 1 := Scalar.cmpi .ne v526 c0_i32_316
  v527

def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_328 : BitVec 32 := 16#32
  let v544 : BitVec 1 := Scalar.cmpi .ne v2 c16_i32_328
  let v545 : BitVec 32 := Scalar.extui v544
  let c0_i32_329 : BitVec 32 := 0#32
  let v546 : BitVec 1 := Scalar.cmpi .ne v545 c0_i32_329
  v546

def k0_off187 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev82 : Nat :=
  let c0_i32_902 : BitVec 32 := 0#32
  let c16_i32_900 : BitVec 32 := 16#32
  let c1_i32_901 : BitVec 32 := 1#32
  let v1396 : BitVec 32 := Scalar.muli c16_i32_900 c1_i32_901
  let v1397 : BitVec 32 := Scalar.addi c0_i32_902 v1396
  v1397.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_330 : BitVec 32 := 17#32
  let v547 : BitVec 1 := Scalar.cmpi .ne v2 c17_i32_330
  let v548 : BitVec 32 := Scalar.extui v547
  let c0_i32_331 : BitVec 32 := 0#32
  let v549 : BitVec 1 := Scalar.cmpi .ne v548 c0_i32_331
  v549

def k0_off189 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev83 : Nat :=
  let c0_i32_902 : BitVec 32 := 0#32
  let c17_i32_900 : BitVec 32 := 17#32
  let c1_i32_901 : BitVec 32 := 1#32
  let v1396 : BitVec 32 := Scalar.muli c17_i32_900 c1_i32_901
  let v1397 : BitVec 32 := Scalar.addi c0_i32_902 v1396
  v1397.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_332 : BitVec 32 := 18#32
  let v550 : BitVec 1 := Scalar.cmpi .ne v2 c18_i32_332
  let v551 : BitVec 32 := Scalar.extui v550
  let c0_i32_333 : BitVec 32 := 0#32
  let v552 : BitVec 1 := Scalar.cmpi .ne v551 c0_i32_333
  v552

def k0_off191 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev84 : Nat :=
  let c0_i32_902 : BitVec 32 := 0#32
  let c18_i32_900 : BitVec 32 := 18#32
  let c1_i32_901 : BitVec 32 := 1#32
  let v1396 : BitVec 32 := Scalar.muli c18_i32_900 c1_i32_901
  let v1397 : BitVec 32 := Scalar.addi c0_i32_902 v1396
  v1397.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_334 : BitVec 32 := 19#32
  let v553 : BitVec 1 := Scalar.cmpi .ne v2 c19_i32_334
  let v554 : BitVec 32 := Scalar.extui v553
  let c0_i32_335 : BitVec 32 := 0#32
  let v555 : BitVec 1 := Scalar.cmpi .ne v554 c0_i32_335
  v555

def k0_off193 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev85 : Nat :=
  let c0_i32_902 : BitVec 32 := 0#32
  let c19_i32_900 : BitVec 32 := 19#32
  let c1_i32_901 : BitVec 32 := 1#32
  let v1396 : BitVec 32 := Scalar.muli c19_i32_900 c1_i32_901
  let v1397 : BitVec 32 := Scalar.addi c0_i32_902 v1396
  v1397.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_336 : BitVec 32 := 20#32
  let v556 : BitVec 1 := Scalar.cmpi .ne v2 c20_i32_336
  let v557 : BitVec 32 := Scalar.extui v556
  let c0_i32_337 : BitVec 32 := 0#32
  let v558 : BitVec 1 := Scalar.cmpi .ne v557 c0_i32_337
  v558

def k0_off195 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off196 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev86 : Nat :=
  let c0_i32_902 : BitVec 32 := 0#32
  let c20_i32_900 : BitVec 32 := 20#32
  let c1_i32_901 : BitVec 32 := 1#32
  let v1396 : BitVec 32 := Scalar.muli c20_i32_900 c1_i32_901
  let v1397 : BitVec 32 := Scalar.addi c0_i32_902 v1396
  v1397.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_338 : BitVec 32 := 21#32
  let v559 : BitVec 1 := Scalar.cmpi .ne v2 c21_i32_338
  let v560 : BitVec 32 := Scalar.extui v559
  let c0_i32_339 : BitVec 32 := 0#32
  let v561 : BitVec 1 := Scalar.cmpi .ne v560 c0_i32_339
  v561

def k0_off197 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev87 : Nat :=
  let c0_i32_902 : BitVec 32 := 0#32
  let c21_i32_900 : BitVec 32 := 21#32
  let c1_i32_901 : BitVec 32 := 1#32
  let v1396 : BitVec 32 := Scalar.muli c21_i32_900 c1_i32_901
  let v1397 : BitVec 32 := Scalar.addi c0_i32_902 v1396
  v1397.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_340 : BitVec 32 := 22#32
  let v562 : BitVec 1 := Scalar.cmpi .ne v2 c22_i32_340
  let v563 : BitVec 32 := Scalar.extui v562
  let c0_i32_341 : BitVec 32 := 0#32
  let v564 : BitVec 1 := Scalar.cmpi .ne v563 c0_i32_341
  v564

def k0_off199 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off200 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev88 : Nat :=
  let c0_i32_902 : BitVec 32 := 0#32
  let c22_i32_900 : BitVec 32 := 22#32
  let c1_i32_901 : BitVec 32 := 1#32
  let v1396 : BitVec 32 := Scalar.muli c22_i32_900 c1_i32_901
  let v1397 : BitVec 32 := Scalar.addi c0_i32_902 v1396
  v1397.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_342 : BitVec 32 := 23#32
  let v565 : BitVec 1 := Scalar.cmpi .ne v2 c23_i32_342
  let v566 : BitVec 32 := Scalar.extui v565
  let c0_i32_343 : BitVec 32 := 0#32
  let v567 : BitVec 1 := Scalar.cmpi .ne v566 c0_i32_343
  v567

def k0_off201 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off202 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev89 : Nat :=
  let c0_i32_902 : BitVec 32 := 0#32
  let c23_i32_900 : BitVec 32 := 23#32
  let c1_i32_901 : BitVec 32 := 1#32
  let v1396 : BitVec 32 := Scalar.muli c23_i32_900 c1_i32_901
  let v1397 : BitVec 32 := Scalar.addi c0_i32_902 v1396
  v1397.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_344 : BitVec 32 := 24#32
  let v568 : BitVec 1 := Scalar.cmpi .ne v2 c24_i32_344
  let v569 : BitVec 32 := Scalar.extui v568
  let c0_i32_345 : BitVec 32 := 0#32
  let v570 : BitVec 1 := Scalar.cmpi .ne v569 c0_i32_345
  v570

def k0_off203 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_346 : BitVec 32 := 25#32
  let v571 : BitVec 1 := Scalar.cmpi .ne v2 c25_i32_346
  let v572 : BitVec 32 := Scalar.extui v571
  let c0_i32_347 : BitVec 32 := 0#32
  let v573 : BitVec 1 := Scalar.cmpi .ne v572 c0_i32_347
  v573

def k0_off204 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_348 : BitVec 32 := 26#32
  let v574 : BitVec 1 := Scalar.cmpi .ne v2 c26_i32_348
  let v575 : BitVec 32 := Scalar.extui v574
  let c0_i32_349 : BitVec 32 := 0#32
  let v576 : BitVec 1 := Scalar.cmpi .ne v575 c0_i32_349
  v576

def k0_off205 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_350 : BitVec 32 := 27#32
  let v577 : BitVec 1 := Scalar.cmpi .ne v2 c27_i32_350
  let v578 : BitVec 32 := Scalar.extui v577
  let c0_i32_351 : BitVec 32 := 0#32
  let v579 : BitVec 1 := Scalar.cmpi .ne v578 c0_i32_351
  v579

def k0_off206 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_352 : BitVec 32 := 28#32
  let v580 : BitVec 1 := Scalar.cmpi .ne v2 c28_i32_352
  let v581 : BitVec 32 := Scalar.extui v580
  let c0_i32_353 : BitVec 32 := 0#32
  let v582 : BitVec 1 := Scalar.cmpi .ne v581 c0_i32_353
  v582

def k0_off207 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_354 : BitVec 32 := 29#32
  let v583 : BitVec 1 := Scalar.cmpi .ne v2 c29_i32_354
  let v584 : BitVec 32 := Scalar.extui v583
  let c0_i32_355 : BitVec 32 := 0#32
  let v585 : BitVec 1 := Scalar.cmpi .ne v584 c0_i32_355
  v585

def k0_off208 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_356 : BitVec 32 := 30#32
  let v586 : BitVec 1 := Scalar.cmpi .ne v2 c30_i32_356
  let v587 : BitVec 32 := Scalar.extui v586
  let c0_i32_357 : BitVec 32 := 0#32
  let v588 : BitVec 1 := Scalar.cmpi .ne v587 c0_i32_357
  v588

def k0_off209 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_358 : BitVec 32 := 31#32
  let v589 : BitVec 1 := Scalar.cmpi .ne v2 c31_i32_358
  let v590 : BitVec 32 := Scalar.extui v589
  let c0_i32_359 : BitVec 32 := 0#32
  let v591 : BitVec 1 := Scalar.cmpi .ne v590 c0_i32_359
  v591

def k0_off210 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_371 : BitVec 32 := 24#32
  let v608 : BitVec 1 := Scalar.cmpi .ne v2 c24_i32_371
  let v609 : BitVec 32 := Scalar.extui v608
  let c0_i32_372 : BitVec 32 := 0#32
  let v610 : BitVec 1 := Scalar.cmpi .ne v609 c0_i32_372
  v610

def k0_off211 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off212 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev90 : Nat :=
  let c0_i32_902 : BitVec 32 := 0#32
  let c24_i32_900 : BitVec 32 := 24#32
  let c1_i32_901 : BitVec 32 := 1#32
  let v1396 : BitVec 32 := Scalar.muli c24_i32_900 c1_i32_901
  let v1397 : BitVec 32 := Scalar.addi c0_i32_902 v1396
  v1397.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_373 : BitVec 32 := 25#32
  let v611 : BitVec 1 := Scalar.cmpi .ne v2 c25_i32_373
  let v612 : BitVec 32 := Scalar.extui v611
  let c0_i32_374 : BitVec 32 := 0#32
  let v613 : BitVec 1 := Scalar.cmpi .ne v612 c0_i32_374
  v613

def k0_off213 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off214 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev91 : Nat :=
  let c0_i32_902 : BitVec 32 := 0#32
  let c25_i32_900 : BitVec 32 := 25#32
  let c1_i32_901 : BitVec 32 := 1#32
  let v1396 : BitVec 32 := Scalar.muli c25_i32_900 c1_i32_901
  let v1397 : BitVec 32 := Scalar.addi c0_i32_902 v1396
  v1397.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_375 : BitVec 32 := 26#32
  let v614 : BitVec 1 := Scalar.cmpi .ne v2 c26_i32_375
  let v615 : BitVec 32 := Scalar.extui v614
  let c0_i32_376 : BitVec 32 := 0#32
  let v616 : BitVec 1 := Scalar.cmpi .ne v615 c0_i32_376
  v616

def k0_off215 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev92 : Nat :=
  let c0_i32_902 : BitVec 32 := 0#32
  let c26_i32_900 : BitVec 32 := 26#32
  let c1_i32_901 : BitVec 32 := 1#32
  let v1396 : BitVec 32 := Scalar.muli c26_i32_900 c1_i32_901
  let v1397 : BitVec 32 := Scalar.addi c0_i32_902 v1396
  v1397.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_377 : BitVec 32 := 27#32
  let v617 : BitVec 1 := Scalar.cmpi .ne v2 c27_i32_377
  let v618 : BitVec 32 := Scalar.extui v617
  let c0_i32_378 : BitVec 32 := 0#32
  let v619 : BitVec 1 := Scalar.cmpi .ne v618 c0_i32_378
  v619

def k0_off217 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off218 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev93 : Nat :=
  let c0_i32_902 : BitVec 32 := 0#32
  let c27_i32_900 : BitVec 32 := 27#32
  let c1_i32_901 : BitVec 32 := 1#32
  let v1396 : BitVec 32 := Scalar.muli c27_i32_900 c1_i32_901
  let v1397 : BitVec 32 := Scalar.addi c0_i32_902 v1396
  v1397.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_379 : BitVec 32 := 28#32
  let v620 : BitVec 1 := Scalar.cmpi .ne v2 c28_i32_379
  let v621 : BitVec 32 := Scalar.extui v620
  let c0_i32_380 : BitVec 32 := 0#32
  let v622 : BitVec 1 := Scalar.cmpi .ne v621 c0_i32_380
  v622

def k0_off219 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off220 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev94 : Nat :=
  let c0_i32_902 : BitVec 32 := 0#32
  let c28_i32_900 : BitVec 32 := 28#32
  let c1_i32_901 : BitVec 32 := 1#32
  let v1396 : BitVec 32 := Scalar.muli c28_i32_900 c1_i32_901
  let v1397 : BitVec 32 := Scalar.addi c0_i32_902 v1396
  v1397.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_381 : BitVec 32 := 29#32
  let v623 : BitVec 1 := Scalar.cmpi .ne v2 c29_i32_381
  let v624 : BitVec 32 := Scalar.extui v623
  let c0_i32_382 : BitVec 32 := 0#32
  let v625 : BitVec 1 := Scalar.cmpi .ne v624 c0_i32_382
  v625

def k0_off221 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev95 : Nat :=
  let c0_i32_902 : BitVec 32 := 0#32
  let c29_i32_900 : BitVec 32 := 29#32
  let c1_i32_901 : BitVec 32 := 1#32
  let v1396 : BitVec 32 := Scalar.muli c29_i32_900 c1_i32_901
  let v1397 : BitVec 32 := Scalar.addi c0_i32_902 v1396
  v1397.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_383 : BitVec 32 := 30#32
  let v626 : BitVec 1 := Scalar.cmpi .ne v2 c30_i32_383
  let v627 : BitVec 32 := Scalar.extui v626
  let c0_i32_384 : BitVec 32 := 0#32
  let v628 : BitVec 1 := Scalar.cmpi .ne v627 c0_i32_384
  v628

def k0_off223 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off224 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev96 : Nat :=
  let c0_i32_902 : BitVec 32 := 0#32
  let c30_i32_900 : BitVec 32 := 30#32
  let c1_i32_901 : BitVec 32 := 1#32
  let v1396 : BitVec 32 := Scalar.muli c30_i32_900 c1_i32_901
  let v1397 : BitVec 32 := Scalar.addi c0_i32_902 v1396
  v1397.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_385 : BitVec 32 := 31#32
  let v629 : BitVec 1 := Scalar.cmpi .ne v2 c31_i32_385
  let v630 : BitVec 32 := Scalar.extui v629
  let c0_i32_386 : BitVec 32 := 0#32
  let v631 : BitVec 1 := Scalar.cmpi .ne v630 c0_i32_386
  v631

def k0_off225 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off226 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev97 : Nat :=
  let c0_i32_902 : BitVec 32 := 0#32
  let c31_i32_900 : BitVec 32 := 31#32
  let c1_i32_901 : BitVec 32 := 1#32
  let v1396 : BitVec 32 := Scalar.muli c31_i32_900 c1_i32_901
  let v1397 : BitVec 32 := Scalar.addi c0_i32_902 v1396
  v1397.toNat
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_461 : BitVec 32 := 0#32
  let v743 : BitVec 1 := Scalar.cmpi .ne v2 c0_i32_461
  let v744 : BitVec 32 := Scalar.extui v743
  let c0_i32_462 : BitVec 32 := 0#32
  let v745 : BitVec 1 := Scalar.cmpi .ne v744 c0_i32_462
  v745

def k0_off227 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off228 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev98 : Nat :=
  let c0_i32_904 : BitVec 32 := 0#32
  let c0_i32_902 : BitVec 32 := 0#32
  let c1_i32_903 : BitVec 32 := 1#32
  let v1398 : BitVec 32 := Scalar.muli c0_i32_902 c1_i32_903
  let v1399 : BitVec 32 := Scalar.addi c0_i32_904 v1398
  v1399.toNat
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_463 : BitVec 32 := 1#32
  let v746 : BitVec 1 := Scalar.cmpi .ne v2 c1_i32_463
  let v747 : BitVec 32 := Scalar.extui v746
  let c0_i32_464 : BitVec 32 := 0#32
  let v748 : BitVec 1 := Scalar.cmpi .ne v747 c0_i32_464
  v748

def k0_off229 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev99 : Nat :=
  let c0_i32_904 : BitVec 32 := 0#32
  let c1_i32_902 : BitVec 32 := 1#32
  let c1_i32_903 : BitVec 32 := 1#32
  let v1398 : BitVec 32 := Scalar.muli c1_i32_902 c1_i32_903
  let v1399 : BitVec 32 := Scalar.addi c0_i32_904 v1398
  v1399.toNat
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_465 : BitVec 32 := 2#32
  let v749 : BitVec 1 := Scalar.cmpi .ne v2 c2_i32_465
  let v750 : BitVec 32 := Scalar.extui v749
  let c0_i32_466 : BitVec 32 := 0#32
  let v751 : BitVec 1 := Scalar.cmpi .ne v750 c0_i32_466
  v751

def k0_off231 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off232 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev100 : Nat :=
  let c0_i32_904 : BitVec 32 := 0#32
  let c2_i32_902 : BitVec 32 := 2#32
  let c1_i32_903 : BitVec 32 := 1#32
  let v1398 : BitVec 32 := Scalar.muli c2_i32_902 c1_i32_903
  let v1399 : BitVec 32 := Scalar.addi c0_i32_904 v1398
  v1399.toNat
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_467 : BitVec 32 := 3#32
  let v752 : BitVec 1 := Scalar.cmpi .ne v2 c3_i32_467
  let v753 : BitVec 32 := Scalar.extui v752
  let c0_i32_468 : BitVec 32 := 0#32
  let v754 : BitVec 1 := Scalar.cmpi .ne v753 c0_i32_468
  v754

def k0_off233 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off234 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev101 : Nat :=
  let c0_i32_904 : BitVec 32 := 0#32
  let c3_i32_902 : BitVec 32 := 3#32
  let c1_i32_903 : BitVec 32 := 1#32
  let v1398 : BitVec 32 := Scalar.muli c3_i32_902 c1_i32_903
  let v1399 : BitVec 32 := Scalar.addi c0_i32_904 v1398
  v1399.toNat
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_469 : BitVec 32 := 4#32
  let v755 : BitVec 1 := Scalar.cmpi .ne v2 c4_i32_469
  let v756 : BitVec 32 := Scalar.extui v755
  let c0_i32_470 : BitVec 32 := 0#32
  let v757 : BitVec 1 := Scalar.cmpi .ne v756 c0_i32_470
  v757

def k0_off235 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off236 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev102 : Nat :=
  let c0_i32_904 : BitVec 32 := 0#32
  let c4_i32_902 : BitVec 32 := 4#32
  let c1_i32_903 : BitVec 32 := 1#32
  let v1398 : BitVec 32 := Scalar.muli c4_i32_902 c1_i32_903
  let v1399 : BitVec 32 := Scalar.addi c0_i32_904 v1398
  v1399.toNat
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_471 : BitVec 32 := 5#32
  let v758 : BitVec 1 := Scalar.cmpi .ne v2 c5_i32_471
  let v759 : BitVec 32 := Scalar.extui v758
  let c0_i32_472 : BitVec 32 := 0#32
  let v760 : BitVec 1 := Scalar.cmpi .ne v759 c0_i32_472
  v760

def k0_off237 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off238 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev103 : Nat :=
  let c0_i32_904 : BitVec 32 := 0#32
  let c5_i32_902 : BitVec 32 := 5#32
  let c1_i32_903 : BitVec 32 := 1#32
  let v1398 : BitVec 32 := Scalar.muli c5_i32_902 c1_i32_903
  let v1399 : BitVec 32 := Scalar.addi c0_i32_904 v1398
  v1399.toNat
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_473 : BitVec 32 := 6#32
  let v761 : BitVec 1 := Scalar.cmpi .ne v2 c6_i32_473
  let v762 : BitVec 32 := Scalar.extui v761
  let c0_i32_474 : BitVec 32 := 0#32
  let v763 : BitVec 1 := Scalar.cmpi .ne v762 c0_i32_474
  v763

def k0_off239 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off240 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev104 : Nat :=
  let c0_i32_904 : BitVec 32 := 0#32
  let c6_i32_902 : BitVec 32 := 6#32
  let c1_i32_903 : BitVec 32 := 1#32
  let v1398 : BitVec 32 := Scalar.muli c6_i32_902 c1_i32_903
  let v1399 : BitVec 32 := Scalar.addi c0_i32_904 v1398
  v1399.toNat
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_475 : BitVec 32 := 7#32
  let v764 : BitVec 1 := Scalar.cmpi .ne v2 c7_i32_475
  let v765 : BitVec 32 := Scalar.extui v764
  let c0_i32_476 : BitVec 32 := 0#32
  let v766 : BitVec 1 := Scalar.cmpi .ne v765 c0_i32_476
  v766

def k0_off241 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off242 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev105 : Nat :=
  let c0_i32_904 : BitVec 32 := 0#32
  let c7_i32_902 : BitVec 32 := 7#32
  let c1_i32_903 : BitVec 32 := 1#32
  let v1398 : BitVec 32 := Scalar.muli c7_i32_902 c1_i32_903
  let v1399 : BitVec 32 := Scalar.addi c0_i32_904 v1398
  v1399.toNat
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_477 : BitVec 32 := 8#32
  let v767 : BitVec 1 := Scalar.cmpi .ne v2 c8_i32_477
  let v768 : BitVec 32 := Scalar.extui v767
  let c0_i32_478 : BitVec 32 := 0#32
  let v769 : BitVec 1 := Scalar.cmpi .ne v768 c0_i32_478
  v769

def k0_off243 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off244 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev106 : Nat :=
  let c0_i32_904 : BitVec 32 := 0#32
  let c8_i32_902 : BitVec 32 := 8#32
  let c1_i32_903 : BitVec 32 := 1#32
  let v1398 : BitVec 32 := Scalar.muli c8_i32_902 c1_i32_903
  let v1399 : BitVec 32 := Scalar.addi c0_i32_904 v1398
  v1399.toNat
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_479 : BitVec 32 := 9#32
  let v770 : BitVec 1 := Scalar.cmpi .ne v2 c9_i32_479
  let v771 : BitVec 32 := Scalar.extui v770
  let c0_i32_480 : BitVec 32 := 0#32
  let v772 : BitVec 1 := Scalar.cmpi .ne v771 c0_i32_480
  v772

def k0_off245 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off246 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev107 : Nat :=
  let c0_i32_904 : BitVec 32 := 0#32
  let c9_i32_902 : BitVec 32 := 9#32
  let c1_i32_903 : BitVec 32 := 1#32
  let v1398 : BitVec 32 := Scalar.muli c9_i32_902 c1_i32_903
  let v1399 : BitVec 32 := Scalar.addi c0_i32_904 v1398
  v1399.toNat
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_481 : BitVec 32 := 10#32
  let v773 : BitVec 1 := Scalar.cmpi .ne v2 c10_i32_481
  let v774 : BitVec 32 := Scalar.extui v773
  let c0_i32_482 : BitVec 32 := 0#32
  let v775 : BitVec 1 := Scalar.cmpi .ne v774 c0_i32_482
  v775

def k0_off247 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off248 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev108 : Nat :=
  let c0_i32_904 : BitVec 32 := 0#32
  let c10_i32_902 : BitVec 32 := 10#32
  let c1_i32_903 : BitVec 32 := 1#32
  let v1398 : BitVec 32 := Scalar.muli c10_i32_902 c1_i32_903
  let v1399 : BitVec 32 := Scalar.addi c0_i32_904 v1398
  v1399.toNat
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_483 : BitVec 32 := 11#32
  let v776 : BitVec 1 := Scalar.cmpi .ne v2 c11_i32_483
  let v777 : BitVec 32 := Scalar.extui v776
  let c0_i32_484 : BitVec 32 := 0#32
  let v778 : BitVec 1 := Scalar.cmpi .ne v777 c0_i32_484
  v778

def k0_off249 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off250 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev109 : Nat :=
  let c0_i32_904 : BitVec 32 := 0#32
  let c11_i32_902 : BitVec 32 := 11#32
  let c1_i32_903 : BitVec 32 := 1#32
  let v1398 : BitVec 32 := Scalar.muli c11_i32_902 c1_i32_903
  let v1399 : BitVec 32 := Scalar.addi c0_i32_904 v1398
  v1399.toNat
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_485 : BitVec 32 := 12#32
  let v779 : BitVec 1 := Scalar.cmpi .ne v2 c12_i32_485
  let v780 : BitVec 32 := Scalar.extui v779
  let c0_i32_486 : BitVec 32 := 0#32
  let v781 : BitVec 1 := Scalar.cmpi .ne v780 c0_i32_486
  v781

def k0_off251 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off252 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev110 : Nat :=
  let c0_i32_904 : BitVec 32 := 0#32
  let c12_i32_902 : BitVec 32 := 12#32
  let c1_i32_903 : BitVec 32 := 1#32
  let v1398 : BitVec 32 := Scalar.muli c12_i32_902 c1_i32_903
  let v1399 : BitVec 32 := Scalar.addi c0_i32_904 v1398
  v1399.toNat
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_487 : BitVec 32 := 13#32
  let v782 : BitVec 1 := Scalar.cmpi .ne v2 c13_i32_487
  let v783 : BitVec 32 := Scalar.extui v782
  let c0_i32_488 : BitVec 32 := 0#32
  let v784 : BitVec 1 := Scalar.cmpi .ne v783 c0_i32_488
  v784

def k0_off253 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off254 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev111 : Nat :=
  let c0_i32_904 : BitVec 32 := 0#32
  let c13_i32_902 : BitVec 32 := 13#32
  let c1_i32_903 : BitVec 32 := 1#32
  let v1398 : BitVec 32 := Scalar.muli c13_i32_902 c1_i32_903
  let v1399 : BitVec 32 := Scalar.addi c0_i32_904 v1398
  v1399.toNat
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_489 : BitVec 32 := 14#32
  let v785 : BitVec 1 := Scalar.cmpi .ne v2 c14_i32_489
  let v786 : BitVec 32 := Scalar.extui v785
  let c0_i32_490 : BitVec 32 := 0#32
  let v787 : BitVec 1 := Scalar.cmpi .ne v786 c0_i32_490
  v787

def k0_off255 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off256 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev112 : Nat :=
  let c0_i32_904 : BitVec 32 := 0#32
  let c14_i32_902 : BitVec 32 := 14#32
  let c1_i32_903 : BitVec 32 := 1#32
  let v1398 : BitVec 32 := Scalar.muli c14_i32_902 c1_i32_903
  let v1399 : BitVec 32 := Scalar.addi c0_i32_904 v1398
  v1399.toNat
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_491 : BitVec 32 := 15#32
  let v788 : BitVec 1 := Scalar.cmpi .ne v2 c15_i32_491
  let v789 : BitVec 32 := Scalar.extui v788
  let c0_i32_492 : BitVec 32 := 0#32
  let v790 : BitVec 1 := Scalar.cmpi .ne v789 c0_i32_492
  v790

def k0_off257 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off258 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev113 : Nat :=
  let c0_i32_904 : BitVec 32 := 0#32
  let c15_i32_902 : BitVec 32 := 15#32
  let c1_i32_903 : BitVec 32 := 1#32
  let v1398 : BitVec 32 := Scalar.muli c15_i32_902 c1_i32_903
  let v1399 : BitVec 32 := Scalar.addi c0_i32_904 v1398
  v1399.toNat
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_493 : BitVec 32 := 16#32
  let v791 : BitVec 1 := Scalar.cmpi .ne v2 c16_i32_493
  let v792 : BitVec 32 := Scalar.extui v791
  let c0_i32_494 : BitVec 32 := 0#32
  let v793 : BitVec 1 := Scalar.cmpi .ne v792 c0_i32_494
  v793

def k0_off259 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off260 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev114 : Nat :=
  let c0_i32_904 : BitVec 32 := 0#32
  let c16_i32_902 : BitVec 32 := 16#32
  let c1_i32_903 : BitVec 32 := 1#32
  let v1398 : BitVec 32 := Scalar.muli c16_i32_902 c1_i32_903
  let v1399 : BitVec 32 := Scalar.addi c0_i32_904 v1398
  v1399.toNat
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_495 : BitVec 32 := 17#32
  let v794 : BitVec 1 := Scalar.cmpi .ne v2 c17_i32_495
  let v795 : BitVec 32 := Scalar.extui v794
  let c0_i32_496 : BitVec 32 := 0#32
  let v796 : BitVec 1 := Scalar.cmpi .ne v795 c0_i32_496
  v796

def k0_off261 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off262 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev115 : Nat :=
  let c0_i32_904 : BitVec 32 := 0#32
  let c17_i32_902 : BitVec 32 := 17#32
  let c1_i32_903 : BitVec 32 := 1#32
  let v1398 : BitVec 32 := Scalar.muli c17_i32_902 c1_i32_903
  let v1399 : BitVec 32 := Scalar.addi c0_i32_904 v1398
  v1399.toNat
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_497 : BitVec 32 := 18#32
  let v797 : BitVec 1 := Scalar.cmpi .ne v2 c18_i32_497
  let v798 : BitVec 32 := Scalar.extui v797
  let c0_i32_498 : BitVec 32 := 0#32
  let v799 : BitVec 1 := Scalar.cmpi .ne v798 c0_i32_498
  v799

def k0_off263 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off264 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev116 : Nat :=
  let c0_i32_904 : BitVec 32 := 0#32
  let c18_i32_902 : BitVec 32 := 18#32
  let c1_i32_903 : BitVec 32 := 1#32
  let v1398 : BitVec 32 := Scalar.muli c18_i32_902 c1_i32_903
  let v1399 : BitVec 32 := Scalar.addi c0_i32_904 v1398
  v1399.toNat
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_499 : BitVec 32 := 19#32
  let v800 : BitVec 1 := Scalar.cmpi .ne v2 c19_i32_499
  let v801 : BitVec 32 := Scalar.extui v800
  let c0_i32_500 : BitVec 32 := 0#32
  let v802 : BitVec 1 := Scalar.cmpi .ne v801 c0_i32_500
  v802

def k0_off265 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off266 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev117 : Nat :=
  let c0_i32_904 : BitVec 32 := 0#32
  let c19_i32_902 : BitVec 32 := 19#32
  let c1_i32_903 : BitVec 32 := 1#32
  let v1398 : BitVec 32 := Scalar.muli c19_i32_902 c1_i32_903
  let v1399 : BitVec 32 := Scalar.addi c0_i32_904 v1398
  v1399.toNat
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_501 : BitVec 32 := 20#32
  let v803 : BitVec 1 := Scalar.cmpi .ne v2 c20_i32_501
  let v804 : BitVec 32 := Scalar.extui v803
  let c0_i32_502 : BitVec 32 := 0#32
  let v805 : BitVec 1 := Scalar.cmpi .ne v804 c0_i32_502
  v805

def k0_off267 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off268 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev118 : Nat :=
  let c0_i32_904 : BitVec 32 := 0#32
  let c20_i32_902 : BitVec 32 := 20#32
  let c1_i32_903 : BitVec 32 := 1#32
  let v1398 : BitVec 32 := Scalar.muli c20_i32_902 c1_i32_903
  let v1399 : BitVec 32 := Scalar.addi c0_i32_904 v1398
  v1399.toNat
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_503 : BitVec 32 := 21#32
  let v806 : BitVec 1 := Scalar.cmpi .ne v2 c21_i32_503
  let v807 : BitVec 32 := Scalar.extui v806
  let c0_i32_504 : BitVec 32 := 0#32
  let v808 : BitVec 1 := Scalar.cmpi .ne v807 c0_i32_504
  v808

def k0_off269 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off270 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev119 : Nat :=
  let c0_i32_904 : BitVec 32 := 0#32
  let c21_i32_902 : BitVec 32 := 21#32
  let c1_i32_903 : BitVec 32 := 1#32
  let v1398 : BitVec 32 := Scalar.muli c21_i32_902 c1_i32_903
  let v1399 : BitVec 32 := Scalar.addi c0_i32_904 v1398
  v1399.toNat
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_505 : BitVec 32 := 22#32
  let v809 : BitVec 1 := Scalar.cmpi .ne v2 c22_i32_505
  let v810 : BitVec 32 := Scalar.extui v809
  let c0_i32_506 : BitVec 32 := 0#32
  let v811 : BitVec 1 := Scalar.cmpi .ne v810 c0_i32_506
  v811

def k0_off271 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off272 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev120 : Nat :=
  let c0_i32_904 : BitVec 32 := 0#32
  let c22_i32_902 : BitVec 32 := 22#32
  let c1_i32_903 : BitVec 32 := 1#32
  let v1398 : BitVec 32 := Scalar.muli c22_i32_902 c1_i32_903
  let v1399 : BitVec 32 := Scalar.addi c0_i32_904 v1398
  v1399.toNat
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_507 : BitVec 32 := 23#32
  let v812 : BitVec 1 := Scalar.cmpi .ne v2 c23_i32_507
  let v813 : BitVec 32 := Scalar.extui v812
  let c0_i32_508 : BitVec 32 := 0#32
  let v814 : BitVec 1 := Scalar.cmpi .ne v813 c0_i32_508
  v814

def k0_off273 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off274 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev121 : Nat :=
  let c0_i32_904 : BitVec 32 := 0#32
  let c23_i32_902 : BitVec 32 := 23#32
  let c1_i32_903 : BitVec 32 := 1#32
  let v1398 : BitVec 32 := Scalar.muli c23_i32_902 c1_i32_903
  let v1399 : BitVec 32 := Scalar.addi c0_i32_904 v1398
  v1399.toNat
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_509 : BitVec 32 := 24#32
  let v815 : BitVec 1 := Scalar.cmpi .ne v2 c24_i32_509
  let v816 : BitVec 32 := Scalar.extui v815
  let c0_i32_510 : BitVec 32 := 0#32
  let v817 : BitVec 1 := Scalar.cmpi .ne v816 c0_i32_510
  v817

def k0_off275 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off276 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev122 : Nat :=
  let c0_i32_904 : BitVec 32 := 0#32
  let c24_i32_902 : BitVec 32 := 24#32
  let c1_i32_903 : BitVec 32 := 1#32
  let v1398 : BitVec 32 := Scalar.muli c24_i32_902 c1_i32_903
  let v1399 : BitVec 32 := Scalar.addi c0_i32_904 v1398
  v1399.toNat
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_511 : BitVec 32 := 25#32
  let v818 : BitVec 1 := Scalar.cmpi .ne v2 c25_i32_511
  let v819 : BitVec 32 := Scalar.extui v818
  let c0_i32_512 : BitVec 32 := 0#32
  let v820 : BitVec 1 := Scalar.cmpi .ne v819 c0_i32_512
  v820

def k0_off277 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off278 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev123 : Nat :=
  let c0_i32_904 : BitVec 32 := 0#32
  let c25_i32_902 : BitVec 32 := 25#32
  let c1_i32_903 : BitVec 32 := 1#32
  let v1398 : BitVec 32 := Scalar.muli c25_i32_902 c1_i32_903
  let v1399 : BitVec 32 := Scalar.addi c0_i32_904 v1398
  v1399.toNat
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_513 : BitVec 32 := 26#32
  let v821 : BitVec 1 := Scalar.cmpi .ne v2 c26_i32_513
  let v822 : BitVec 32 := Scalar.extui v821
  let c0_i32_514 : BitVec 32 := 0#32
  let v823 : BitVec 1 := Scalar.cmpi .ne v822 c0_i32_514
  v823

def k0_off279 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off280 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev124 : Nat :=
  let c0_i32_904 : BitVec 32 := 0#32
  let c26_i32_902 : BitVec 32 := 26#32
  let c1_i32_903 : BitVec 32 := 1#32
  let v1398 : BitVec 32 := Scalar.muli c26_i32_902 c1_i32_903
  let v1399 : BitVec 32 := Scalar.addi c0_i32_904 v1398
  v1399.toNat
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_515 : BitVec 32 := 27#32
  let v824 : BitVec 1 := Scalar.cmpi .ne v2 c27_i32_515
  let v825 : BitVec 32 := Scalar.extui v824
  let c0_i32_516 : BitVec 32 := 0#32
  let v826 : BitVec 1 := Scalar.cmpi .ne v825 c0_i32_516
  v826

def k0_off281 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off282 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev125 : Nat :=
  let c0_i32_904 : BitVec 32 := 0#32
  let c27_i32_902 : BitVec 32 := 27#32
  let c1_i32_903 : BitVec 32 := 1#32
  let v1398 : BitVec 32 := Scalar.muli c27_i32_902 c1_i32_903
  let v1399 : BitVec 32 := Scalar.addi c0_i32_904 v1398
  v1399.toNat
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_517 : BitVec 32 := 28#32
  let v827 : BitVec 1 := Scalar.cmpi .ne v2 c28_i32_517
  let v828 : BitVec 32 := Scalar.extui v827
  let c0_i32_518 : BitVec 32 := 0#32
  let v829 : BitVec 1 := Scalar.cmpi .ne v828 c0_i32_518
  v829

def k0_off283 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off284 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev126 : Nat :=
  let c0_i32_904 : BitVec 32 := 0#32
  let c28_i32_902 : BitVec 32 := 28#32
  let c1_i32_903 : BitVec 32 := 1#32
  let v1398 : BitVec 32 := Scalar.muli c28_i32_902 c1_i32_903
  let v1399 : BitVec 32 := Scalar.addi c0_i32_904 v1398
  v1399.toNat
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_519 : BitVec 32 := 29#32
  let v830 : BitVec 1 := Scalar.cmpi .ne v2 c29_i32_519
  let v831 : BitVec 32 := Scalar.extui v830
  let c0_i32_520 : BitVec 32 := 0#32
  let v832 : BitVec 1 := Scalar.cmpi .ne v831 c0_i32_520
  v832

def k0_off285 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off286 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev127 : Nat :=
  let c0_i32_904 : BitVec 32 := 0#32
  let c29_i32_902 : BitVec 32 := 29#32
  let c1_i32_903 : BitVec 32 := 1#32
  let v1398 : BitVec 32 := Scalar.muli c29_i32_902 c1_i32_903
  let v1399 : BitVec 32 := Scalar.addi c0_i32_904 v1398
  v1399.toNat
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_521 : BitVec 32 := 30#32
  let v833 : BitVec 1 := Scalar.cmpi .ne v2 c30_i32_521
  let v834 : BitVec 32 := Scalar.extui v833
  let c0_i32_522 : BitVec 32 := 0#32
  let v835 : BitVec 1 := Scalar.cmpi .ne v834 c0_i32_522
  v835

def k0_off287 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off288 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev128 : Nat :=
  let c0_i32_904 : BitVec 32 := 0#32
  let c30_i32_902 : BitVec 32 := 30#32
  let c1_i32_903 : BitVec 32 := 1#32
  let v1398 : BitVec 32 := Scalar.muli c30_i32_902 c1_i32_903
  let v1399 : BitVec 32 := Scalar.addi c0_i32_904 v1398
  v1399.toNat
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_523 : BitVec 32 := 31#32
  let v836 : BitVec 1 := Scalar.cmpi .ne v2 c31_i32_523
  let v837 : BitVec 32 := Scalar.extui v836
  let c0_i32_524 : BitVec 32 := 0#32
  let v838 : BitVec 1 := Scalar.cmpi .ne v837 c0_i32_524
  v838

def k0_off289 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off290 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev129 : Nat :=
  let c0_i32_904 : BitVec 32 := 0#32
  let c31_i32_902 : BitVec 32 := 31#32
  let c1_i32_903 : BitVec 32 := 1#32
  let v1398 : BitVec 32 := Scalar.muli c31_i32_902 c1_i32_903
  let v1399 : BitVec 32 := Scalar.addi c0_i32_904 v1398
  v1399.toNat
def k0_cond225 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_525 : BitVec 32 := 0#32
  let v839 : BitVec 1 := Scalar.cmpi .ne v2 c0_i32_525
  let v840 : BitVec 32 := Scalar.extui v839
  let c0_i32_526 : BitVec 32 := 0#32
  let v841 : BitVec 1 := Scalar.cmpi .ne v840 c0_i32_526
  v841

def k0_off291 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond226 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_527 : BitVec 32 := 1#32
  let v842 : BitVec 1 := Scalar.cmpi .ne v2 c1_i32_527
  let v843 : BitVec 32 := Scalar.extui v842
  let c0_i32_528 : BitVec 32 := 0#32
  let v844 : BitVec 1 := Scalar.cmpi .ne v843 c0_i32_528
  v844

def k0_off292 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond227 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_529 : BitVec 32 := 2#32
  let v845 : BitVec 1 := Scalar.cmpi .ne v2 c2_i32_529
  let v846 : BitVec 32 := Scalar.extui v845
  let c0_i32_530 : BitVec 32 := 0#32
  let v847 : BitVec 1 := Scalar.cmpi .ne v846 c0_i32_530
  v847

def k0_off293 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond228 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_531 : BitVec 32 := 3#32
  let v848 : BitVec 1 := Scalar.cmpi .ne v2 c3_i32_531
  let v849 : BitVec 32 := Scalar.extui v848
  let c0_i32_532 : BitVec 32 := 0#32
  let v850 : BitVec 1 := Scalar.cmpi .ne v849 c0_i32_532
  v850

def k0_off294 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond229 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_533 : BitVec 32 := 4#32
  let v851 : BitVec 1 := Scalar.cmpi .ne v2 c4_i32_533
  let v852 : BitVec 32 := Scalar.extui v851
  let c0_i32_534 : BitVec 32 := 0#32
  let v853 : BitVec 1 := Scalar.cmpi .ne v852 c0_i32_534
  v853

def k0_off295 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond230 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_535 : BitVec 32 := 5#32
  let v854 : BitVec 1 := Scalar.cmpi .ne v2 c5_i32_535
  let v855 : BitVec 32 := Scalar.extui v854
  let c0_i32_536 : BitVec 32 := 0#32
  let v856 : BitVec 1 := Scalar.cmpi .ne v855 c0_i32_536
  v856

def k0_off296 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond231 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_537 : BitVec 32 := 6#32
  let v857 : BitVec 1 := Scalar.cmpi .ne v2 c6_i32_537
  let v858 : BitVec 32 := Scalar.extui v857
  let c0_i32_538 : BitVec 32 := 0#32
  let v859 : BitVec 1 := Scalar.cmpi .ne v858 c0_i32_538
  v859

def k0_off297 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond232 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_539 : BitVec 32 := 7#32
  let v860 : BitVec 1 := Scalar.cmpi .ne v2 c7_i32_539
  let v861 : BitVec 32 := Scalar.extui v860
  let c0_i32_540 : BitVec 32 := 0#32
  let v862 : BitVec 1 := Scalar.cmpi .ne v861 c0_i32_540
  v862

def k0_off298 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond233 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_552 : BitVec 32 := 0#32
  let v879 : BitVec 1 := Scalar.cmpi .ne v2 c0_i32_552
  let v880 : BitVec 32 := Scalar.extui v879
  let c0_i32_553 : BitVec 32 := 0#32
  let v881 : BitVec 1 := Scalar.cmpi .ne v880 c0_i32_553
  v881

def k0_off299 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off300 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev130 : Nat :=
  let c0_i32_902 : BitVec 32 := 0#32
  let c0_i32_900 : BitVec 32 := 0#32
  let c1_i32_901 : BitVec 32 := 1#32
  let v1396 : BitVec 32 := Scalar.muli c0_i32_900 c1_i32_901
  let v1397 : BitVec 32 := Scalar.addi c0_i32_902 v1396
  v1397.toNat
def k0_cond234 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v882 : BitVec 1 := Scalar.cmpi .ne v2 c1_i32_554
  let v883 : BitVec 32 := Scalar.extui v882
  let c0_i32_555 : BitVec 32 := 0#32
  let v884 : BitVec 1 := Scalar.cmpi .ne v883 c0_i32_555
  v884

def k0_off301 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off302 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev131 : Nat :=
  let c0_i32_902 : BitVec 32 := 0#32
  let c1_i32_900 : BitVec 32 := 1#32
  let c1_i32_901 : BitVec 32 := 1#32
  let v1396 : BitVec 32 := Scalar.muli c1_i32_900 c1_i32_901
  let v1397 : BitVec 32 := Scalar.addi c0_i32_902 v1396
  v1397.toNat
def k0_cond235 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_556 : BitVec 32 := 2#32
  let v885 : BitVec 1 := Scalar.cmpi .ne v2 c2_i32_556
  let v886 : BitVec 32 := Scalar.extui v885
  let c0_i32_557 : BitVec 32 := 0#32
  let v887 : BitVec 1 := Scalar.cmpi .ne v886 c0_i32_557
  v887

def k0_off303 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off304 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev132 : Nat :=
  let c0_i32_902 : BitVec 32 := 0#32
  let c2_i32_900 : BitVec 32 := 2#32
  let c1_i32_901 : BitVec 32 := 1#32
  let v1396 : BitVec 32 := Scalar.muli c2_i32_900 c1_i32_901
  let v1397 : BitVec 32 := Scalar.addi c0_i32_902 v1396
  v1397.toNat
def k0_cond236 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_558 : BitVec 32 := 3#32
  let v888 : BitVec 1 := Scalar.cmpi .ne v2 c3_i32_558
  let v889 : BitVec 32 := Scalar.extui v888
  let c0_i32_559 : BitVec 32 := 0#32
  let v890 : BitVec 1 := Scalar.cmpi .ne v889 c0_i32_559
  v890

def k0_off305 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off306 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev133 : Nat :=
  let c0_i32_902 : BitVec 32 := 0#32
  let c3_i32_900 : BitVec 32 := 3#32
  let c1_i32_901 : BitVec 32 := 1#32
  let v1396 : BitVec 32 := Scalar.muli c3_i32_900 c1_i32_901
  let v1397 : BitVec 32 := Scalar.addi c0_i32_902 v1396
  v1397.toNat
def k0_cond237 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_560 : BitVec 32 := 4#32
  let v891 : BitVec 1 := Scalar.cmpi .ne v2 c4_i32_560
  let v892 : BitVec 32 := Scalar.extui v891
  let c0_i32_561 : BitVec 32 := 0#32
  let v893 : BitVec 1 := Scalar.cmpi .ne v892 c0_i32_561
  v893

def k0_off307 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off308 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev134 : Nat :=
  let c0_i32_902 : BitVec 32 := 0#32
  let c4_i32_900 : BitVec 32 := 4#32
  let c1_i32_901 : BitVec 32 := 1#32
  let v1396 : BitVec 32 := Scalar.muli c4_i32_900 c1_i32_901
  let v1397 : BitVec 32 := Scalar.addi c0_i32_902 v1396
  v1397.toNat
def k0_cond238 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_562 : BitVec 32 := 5#32
  let v894 : BitVec 1 := Scalar.cmpi .ne v2 c5_i32_562
  let v895 : BitVec 32 := Scalar.extui v894
  let c0_i32_563 : BitVec 32 := 0#32
  let v896 : BitVec 1 := Scalar.cmpi .ne v895 c0_i32_563
  v896

def k0_off309 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off310 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev135 : Nat :=
  let c0_i32_902 : BitVec 32 := 0#32
  let c5_i32_900 : BitVec 32 := 5#32
  let c1_i32_901 : BitVec 32 := 1#32
  let v1396 : BitVec 32 := Scalar.muli c5_i32_900 c1_i32_901
  let v1397 : BitVec 32 := Scalar.addi c0_i32_902 v1396
  v1397.toNat
def k0_cond239 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_564 : BitVec 32 := 6#32
  let v897 : BitVec 1 := Scalar.cmpi .ne v2 c6_i32_564
  let v898 : BitVec 32 := Scalar.extui v897
  let c0_i32_565 : BitVec 32 := 0#32
  let v899 : BitVec 1 := Scalar.cmpi .ne v898 c0_i32_565
  v899

def k0_off311 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off312 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev136 : Nat :=
  let c0_i32_902 : BitVec 32 := 0#32
  let c6_i32_900 : BitVec 32 := 6#32
  let c1_i32_901 : BitVec 32 := 1#32
  let v1396 : BitVec 32 := Scalar.muli c6_i32_900 c1_i32_901
  let v1397 : BitVec 32 := Scalar.addi c0_i32_902 v1396
  v1397.toNat
def k0_cond240 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_566 : BitVec 32 := 7#32
  let v900 : BitVec 1 := Scalar.cmpi .ne v2 c7_i32_566
  let v901 : BitVec 32 := Scalar.extui v900
  let c0_i32_567 : BitVec 32 := 0#32
  let v902 : BitVec 1 := Scalar.cmpi .ne v901 c0_i32_567
  v902

def k0_off313 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off314 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev137 : Nat :=
  let c0_i32_902 : BitVec 32 := 0#32
  let c7_i32_900 : BitVec 32 := 7#32
  let c1_i32_901 : BitVec 32 := 1#32
  let v1396 : BitVec 32 := Scalar.muli c7_i32_900 c1_i32_901
  let v1397 : BitVec 32 := Scalar.addi c0_i32_902 v1396
  v1397.toNat
def k0_cond241 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_568 : BitVec 32 := 8#32
  let v903 : BitVec 1 := Scalar.cmpi .ne v2 c8_i32_568
  let v904 : BitVec 32 := Scalar.extui v903
  let c0_i32_569 : BitVec 32 := 0#32
  let v905 : BitVec 1 := Scalar.cmpi .ne v904 c0_i32_569
  v905

def k0_off315 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond242 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_570 : BitVec 32 := 9#32
  let v906 : BitVec 1 := Scalar.cmpi .ne v2 c9_i32_570
  let v907 : BitVec 32 := Scalar.extui v906
  let c0_i32_571 : BitVec 32 := 0#32
  let v908 : BitVec 1 := Scalar.cmpi .ne v907 c0_i32_571
  v908

def k0_off316 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond243 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_572 : BitVec 32 := 10#32
  let v909 : BitVec 1 := Scalar.cmpi .ne v2 c10_i32_572
  let v910 : BitVec 32 := Scalar.extui v909
  let c0_i32_573 : BitVec 32 := 0#32
  let v911 : BitVec 1 := Scalar.cmpi .ne v910 c0_i32_573
  v911

def k0_off317 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond244 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_574 : BitVec 32 := 11#32
  let v912 : BitVec 1 := Scalar.cmpi .ne v2 c11_i32_574
  let v913 : BitVec 32 := Scalar.extui v912
  let c0_i32_575 : BitVec 32 := 0#32
  let v914 : BitVec 1 := Scalar.cmpi .ne v913 c0_i32_575
  v914

def k0_off318 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond245 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_576 : BitVec 32 := 12#32
  let v915 : BitVec 1 := Scalar.cmpi .ne v2 c12_i32_576
  let v916 : BitVec 32 := Scalar.extui v915
  let c0_i32_577 : BitVec 32 := 0#32
  let v917 : BitVec 1 := Scalar.cmpi .ne v916 c0_i32_577
  v917

def k0_off319 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond246 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_578 : BitVec 32 := 13#32
  let v918 : BitVec 1 := Scalar.cmpi .ne v2 c13_i32_578
  let v919 : BitVec 32 := Scalar.extui v918
  let c0_i32_579 : BitVec 32 := 0#32
  let v920 : BitVec 1 := Scalar.cmpi .ne v919 c0_i32_579
  v920

def k0_off320 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond247 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_580 : BitVec 32 := 14#32
  let v921 : BitVec 1 := Scalar.cmpi .ne v2 c14_i32_580
  let v922 : BitVec 32 := Scalar.extui v921
  let c0_i32_581 : BitVec 32 := 0#32
  let v923 : BitVec 1 := Scalar.cmpi .ne v922 c0_i32_581
  v923

def k0_off321 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond248 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_582 : BitVec 32 := 15#32
  let v924 : BitVec 1 := Scalar.cmpi .ne v2 c15_i32_582
  let v925 : BitVec 32 := Scalar.extui v924
  let c0_i32_583 : BitVec 32 := 0#32
  let v926 : BitVec 1 := Scalar.cmpi .ne v925 c0_i32_583
  v926

def k0_off322 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond249 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_595 : BitVec 32 := 8#32
  let v943 : BitVec 1 := Scalar.cmpi .ne v2 c8_i32_595
  let v944 : BitVec 32 := Scalar.extui v943
  let c0_i32_596 : BitVec 32 := 0#32
  let v945 : BitVec 1 := Scalar.cmpi .ne v944 c0_i32_596
  v945

def k0_off323 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off324 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev138 : Nat :=
  let c0_i32_902 : BitVec 32 := 0#32
  let c8_i32_900 : BitVec 32 := 8#32
  let c1_i32_901 : BitVec 32 := 1#32
  let v1396 : BitVec 32 := Scalar.muli c8_i32_900 c1_i32_901
  let v1397 : BitVec 32 := Scalar.addi c0_i32_902 v1396
  v1397.toNat
def k0_cond250 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_597 : BitVec 32 := 9#32
  let v946 : BitVec 1 := Scalar.cmpi .ne v2 c9_i32_597
  let v947 : BitVec 32 := Scalar.extui v946
  let c0_i32_598 : BitVec 32 := 0#32
  let v948 : BitVec 1 := Scalar.cmpi .ne v947 c0_i32_598
  v948

def k0_off325 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off326 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev139 : Nat :=
  let c0_i32_902 : BitVec 32 := 0#32
  let c9_i32_900 : BitVec 32 := 9#32
  let c1_i32_901 : BitVec 32 := 1#32
  let v1396 : BitVec 32 := Scalar.muli c9_i32_900 c1_i32_901
  let v1397 : BitVec 32 := Scalar.addi c0_i32_902 v1396
  v1397.toNat
def k0_cond251 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_599 : BitVec 32 := 10#32
  let v949 : BitVec 1 := Scalar.cmpi .ne v2 c10_i32_599
  let v950 : BitVec 32 := Scalar.extui v949
  let c0_i32_600 : BitVec 32 := 0#32
  let v951 : BitVec 1 := Scalar.cmpi .ne v950 c0_i32_600
  v951

def k0_off327 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off328 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev140 : Nat :=
  let c0_i32_902 : BitVec 32 := 0#32
  let c10_i32_900 : BitVec 32 := 10#32
  let c1_i32_901 : BitVec 32 := 1#32
  let v1396 : BitVec 32 := Scalar.muli c10_i32_900 c1_i32_901
  let v1397 : BitVec 32 := Scalar.addi c0_i32_902 v1396
  v1397.toNat
def k0_cond252 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_601 : BitVec 32 := 11#32
  let v952 : BitVec 1 := Scalar.cmpi .ne v2 c11_i32_601
  let v953 : BitVec 32 := Scalar.extui v952
  let c0_i32_602 : BitVec 32 := 0#32
  let v954 : BitVec 1 := Scalar.cmpi .ne v953 c0_i32_602
  v954

def k0_off329 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off330 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev141 : Nat :=
  let c0_i32_902 : BitVec 32 := 0#32
  let c11_i32_900 : BitVec 32 := 11#32
  let c1_i32_901 : BitVec 32 := 1#32
  let v1396 : BitVec 32 := Scalar.muli c11_i32_900 c1_i32_901
  let v1397 : BitVec 32 := Scalar.addi c0_i32_902 v1396
  v1397.toNat
def k0_cond253 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_603 : BitVec 32 := 12#32
  let v955 : BitVec 1 := Scalar.cmpi .ne v2 c12_i32_603
  let v956 : BitVec 32 := Scalar.extui v955
  let c0_i32_604 : BitVec 32 := 0#32
  let v957 : BitVec 1 := Scalar.cmpi .ne v956 c0_i32_604
  v957

def k0_off331 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off332 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev142 : Nat :=
  let c0_i32_902 : BitVec 32 := 0#32
  let c12_i32_900 : BitVec 32 := 12#32
  let c1_i32_901 : BitVec 32 := 1#32
  let v1396 : BitVec 32 := Scalar.muli c12_i32_900 c1_i32_901
  let v1397 : BitVec 32 := Scalar.addi c0_i32_902 v1396
  v1397.toNat
def k0_cond254 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_605 : BitVec 32 := 13#32
  let v958 : BitVec 1 := Scalar.cmpi .ne v2 c13_i32_605
  let v959 : BitVec 32 := Scalar.extui v958
  let c0_i32_606 : BitVec 32 := 0#32
  let v960 : BitVec 1 := Scalar.cmpi .ne v959 c0_i32_606
  v960

def k0_off333 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off334 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev143 : Nat :=
  let c0_i32_902 : BitVec 32 := 0#32
  let c13_i32_900 : BitVec 32 := 13#32
  let c1_i32_901 : BitVec 32 := 1#32
  let v1396 : BitVec 32 := Scalar.muli c13_i32_900 c1_i32_901
  let v1397 : BitVec 32 := Scalar.addi c0_i32_902 v1396
  v1397.toNat
def k0_cond255 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_607 : BitVec 32 := 14#32
  let v961 : BitVec 1 := Scalar.cmpi .ne v2 c14_i32_607
  let v962 : BitVec 32 := Scalar.extui v961
  let c0_i32_608 : BitVec 32 := 0#32
  let v963 : BitVec 1 := Scalar.cmpi .ne v962 c0_i32_608
  v963

def k0_off335 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off336 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev144 : Nat :=
  let c0_i32_902 : BitVec 32 := 0#32
  let c14_i32_900 : BitVec 32 := 14#32
  let c1_i32_901 : BitVec 32 := 1#32
  let v1396 : BitVec 32 := Scalar.muli c14_i32_900 c1_i32_901
  let v1397 : BitVec 32 := Scalar.addi c0_i32_902 v1396
  v1397.toNat
def k0_cond256 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_609 : BitVec 32 := 15#32
  let v964 : BitVec 1 := Scalar.cmpi .ne v2 c15_i32_609
  let v965 : BitVec 32 := Scalar.extui v964
  let c0_i32_610 : BitVec 32 := 0#32
  let v966 : BitVec 1 := Scalar.cmpi .ne v965 c0_i32_610
  v966

def k0_off337 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off338 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev145 : Nat :=
  let c0_i32_902 : BitVec 32 := 0#32
  let c15_i32_900 : BitVec 32 := 15#32
  let c1_i32_901 : BitVec 32 := 1#32
  let v1396 : BitVec 32 := Scalar.muli c15_i32_900 c1_i32_901
  let v1397 : BitVec 32 := Scalar.addi c0_i32_902 v1396
  v1397.toNat
def k0_cond257 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_611 : BitVec 32 := 16#32
  let v967 : BitVec 1 := Scalar.cmpi .ne v2 c16_i32_611
  let v968 : BitVec 32 := Scalar.extui v967
  let c0_i32_612 : BitVec 32 := 0#32
  let v969 : BitVec 1 := Scalar.cmpi .ne v968 c0_i32_612
  v969

def k0_off339 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond258 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_613 : BitVec 32 := 17#32
  let v970 : BitVec 1 := Scalar.cmpi .ne v2 c17_i32_613
  let v971 : BitVec 32 := Scalar.extui v970
  let c0_i32_614 : BitVec 32 := 0#32
  let v972 : BitVec 1 := Scalar.cmpi .ne v971 c0_i32_614
  v972

def k0_off340 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond259 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_615 : BitVec 32 := 18#32
  let v973 : BitVec 1 := Scalar.cmpi .ne v2 c18_i32_615
  let v974 : BitVec 32 := Scalar.extui v973
  let c0_i32_616 : BitVec 32 := 0#32
  let v975 : BitVec 1 := Scalar.cmpi .ne v974 c0_i32_616
  v975

def k0_off341 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond260 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_617 : BitVec 32 := 19#32
  let v976 : BitVec 1 := Scalar.cmpi .ne v2 c19_i32_617
  let v977 : BitVec 32 := Scalar.extui v976
  let c0_i32_618 : BitVec 32 := 0#32
  let v978 : BitVec 1 := Scalar.cmpi .ne v977 c0_i32_618
  v978

def k0_off342 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond261 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_619 : BitVec 32 := 20#32
  let v979 : BitVec 1 := Scalar.cmpi .ne v2 c20_i32_619
  let v980 : BitVec 32 := Scalar.extui v979
  let c0_i32_620 : BitVec 32 := 0#32
  let v981 : BitVec 1 := Scalar.cmpi .ne v980 c0_i32_620
  v981

def k0_off343 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond262 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_621 : BitVec 32 := 21#32
  let v982 : BitVec 1 := Scalar.cmpi .ne v2 c21_i32_621
  let v983 : BitVec 32 := Scalar.extui v982
  let c0_i32_622 : BitVec 32 := 0#32
  let v984 : BitVec 1 := Scalar.cmpi .ne v983 c0_i32_622
  v984

def k0_off344 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond263 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_623 : BitVec 32 := 22#32
  let v985 : BitVec 1 := Scalar.cmpi .ne v2 c22_i32_623
  let v986 : BitVec 32 := Scalar.extui v985
  let c0_i32_624 : BitVec 32 := 0#32
  let v987 : BitVec 1 := Scalar.cmpi .ne v986 c0_i32_624
  v987

def k0_off345 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond264 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_625 : BitVec 32 := 23#32
  let v988 : BitVec 1 := Scalar.cmpi .ne v2 c23_i32_625
  let v989 : BitVec 32 := Scalar.extui v988
  let c0_i32_626 : BitVec 32 := 0#32
  let v990 : BitVec 1 := Scalar.cmpi .ne v989 c0_i32_626
  v990

def k0_off346 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond265 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_638 : BitVec 32 := 16#32
  let v1007 : BitVec 1 := Scalar.cmpi .ne v2 c16_i32_638
  let v1008 : BitVec 32 := Scalar.extui v1007
  let c0_i32_639 : BitVec 32 := 0#32
  let v1009 : BitVec 1 := Scalar.cmpi .ne v1008 c0_i32_639
  v1009

def k0_off347 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off348 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev146 : Nat :=
  let c0_i32_902 : BitVec 32 := 0#32
  let c16_i32_900 : BitVec 32 := 16#32
  let c1_i32_901 : BitVec 32 := 1#32
  let v1396 : BitVec 32 := Scalar.muli c16_i32_900 c1_i32_901
  let v1397 : BitVec 32 := Scalar.addi c0_i32_902 v1396
  v1397.toNat
def k0_cond266 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_640 : BitVec 32 := 17#32
  let v1010 : BitVec 1 := Scalar.cmpi .ne v2 c17_i32_640
  let v1011 : BitVec 32 := Scalar.extui v1010
  let c0_i32_641 : BitVec 32 := 0#32
  let v1012 : BitVec 1 := Scalar.cmpi .ne v1011 c0_i32_641
  v1012

def k0_off349 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off350 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev147 : Nat :=
  let c0_i32_902 : BitVec 32 := 0#32
  let c17_i32_900 : BitVec 32 := 17#32
  let c1_i32_901 : BitVec 32 := 1#32
  let v1396 : BitVec 32 := Scalar.muli c17_i32_900 c1_i32_901
  let v1397 : BitVec 32 := Scalar.addi c0_i32_902 v1396
  v1397.toNat
def k0_cond267 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_642 : BitVec 32 := 18#32
  let v1013 : BitVec 1 := Scalar.cmpi .ne v2 c18_i32_642
  let v1014 : BitVec 32 := Scalar.extui v1013
  let c0_i32_643 : BitVec 32 := 0#32
  let v1015 : BitVec 1 := Scalar.cmpi .ne v1014 c0_i32_643
  v1015

def k0_off351 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off352 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev148 : Nat :=
  let c0_i32_902 : BitVec 32 := 0#32
  let c18_i32_900 : BitVec 32 := 18#32
  let c1_i32_901 : BitVec 32 := 1#32
  let v1396 : BitVec 32 := Scalar.muli c18_i32_900 c1_i32_901
  let v1397 : BitVec 32 := Scalar.addi c0_i32_902 v1396
  v1397.toNat
def k0_cond268 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_644 : BitVec 32 := 19#32
  let v1016 : BitVec 1 := Scalar.cmpi .ne v2 c19_i32_644
  let v1017 : BitVec 32 := Scalar.extui v1016
  let c0_i32_645 : BitVec 32 := 0#32
  let v1018 : BitVec 1 := Scalar.cmpi .ne v1017 c0_i32_645
  v1018

def k0_off353 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off354 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev149 : Nat :=
  let c0_i32_902 : BitVec 32 := 0#32
  let c19_i32_900 : BitVec 32 := 19#32
  let c1_i32_901 : BitVec 32 := 1#32
  let v1396 : BitVec 32 := Scalar.muli c19_i32_900 c1_i32_901
  let v1397 : BitVec 32 := Scalar.addi c0_i32_902 v1396
  v1397.toNat
def k0_cond269 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_646 : BitVec 32 := 20#32
  let v1019 : BitVec 1 := Scalar.cmpi .ne v2 c20_i32_646
  let v1020 : BitVec 32 := Scalar.extui v1019
  let c0_i32_647 : BitVec 32 := 0#32
  let v1021 : BitVec 1 := Scalar.cmpi .ne v1020 c0_i32_647
  v1021

def k0_off355 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off356 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev150 : Nat :=
  let c0_i32_902 : BitVec 32 := 0#32
  let c20_i32_900 : BitVec 32 := 20#32
  let c1_i32_901 : BitVec 32 := 1#32
  let v1396 : BitVec 32 := Scalar.muli c20_i32_900 c1_i32_901
  let v1397 : BitVec 32 := Scalar.addi c0_i32_902 v1396
  v1397.toNat
def k0_cond270 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_648 : BitVec 32 := 21#32
  let v1022 : BitVec 1 := Scalar.cmpi .ne v2 c21_i32_648
  let v1023 : BitVec 32 := Scalar.extui v1022
  let c0_i32_649 : BitVec 32 := 0#32
  let v1024 : BitVec 1 := Scalar.cmpi .ne v1023 c0_i32_649
  v1024

def k0_off357 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off358 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev151 : Nat :=
  let c0_i32_902 : BitVec 32 := 0#32
  let c21_i32_900 : BitVec 32 := 21#32
  let c1_i32_901 : BitVec 32 := 1#32
  let v1396 : BitVec 32 := Scalar.muli c21_i32_900 c1_i32_901
  let v1397 : BitVec 32 := Scalar.addi c0_i32_902 v1396
  v1397.toNat
def k0_cond271 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_650 : BitVec 32 := 22#32
  let v1025 : BitVec 1 := Scalar.cmpi .ne v2 c22_i32_650
  let v1026 : BitVec 32 := Scalar.extui v1025
  let c0_i32_651 : BitVec 32 := 0#32
  let v1027 : BitVec 1 := Scalar.cmpi .ne v1026 c0_i32_651
  v1027

def k0_off359 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off360 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev152 : Nat :=
  let c0_i32_902 : BitVec 32 := 0#32
  let c22_i32_900 : BitVec 32 := 22#32
  let c1_i32_901 : BitVec 32 := 1#32
  let v1396 : BitVec 32 := Scalar.muli c22_i32_900 c1_i32_901
  let v1397 : BitVec 32 := Scalar.addi c0_i32_902 v1396
  v1397.toNat
def k0_cond272 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_652 : BitVec 32 := 23#32
  let v1028 : BitVec 1 := Scalar.cmpi .ne v2 c23_i32_652
  let v1029 : BitVec 32 := Scalar.extui v1028
  let c0_i32_653 : BitVec 32 := 0#32
  let v1030 : BitVec 1 := Scalar.cmpi .ne v1029 c0_i32_653
  v1030

def k0_off361 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off362 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev153 : Nat :=
  let c0_i32_902 : BitVec 32 := 0#32
  let c23_i32_900 : BitVec 32 := 23#32
  let c1_i32_901 : BitVec 32 := 1#32
  let v1396 : BitVec 32 := Scalar.muli c23_i32_900 c1_i32_901
  let v1397 : BitVec 32 := Scalar.addi c0_i32_902 v1396
  v1397.toNat
def k0_cond273 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_654 : BitVec 32 := 24#32
  let v1031 : BitVec 1 := Scalar.cmpi .ne v2 c24_i32_654
  let v1032 : BitVec 32 := Scalar.extui v1031
  let c0_i32_655 : BitVec 32 := 0#32
  let v1033 : BitVec 1 := Scalar.cmpi .ne v1032 c0_i32_655
  v1033

def k0_off363 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond274 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_656 : BitVec 32 := 25#32
  let v1034 : BitVec 1 := Scalar.cmpi .ne v2 c25_i32_656
  let v1035 : BitVec 32 := Scalar.extui v1034
  let c0_i32_657 : BitVec 32 := 0#32
  let v1036 : BitVec 1 := Scalar.cmpi .ne v1035 c0_i32_657
  v1036

def k0_off364 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond275 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_658 : BitVec 32 := 26#32
  let v1037 : BitVec 1 := Scalar.cmpi .ne v2 c26_i32_658
  let v1038 : BitVec 32 := Scalar.extui v1037
  let c0_i32_659 : BitVec 32 := 0#32
  let v1039 : BitVec 1 := Scalar.cmpi .ne v1038 c0_i32_659
  v1039

def k0_off365 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond276 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_660 : BitVec 32 := 27#32
  let v1040 : BitVec 1 := Scalar.cmpi .ne v2 c27_i32_660
  let v1041 : BitVec 32 := Scalar.extui v1040
  let c0_i32_661 : BitVec 32 := 0#32
  let v1042 : BitVec 1 := Scalar.cmpi .ne v1041 c0_i32_661
  v1042

def k0_off366 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond277 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_662 : BitVec 32 := 28#32
  let v1043 : BitVec 1 := Scalar.cmpi .ne v2 c28_i32_662
  let v1044 : BitVec 32 := Scalar.extui v1043
  let c0_i32_663 : BitVec 32 := 0#32
  let v1045 : BitVec 1 := Scalar.cmpi .ne v1044 c0_i32_663
  v1045

def k0_off367 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond278 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_664 : BitVec 32 := 29#32
  let v1046 : BitVec 1 := Scalar.cmpi .ne v2 c29_i32_664
  let v1047 : BitVec 32 := Scalar.extui v1046
  let c0_i32_665 : BitVec 32 := 0#32
  let v1048 : BitVec 1 := Scalar.cmpi .ne v1047 c0_i32_665
  v1048

def k0_off368 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond279 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_666 : BitVec 32 := 30#32
  let v1049 : BitVec 1 := Scalar.cmpi .ne v2 c30_i32_666
  let v1050 : BitVec 32 := Scalar.extui v1049
  let c0_i32_667 : BitVec 32 := 0#32
  let v1051 : BitVec 1 := Scalar.cmpi .ne v1050 c0_i32_667
  v1051

def k0_off369 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond280 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_668 : BitVec 32 := 31#32
  let v1052 : BitVec 1 := Scalar.cmpi .ne v2 c31_i32_668
  let v1053 : BitVec 32 := Scalar.extui v1052
  let c0_i32_669 : BitVec 32 := 0#32
  let v1054 : BitVec 1 := Scalar.cmpi .ne v1053 c0_i32_669
  v1054

def k0_off370 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond281 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_681 : BitVec 32 := 24#32
  let v1071 : BitVec 1 := Scalar.cmpi .ne v2 c24_i32_681
  let v1072 : BitVec 32 := Scalar.extui v1071
  let c0_i32_682 : BitVec 32 := 0#32
  let v1073 : BitVec 1 := Scalar.cmpi .ne v1072 c0_i32_682
  v1073

def k0_off371 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off372 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev154 : Nat :=
  let c0_i32_902 : BitVec 32 := 0#32
  let c24_i32_900 : BitVec 32 := 24#32
  let c1_i32_901 : BitVec 32 := 1#32
  let v1396 : BitVec 32 := Scalar.muli c24_i32_900 c1_i32_901
  let v1397 : BitVec 32 := Scalar.addi c0_i32_902 v1396
  v1397.toNat
def k0_cond282 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_683 : BitVec 32 := 25#32
  let v1074 : BitVec 1 := Scalar.cmpi .ne v2 c25_i32_683
  let v1075 : BitVec 32 := Scalar.extui v1074
  let c0_i32_684 : BitVec 32 := 0#32
  let v1076 : BitVec 1 := Scalar.cmpi .ne v1075 c0_i32_684
  v1076

def k0_off373 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off374 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev155 : Nat :=
  let c0_i32_902 : BitVec 32 := 0#32
  let c25_i32_900 : BitVec 32 := 25#32
  let c1_i32_901 : BitVec 32 := 1#32
  let v1396 : BitVec 32 := Scalar.muli c25_i32_900 c1_i32_901
  let v1397 : BitVec 32 := Scalar.addi c0_i32_902 v1396
  v1397.toNat
def k0_cond283 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_685 : BitVec 32 := 26#32
  let v1077 : BitVec 1 := Scalar.cmpi .ne v2 c26_i32_685
  let v1078 : BitVec 32 := Scalar.extui v1077
  let c0_i32_686 : BitVec 32 := 0#32
  let v1079 : BitVec 1 := Scalar.cmpi .ne v1078 c0_i32_686
  v1079

def k0_off375 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off376 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev156 : Nat :=
  let c0_i32_902 : BitVec 32 := 0#32
  let c26_i32_900 : BitVec 32 := 26#32
  let c1_i32_901 : BitVec 32 := 1#32
  let v1396 : BitVec 32 := Scalar.muli c26_i32_900 c1_i32_901
  let v1397 : BitVec 32 := Scalar.addi c0_i32_902 v1396
  v1397.toNat
def k0_cond284 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_687 : BitVec 32 := 27#32
  let v1080 : BitVec 1 := Scalar.cmpi .ne v2 c27_i32_687
  let v1081 : BitVec 32 := Scalar.extui v1080
  let c0_i32_688 : BitVec 32 := 0#32
  let v1082 : BitVec 1 := Scalar.cmpi .ne v1081 c0_i32_688
  v1082

def k0_off377 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off378 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev157 : Nat :=
  let c0_i32_902 : BitVec 32 := 0#32
  let c27_i32_900 : BitVec 32 := 27#32
  let c1_i32_901 : BitVec 32 := 1#32
  let v1396 : BitVec 32 := Scalar.muli c27_i32_900 c1_i32_901
  let v1397 : BitVec 32 := Scalar.addi c0_i32_902 v1396
  v1397.toNat
def k0_cond285 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_689 : BitVec 32 := 28#32
  let v1083 : BitVec 1 := Scalar.cmpi .ne v2 c28_i32_689
  let v1084 : BitVec 32 := Scalar.extui v1083
  let c0_i32_690 : BitVec 32 := 0#32
  let v1085 : BitVec 1 := Scalar.cmpi .ne v1084 c0_i32_690
  v1085

def k0_off379 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off380 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev158 : Nat :=
  let c0_i32_902 : BitVec 32 := 0#32
  let c28_i32_900 : BitVec 32 := 28#32
  let c1_i32_901 : BitVec 32 := 1#32
  let v1396 : BitVec 32 := Scalar.muli c28_i32_900 c1_i32_901
  let v1397 : BitVec 32 := Scalar.addi c0_i32_902 v1396
  v1397.toNat
def k0_cond286 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_691 : BitVec 32 := 29#32
  let v1086 : BitVec 1 := Scalar.cmpi .ne v2 c29_i32_691
  let v1087 : BitVec 32 := Scalar.extui v1086
  let c0_i32_692 : BitVec 32 := 0#32
  let v1088 : BitVec 1 := Scalar.cmpi .ne v1087 c0_i32_692
  v1088

def k0_off381 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off382 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev159 : Nat :=
  let c0_i32_902 : BitVec 32 := 0#32
  let c29_i32_900 : BitVec 32 := 29#32
  let c1_i32_901 : BitVec 32 := 1#32
  let v1396 : BitVec 32 := Scalar.muli c29_i32_900 c1_i32_901
  let v1397 : BitVec 32 := Scalar.addi c0_i32_902 v1396
  v1397.toNat
def k0_cond287 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_693 : BitVec 32 := 30#32
  let v1089 : BitVec 1 := Scalar.cmpi .ne v2 c30_i32_693
  let v1090 : BitVec 32 := Scalar.extui v1089
  let c0_i32_694 : BitVec 32 := 0#32
  let v1091 : BitVec 1 := Scalar.cmpi .ne v1090 c0_i32_694
  v1091

def k0_off383 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off384 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev160 : Nat :=
  let c0_i32_902 : BitVec 32 := 0#32
  let c30_i32_900 : BitVec 32 := 30#32
  let c1_i32_901 : BitVec 32 := 1#32
  let v1396 : BitVec 32 := Scalar.muli c30_i32_900 c1_i32_901
  let v1397 : BitVec 32 := Scalar.addi c0_i32_902 v1396
  v1397.toNat
def k0_cond288 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_695 : BitVec 32 := 31#32
  let v1092 : BitVec 1 := Scalar.cmpi .ne v2 c31_i32_695
  let v1093 : BitVec 32 := Scalar.extui v1092
  let c0_i32_696 : BitVec 32 := 0#32
  let v1094 : BitVec 1 := Scalar.cmpi .ne v1093 c0_i32_696
  v1094

def k0_off385 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off386 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_903 : BitVec 32 := 0#32
  let c0_i32_904 : BitVec 32 := 0#32
  ![v2.toNat, 0, 0]
def k0_dev161 : Nat :=
  let c0_i32_902 : BitVec 32 := 0#32
  let c31_i32_900 : BitVec 32 := 31#32
  let c1_i32_901 : BitVec 32 := 1#32
  let v1396 : BitVec 32 := Scalar.muli c31_i32_900 c1_i32_901
  let v1397 : BitVec 32 := Scalar.addi c0_i32_902 v1396
  v1397.toNat
def k0_cond321 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_771 : BitVec 32 := 0#32
  let v1204 : BitVec 1 := Scalar.cmpi .ne v2 c0_i32_771
  let v1205 : BitVec 32 := Scalar.extui v1204
  let c0_i32_772 : BitVec 32 := 0#32
  let v1206 : BitVec 1 := Scalar.cmpi .ne v1205 c0_i32_772
  v1206

def k0_off387 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off388 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev162 : Nat :=
  let c0_i32_904 : BitVec 32 := 0#32
  let c0_i32_902 : BitVec 32 := 0#32
  let c1_i32_903 : BitVec 32 := 1#32
  let v1398 : BitVec 32 := Scalar.muli c0_i32_902 c1_i32_903
  let v1399 : BitVec 32 := Scalar.addi c0_i32_904 v1398
  v1399.toNat
def k0_cond322 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_773 : BitVec 32 := 1#32
  let v1207 : BitVec 1 := Scalar.cmpi .ne v2 c1_i32_773
  let v1208 : BitVec 32 := Scalar.extui v1207
  let c0_i32_774 : BitVec 32 := 0#32
  let v1209 : BitVec 1 := Scalar.cmpi .ne v1208 c0_i32_774
  v1209

def k0_off389 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off390 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev163 : Nat :=
  let c0_i32_904 : BitVec 32 := 0#32
  let c1_i32_902 : BitVec 32 := 1#32
  let c1_i32_903 : BitVec 32 := 1#32
  let v1398 : BitVec 32 := Scalar.muli c1_i32_902 c1_i32_903
  let v1399 : BitVec 32 := Scalar.addi c0_i32_904 v1398
  v1399.toNat
def k0_cond323 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_775 : BitVec 32 := 2#32
  let v1210 : BitVec 1 := Scalar.cmpi .ne v2 c2_i32_775
  let v1211 : BitVec 32 := Scalar.extui v1210
  let c0_i32_776 : BitVec 32 := 0#32
  let v1212 : BitVec 1 := Scalar.cmpi .ne v1211 c0_i32_776
  v1212

def k0_off391 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off392 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev164 : Nat :=
  let c0_i32_904 : BitVec 32 := 0#32
  let c2_i32_902 : BitVec 32 := 2#32
  let c1_i32_903 : BitVec 32 := 1#32
  let v1398 : BitVec 32 := Scalar.muli c2_i32_902 c1_i32_903
  let v1399 : BitVec 32 := Scalar.addi c0_i32_904 v1398
  v1399.toNat
def k0_cond324 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_777 : BitVec 32 := 3#32
  let v1213 : BitVec 1 := Scalar.cmpi .ne v2 c3_i32_777
  let v1214 : BitVec 32 := Scalar.extui v1213
  let c0_i32_778 : BitVec 32 := 0#32
  let v1215 : BitVec 1 := Scalar.cmpi .ne v1214 c0_i32_778
  v1215

def k0_off393 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off394 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev165 : Nat :=
  let c0_i32_904 : BitVec 32 := 0#32
  let c3_i32_902 : BitVec 32 := 3#32
  let c1_i32_903 : BitVec 32 := 1#32
  let v1398 : BitVec 32 := Scalar.muli c3_i32_902 c1_i32_903
  let v1399 : BitVec 32 := Scalar.addi c0_i32_904 v1398
  v1399.toNat
def k0_cond325 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_779 : BitVec 32 := 4#32
  let v1216 : BitVec 1 := Scalar.cmpi .ne v2 c4_i32_779
  let v1217 : BitVec 32 := Scalar.extui v1216
  let c0_i32_780 : BitVec 32 := 0#32
  let v1218 : BitVec 1 := Scalar.cmpi .ne v1217 c0_i32_780
  v1218

def k0_off395 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off396 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev166 : Nat :=
  let c0_i32_904 : BitVec 32 := 0#32
  let c4_i32_902 : BitVec 32 := 4#32
  let c1_i32_903 : BitVec 32 := 1#32
  let v1398 : BitVec 32 := Scalar.muli c4_i32_902 c1_i32_903
  let v1399 : BitVec 32 := Scalar.addi c0_i32_904 v1398
  v1399.toNat
def k0_cond326 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_781 : BitVec 32 := 5#32
  let v1219 : BitVec 1 := Scalar.cmpi .ne v2 c5_i32_781
  let v1220 : BitVec 32 := Scalar.extui v1219
  let c0_i32_782 : BitVec 32 := 0#32
  let v1221 : BitVec 1 := Scalar.cmpi .ne v1220 c0_i32_782
  v1221

def k0_off397 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off398 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev167 : Nat :=
  let c0_i32_904 : BitVec 32 := 0#32
  let c5_i32_902 : BitVec 32 := 5#32
  let c1_i32_903 : BitVec 32 := 1#32
  let v1398 : BitVec 32 := Scalar.muli c5_i32_902 c1_i32_903
  let v1399 : BitVec 32 := Scalar.addi c0_i32_904 v1398
  v1399.toNat
def k0_cond327 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_783 : BitVec 32 := 6#32
  let v1222 : BitVec 1 := Scalar.cmpi .ne v2 c6_i32_783
  let v1223 : BitVec 32 := Scalar.extui v1222
  let c0_i32_784 : BitVec 32 := 0#32
  let v1224 : BitVec 1 := Scalar.cmpi .ne v1223 c0_i32_784
  v1224

def k0_off399 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off400 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev168 : Nat :=
  let c0_i32_904 : BitVec 32 := 0#32
  let c6_i32_902 : BitVec 32 := 6#32
  let c1_i32_903 : BitVec 32 := 1#32
  let v1398 : BitVec 32 := Scalar.muli c6_i32_902 c1_i32_903
  let v1399 : BitVec 32 := Scalar.addi c0_i32_904 v1398
  v1399.toNat
def k0_cond328 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_785 : BitVec 32 := 7#32
  let v1225 : BitVec 1 := Scalar.cmpi .ne v2 c7_i32_785
  let v1226 : BitVec 32 := Scalar.extui v1225
  let c0_i32_786 : BitVec 32 := 0#32
  let v1227 : BitVec 1 := Scalar.cmpi .ne v1226 c0_i32_786
  v1227

def k0_off401 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off402 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev169 : Nat :=
  let c0_i32_904 : BitVec 32 := 0#32
  let c7_i32_902 : BitVec 32 := 7#32
  let c1_i32_903 : BitVec 32 := 1#32
  let v1398 : BitVec 32 := Scalar.muli c7_i32_902 c1_i32_903
  let v1399 : BitVec 32 := Scalar.addi c0_i32_904 v1398
  v1399.toNat
def k0_cond329 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_787 : BitVec 32 := 8#32
  let v1228 : BitVec 1 := Scalar.cmpi .ne v2 c8_i32_787
  let v1229 : BitVec 32 := Scalar.extui v1228
  let c0_i32_788 : BitVec 32 := 0#32
  let v1230 : BitVec 1 := Scalar.cmpi .ne v1229 c0_i32_788
  v1230

def k0_off403 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off404 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev170 : Nat :=
  let c0_i32_904 : BitVec 32 := 0#32
  let c8_i32_902 : BitVec 32 := 8#32
  let c1_i32_903 : BitVec 32 := 1#32
  let v1398 : BitVec 32 := Scalar.muli c8_i32_902 c1_i32_903
  let v1399 : BitVec 32 := Scalar.addi c0_i32_904 v1398
  v1399.toNat
def k0_cond330 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_789 : BitVec 32 := 9#32
  let v1231 : BitVec 1 := Scalar.cmpi .ne v2 c9_i32_789
  let v1232 : BitVec 32 := Scalar.extui v1231
  let c0_i32_790 : BitVec 32 := 0#32
  let v1233 : BitVec 1 := Scalar.cmpi .ne v1232 c0_i32_790
  v1233

def k0_off405 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off406 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev171 : Nat :=
  let c0_i32_904 : BitVec 32 := 0#32
  let c9_i32_902 : BitVec 32 := 9#32
  let c1_i32_903 : BitVec 32 := 1#32
  let v1398 : BitVec 32 := Scalar.muli c9_i32_902 c1_i32_903
  let v1399 : BitVec 32 := Scalar.addi c0_i32_904 v1398
  v1399.toNat
def k0_cond331 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_791 : BitVec 32 := 10#32
  let v1234 : BitVec 1 := Scalar.cmpi .ne v2 c10_i32_791
  let v1235 : BitVec 32 := Scalar.extui v1234
  let c0_i32_792 : BitVec 32 := 0#32
  let v1236 : BitVec 1 := Scalar.cmpi .ne v1235 c0_i32_792
  v1236

def k0_off407 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off408 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev172 : Nat :=
  let c0_i32_904 : BitVec 32 := 0#32
  let c10_i32_902 : BitVec 32 := 10#32
  let c1_i32_903 : BitVec 32 := 1#32
  let v1398 : BitVec 32 := Scalar.muli c10_i32_902 c1_i32_903
  let v1399 : BitVec 32 := Scalar.addi c0_i32_904 v1398
  v1399.toNat
def k0_cond332 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_793 : BitVec 32 := 11#32
  let v1237 : BitVec 1 := Scalar.cmpi .ne v2 c11_i32_793
  let v1238 : BitVec 32 := Scalar.extui v1237
  let c0_i32_794 : BitVec 32 := 0#32
  let v1239 : BitVec 1 := Scalar.cmpi .ne v1238 c0_i32_794
  v1239

def k0_off409 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off410 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev173 : Nat :=
  let c0_i32_904 : BitVec 32 := 0#32
  let c11_i32_902 : BitVec 32 := 11#32
  let c1_i32_903 : BitVec 32 := 1#32
  let v1398 : BitVec 32 := Scalar.muli c11_i32_902 c1_i32_903
  let v1399 : BitVec 32 := Scalar.addi c0_i32_904 v1398
  v1399.toNat
def k0_cond333 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_795 : BitVec 32 := 12#32
  let v1240 : BitVec 1 := Scalar.cmpi .ne v2 c12_i32_795
  let v1241 : BitVec 32 := Scalar.extui v1240
  let c0_i32_796 : BitVec 32 := 0#32
  let v1242 : BitVec 1 := Scalar.cmpi .ne v1241 c0_i32_796
  v1242

def k0_off411 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off412 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev174 : Nat :=
  let c0_i32_904 : BitVec 32 := 0#32
  let c12_i32_902 : BitVec 32 := 12#32
  let c1_i32_903 : BitVec 32 := 1#32
  let v1398 : BitVec 32 := Scalar.muli c12_i32_902 c1_i32_903
  let v1399 : BitVec 32 := Scalar.addi c0_i32_904 v1398
  v1399.toNat
def k0_cond334 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_797 : BitVec 32 := 13#32
  let v1243 : BitVec 1 := Scalar.cmpi .ne v2 c13_i32_797
  let v1244 : BitVec 32 := Scalar.extui v1243
  let c0_i32_798 : BitVec 32 := 0#32
  let v1245 : BitVec 1 := Scalar.cmpi .ne v1244 c0_i32_798
  v1245

def k0_off413 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off414 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev175 : Nat :=
  let c0_i32_904 : BitVec 32 := 0#32
  let c13_i32_902 : BitVec 32 := 13#32
  let c1_i32_903 : BitVec 32 := 1#32
  let v1398 : BitVec 32 := Scalar.muli c13_i32_902 c1_i32_903
  let v1399 : BitVec 32 := Scalar.addi c0_i32_904 v1398
  v1399.toNat
def k0_cond335 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_799 : BitVec 32 := 14#32
  let v1246 : BitVec 1 := Scalar.cmpi .ne v2 c14_i32_799
  let v1247 : BitVec 32 := Scalar.extui v1246
  let c0_i32_800 : BitVec 32 := 0#32
  let v1248 : BitVec 1 := Scalar.cmpi .ne v1247 c0_i32_800
  v1248

def k0_off415 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off416 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev176 : Nat :=
  let c0_i32_904 : BitVec 32 := 0#32
  let c14_i32_902 : BitVec 32 := 14#32
  let c1_i32_903 : BitVec 32 := 1#32
  let v1398 : BitVec 32 := Scalar.muli c14_i32_902 c1_i32_903
  let v1399 : BitVec 32 := Scalar.addi c0_i32_904 v1398
  v1399.toNat
def k0_cond336 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_801 : BitVec 32 := 15#32
  let v1249 : BitVec 1 := Scalar.cmpi .ne v2 c15_i32_801
  let v1250 : BitVec 32 := Scalar.extui v1249
  let c0_i32_802 : BitVec 32 := 0#32
  let v1251 : BitVec 1 := Scalar.cmpi .ne v1250 c0_i32_802
  v1251

def k0_off417 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off418 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev177 : Nat :=
  let c0_i32_904 : BitVec 32 := 0#32
  let c15_i32_902 : BitVec 32 := 15#32
  let c1_i32_903 : BitVec 32 := 1#32
  let v1398 : BitVec 32 := Scalar.muli c15_i32_902 c1_i32_903
  let v1399 : BitVec 32 := Scalar.addi c0_i32_904 v1398
  v1399.toNat
def k0_cond337 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_803 : BitVec 32 := 16#32
  let v1252 : BitVec 1 := Scalar.cmpi .ne v2 c16_i32_803
  let v1253 : BitVec 32 := Scalar.extui v1252
  let c0_i32_804 : BitVec 32 := 0#32
  let v1254 : BitVec 1 := Scalar.cmpi .ne v1253 c0_i32_804
  v1254

def k0_off419 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off420 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev178 : Nat :=
  let c0_i32_904 : BitVec 32 := 0#32
  let c16_i32_902 : BitVec 32 := 16#32
  let c1_i32_903 : BitVec 32 := 1#32
  let v1398 : BitVec 32 := Scalar.muli c16_i32_902 c1_i32_903
  let v1399 : BitVec 32 := Scalar.addi c0_i32_904 v1398
  v1399.toNat
def k0_cond338 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_805 : BitVec 32 := 17#32
  let v1255 : BitVec 1 := Scalar.cmpi .ne v2 c17_i32_805
  let v1256 : BitVec 32 := Scalar.extui v1255
  let c0_i32_806 : BitVec 32 := 0#32
  let v1257 : BitVec 1 := Scalar.cmpi .ne v1256 c0_i32_806
  v1257

def k0_off421 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off422 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev179 : Nat :=
  let c0_i32_904 : BitVec 32 := 0#32
  let c17_i32_902 : BitVec 32 := 17#32
  let c1_i32_903 : BitVec 32 := 1#32
  let v1398 : BitVec 32 := Scalar.muli c17_i32_902 c1_i32_903
  let v1399 : BitVec 32 := Scalar.addi c0_i32_904 v1398
  v1399.toNat
def k0_cond339 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_807 : BitVec 32 := 18#32
  let v1258 : BitVec 1 := Scalar.cmpi .ne v2 c18_i32_807
  let v1259 : BitVec 32 := Scalar.extui v1258
  let c0_i32_808 : BitVec 32 := 0#32
  let v1260 : BitVec 1 := Scalar.cmpi .ne v1259 c0_i32_808
  v1260

def k0_off423 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off424 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev180 : Nat :=
  let c0_i32_904 : BitVec 32 := 0#32
  let c18_i32_902 : BitVec 32 := 18#32
  let c1_i32_903 : BitVec 32 := 1#32
  let v1398 : BitVec 32 := Scalar.muli c18_i32_902 c1_i32_903
  let v1399 : BitVec 32 := Scalar.addi c0_i32_904 v1398
  v1399.toNat
def k0_cond340 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_809 : BitVec 32 := 19#32
  let v1261 : BitVec 1 := Scalar.cmpi .ne v2 c19_i32_809
  let v1262 : BitVec 32 := Scalar.extui v1261
  let c0_i32_810 : BitVec 32 := 0#32
  let v1263 : BitVec 1 := Scalar.cmpi .ne v1262 c0_i32_810
  v1263

def k0_off425 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off426 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev181 : Nat :=
  let c0_i32_904 : BitVec 32 := 0#32
  let c19_i32_902 : BitVec 32 := 19#32
  let c1_i32_903 : BitVec 32 := 1#32
  let v1398 : BitVec 32 := Scalar.muli c19_i32_902 c1_i32_903
  let v1399 : BitVec 32 := Scalar.addi c0_i32_904 v1398
  v1399.toNat
def k0_cond341 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_811 : BitVec 32 := 20#32
  let v1264 : BitVec 1 := Scalar.cmpi .ne v2 c20_i32_811
  let v1265 : BitVec 32 := Scalar.extui v1264
  let c0_i32_812 : BitVec 32 := 0#32
  let v1266 : BitVec 1 := Scalar.cmpi .ne v1265 c0_i32_812
  v1266

def k0_off427 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off428 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev182 : Nat :=
  let c0_i32_904 : BitVec 32 := 0#32
  let c20_i32_902 : BitVec 32 := 20#32
  let c1_i32_903 : BitVec 32 := 1#32
  let v1398 : BitVec 32 := Scalar.muli c20_i32_902 c1_i32_903
  let v1399 : BitVec 32 := Scalar.addi c0_i32_904 v1398
  v1399.toNat
def k0_cond342 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_813 : BitVec 32 := 21#32
  let v1267 : BitVec 1 := Scalar.cmpi .ne v2 c21_i32_813
  let v1268 : BitVec 32 := Scalar.extui v1267
  let c0_i32_814 : BitVec 32 := 0#32
  let v1269 : BitVec 1 := Scalar.cmpi .ne v1268 c0_i32_814
  v1269

def k0_off429 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off430 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev183 : Nat :=
  let c0_i32_904 : BitVec 32 := 0#32
  let c21_i32_902 : BitVec 32 := 21#32
  let c1_i32_903 : BitVec 32 := 1#32
  let v1398 : BitVec 32 := Scalar.muli c21_i32_902 c1_i32_903
  let v1399 : BitVec 32 := Scalar.addi c0_i32_904 v1398
  v1399.toNat
def k0_cond343 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_815 : BitVec 32 := 22#32
  let v1270 : BitVec 1 := Scalar.cmpi .ne v2 c22_i32_815
  let v1271 : BitVec 32 := Scalar.extui v1270
  let c0_i32_816 : BitVec 32 := 0#32
  let v1272 : BitVec 1 := Scalar.cmpi .ne v1271 c0_i32_816
  v1272

def k0_off431 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off432 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev184 : Nat :=
  let c0_i32_904 : BitVec 32 := 0#32
  let c22_i32_902 : BitVec 32 := 22#32
  let c1_i32_903 : BitVec 32 := 1#32
  let v1398 : BitVec 32 := Scalar.muli c22_i32_902 c1_i32_903
  let v1399 : BitVec 32 := Scalar.addi c0_i32_904 v1398
  v1399.toNat
def k0_cond344 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_817 : BitVec 32 := 23#32
  let v1273 : BitVec 1 := Scalar.cmpi .ne v2 c23_i32_817
  let v1274 : BitVec 32 := Scalar.extui v1273
  let c0_i32_818 : BitVec 32 := 0#32
  let v1275 : BitVec 1 := Scalar.cmpi .ne v1274 c0_i32_818
  v1275

def k0_off433 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off434 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev185 : Nat :=
  let c0_i32_904 : BitVec 32 := 0#32
  let c23_i32_902 : BitVec 32 := 23#32
  let c1_i32_903 : BitVec 32 := 1#32
  let v1398 : BitVec 32 := Scalar.muli c23_i32_902 c1_i32_903
  let v1399 : BitVec 32 := Scalar.addi c0_i32_904 v1398
  v1399.toNat
def k0_cond345 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_819 : BitVec 32 := 24#32
  let v1276 : BitVec 1 := Scalar.cmpi .ne v2 c24_i32_819
  let v1277 : BitVec 32 := Scalar.extui v1276
  let c0_i32_820 : BitVec 32 := 0#32
  let v1278 : BitVec 1 := Scalar.cmpi .ne v1277 c0_i32_820
  v1278

def k0_off435 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off436 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev186 : Nat :=
  let c0_i32_904 : BitVec 32 := 0#32
  let c24_i32_902 : BitVec 32 := 24#32
  let c1_i32_903 : BitVec 32 := 1#32
  let v1398 : BitVec 32 := Scalar.muli c24_i32_902 c1_i32_903
  let v1399 : BitVec 32 := Scalar.addi c0_i32_904 v1398
  v1399.toNat
def k0_cond346 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_821 : BitVec 32 := 25#32
  let v1279 : BitVec 1 := Scalar.cmpi .ne v2 c25_i32_821
  let v1280 : BitVec 32 := Scalar.extui v1279
  let c0_i32_822 : BitVec 32 := 0#32
  let v1281 : BitVec 1 := Scalar.cmpi .ne v1280 c0_i32_822
  v1281

def k0_off437 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off438 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev187 : Nat :=
  let c0_i32_904 : BitVec 32 := 0#32
  let c25_i32_902 : BitVec 32 := 25#32
  let c1_i32_903 : BitVec 32 := 1#32
  let v1398 : BitVec 32 := Scalar.muli c25_i32_902 c1_i32_903
  let v1399 : BitVec 32 := Scalar.addi c0_i32_904 v1398
  v1399.toNat
def k0_cond347 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_823 : BitVec 32 := 26#32
  let v1282 : BitVec 1 := Scalar.cmpi .ne v2 c26_i32_823
  let v1283 : BitVec 32 := Scalar.extui v1282
  let c0_i32_824 : BitVec 32 := 0#32
  let v1284 : BitVec 1 := Scalar.cmpi .ne v1283 c0_i32_824
  v1284

def k0_off439 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off440 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev188 : Nat :=
  let c0_i32_904 : BitVec 32 := 0#32
  let c26_i32_902 : BitVec 32 := 26#32
  let c1_i32_903 : BitVec 32 := 1#32
  let v1398 : BitVec 32 := Scalar.muli c26_i32_902 c1_i32_903
  let v1399 : BitVec 32 := Scalar.addi c0_i32_904 v1398
  v1399.toNat
def k0_cond348 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_825 : BitVec 32 := 27#32
  let v1285 : BitVec 1 := Scalar.cmpi .ne v2 c27_i32_825
  let v1286 : BitVec 32 := Scalar.extui v1285
  let c0_i32_826 : BitVec 32 := 0#32
  let v1287 : BitVec 1 := Scalar.cmpi .ne v1286 c0_i32_826
  v1287

def k0_off441 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off442 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev189 : Nat :=
  let c0_i32_904 : BitVec 32 := 0#32
  let c27_i32_902 : BitVec 32 := 27#32
  let c1_i32_903 : BitVec 32 := 1#32
  let v1398 : BitVec 32 := Scalar.muli c27_i32_902 c1_i32_903
  let v1399 : BitVec 32 := Scalar.addi c0_i32_904 v1398
  v1399.toNat
def k0_cond349 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_827 : BitVec 32 := 28#32
  let v1288 : BitVec 1 := Scalar.cmpi .ne v2 c28_i32_827
  let v1289 : BitVec 32 := Scalar.extui v1288
  let c0_i32_828 : BitVec 32 := 0#32
  let v1290 : BitVec 1 := Scalar.cmpi .ne v1289 c0_i32_828
  v1290

def k0_off443 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off444 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev190 : Nat :=
  let c0_i32_904 : BitVec 32 := 0#32
  let c28_i32_902 : BitVec 32 := 28#32
  let c1_i32_903 : BitVec 32 := 1#32
  let v1398 : BitVec 32 := Scalar.muli c28_i32_902 c1_i32_903
  let v1399 : BitVec 32 := Scalar.addi c0_i32_904 v1398
  v1399.toNat
def k0_cond350 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_829 : BitVec 32 := 29#32
  let v1291 : BitVec 1 := Scalar.cmpi .ne v2 c29_i32_829
  let v1292 : BitVec 32 := Scalar.extui v1291
  let c0_i32_830 : BitVec 32 := 0#32
  let v1293 : BitVec 1 := Scalar.cmpi .ne v1292 c0_i32_830
  v1293

def k0_off445 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off446 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev191 : Nat :=
  let c0_i32_904 : BitVec 32 := 0#32
  let c29_i32_902 : BitVec 32 := 29#32
  let c1_i32_903 : BitVec 32 := 1#32
  let v1398 : BitVec 32 := Scalar.muli c29_i32_902 c1_i32_903
  let v1399 : BitVec 32 := Scalar.addi c0_i32_904 v1398
  v1399.toNat
def k0_cond351 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_831 : BitVec 32 := 30#32
  let v1294 : BitVec 1 := Scalar.cmpi .ne v2 c30_i32_831
  let v1295 : BitVec 32 := Scalar.extui v1294
  let c0_i32_832 : BitVec 32 := 0#32
  let v1296 : BitVec 1 := Scalar.cmpi .ne v1295 c0_i32_832
  v1296

def k0_off447 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off448 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev192 : Nat :=
  let c0_i32_904 : BitVec 32 := 0#32
  let c30_i32_902 : BitVec 32 := 30#32
  let c1_i32_903 : BitVec 32 := 1#32
  let v1398 : BitVec 32 := Scalar.muli c30_i32_902 c1_i32_903
  let v1399 : BitVec 32 := Scalar.addi c0_i32_904 v1398
  v1399.toNat
def k0_cond352 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_833 : BitVec 32 := 31#32
  let v1297 : BitVec 1 := Scalar.cmpi .ne v2 c31_i32_833
  let v1298 : BitVec 32 := Scalar.extui v1297
  let c0_i32_834 : BitVec 32 := 0#32
  let v1299 : BitVec 1 := Scalar.cmpi .ne v1298 c0_i32_834
  v1299

def k0_off449 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off450 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_900 : BitVec 32 := 8#32
  let v1397 : BitVec 32 := Scalar.muli v2 c8_i32_900
  let c0_i32_905 : BitVec 32 := 0#32
  ![v1397.toNat, 0]
def k0_dev193 : Nat :=
  let c0_i32_904 : BitVec 32 := 0#32
  let c31_i32_902 : BitVec 32 := 31#32
  let c1_i32_903 : BitVec 32 := 1#32
  let v1398 : BitVec 32 := Scalar.muli c31_i32_902 c1_i32_903
  let v1399 : BitVec 32 := Scalar.addi c0_i32_904 v1398
  v1399.toNat
def k0_cond353 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_835 : BitVec 32 := 0#32
  let v1300 : BitVec 1 := Scalar.cmpi .ne v2 c0_i32_835
  let v1301 : BitVec 32 := Scalar.extui v1300
  let c0_i32_836 : BitVec 32 := 0#32
  let v1302 : BitVec 1 := Scalar.cmpi .ne v1301 c0_i32_836
  v1302

def k0_off451 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond354 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_837 : BitVec 32 := 1#32
  let v1303 : BitVec 1 := Scalar.cmpi .ne v2 c1_i32_837
  let v1304 : BitVec 32 := Scalar.extui v1303
  let c0_i32_838 : BitVec 32 := 0#32
  let v1305 : BitVec 1 := Scalar.cmpi .ne v1304 c0_i32_838
  v1305

def k0_off452 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond355 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_839 : BitVec 32 := 2#32
  let v1306 : BitVec 1 := Scalar.cmpi .ne v2 c2_i32_839
  let v1307 : BitVec 32 := Scalar.extui v1306
  let c0_i32_840 : BitVec 32 := 0#32
  let v1308 : BitVec 1 := Scalar.cmpi .ne v1307 c0_i32_840
  v1308

def k0_off453 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond356 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_841 : BitVec 32 := 3#32
  let v1309 : BitVec 1 := Scalar.cmpi .ne v2 c3_i32_841
  let v1310 : BitVec 32 := Scalar.extui v1309
  let c0_i32_842 : BitVec 32 := 0#32
  let v1311 : BitVec 1 := Scalar.cmpi .ne v1310 c0_i32_842
  v1311

def k0_off454 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond357 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_843 : BitVec 32 := 4#32
  let v1312 : BitVec 1 := Scalar.cmpi .ne v2 c4_i32_843
  let v1313 : BitVec 32 := Scalar.extui v1312
  let c0_i32_844 : BitVec 32 := 0#32
  let v1314 : BitVec 1 := Scalar.cmpi .ne v1313 c0_i32_844
  v1314

def k0_off455 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_907 : BitVec 32 := 0#32
  ![v1396.toNat, 0]
def k0_cond358 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_845 : BitVec 32 := 5#32
  let v1315 : BitVec 1 := Scalar.cmpi .ne v2 c5_i32_845
  let v1316 : BitVec 32 := Scalar.extui v1315
  let c0_i32_846 : BitVec 32 := 0#32
  let v1317 : BitVec 1 := Scalar.cmpi .ne v1316 c0_i32_846
  v1317

def k0_off456 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond359 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_847 : BitVec 32 := 6#32
  let v1318 : BitVec 1 := Scalar.cmpi .ne v2 c6_i32_847
  let v1319 : BitVec 32 := Scalar.extui v1318
  let c0_i32_848 : BitVec 32 := 0#32
  let v1320 : BitVec 1 := Scalar.cmpi .ne v1319 c0_i32_848
  v1320

def k0_off457 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond360 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_849 : BitVec 32 := 7#32
  let v1321 : BitVec 1 := Scalar.cmpi .ne v2 c7_i32_849
  let v1322 : BitVec 32 := Scalar.extui v1321
  let c0_i32_850 : BitVec 32 := 0#32
  let v1323 : BitVec 1 := Scalar.cmpi .ne v1322 c0_i32_850
  v1323

def k0_off458 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond361 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_851 : BitVec 32 := 8#32
  let v1324 : BitVec 1 := Scalar.cmpi .ne v2 c8_i32_851
  let v1325 : BitVec 32 := Scalar.extui v1324
  let c0_i32_852 : BitVec 32 := 0#32
  let v1326 : BitVec 1 := Scalar.cmpi .ne v1325 c0_i32_852
  v1326

def k0_off459 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond362 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_853 : BitVec 32 := 9#32
  let v1327 : BitVec 1 := Scalar.cmpi .ne v2 c9_i32_853
  let v1328 : BitVec 32 := Scalar.extui v1327
  let c0_i32_854 : BitVec 32 := 0#32
  let v1329 : BitVec 1 := Scalar.cmpi .ne v1328 c0_i32_854
  v1329

def k0_off460 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond363 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_855 : BitVec 32 := 10#32
  let v1330 : BitVec 1 := Scalar.cmpi .ne v2 c10_i32_855
  let v1331 : BitVec 32 := Scalar.extui v1330
  let c0_i32_856 : BitVec 32 := 0#32
  let v1332 : BitVec 1 := Scalar.cmpi .ne v1331 c0_i32_856
  v1332

def k0_off461 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond364 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_857 : BitVec 32 := 11#32
  let v1333 : BitVec 1 := Scalar.cmpi .ne v2 c11_i32_857
  let v1334 : BitVec 32 := Scalar.extui v1333
  let c0_i32_858 : BitVec 32 := 0#32
  let v1335 : BitVec 1 := Scalar.cmpi .ne v1334 c0_i32_858
  v1335

def k0_off462 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond365 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_859 : BitVec 32 := 12#32
  let v1336 : BitVec 1 := Scalar.cmpi .ne v2 c12_i32_859
  let v1337 : BitVec 32 := Scalar.extui v1336
  let c0_i32_860 : BitVec 32 := 0#32
  let v1338 : BitVec 1 := Scalar.cmpi .ne v1337 c0_i32_860
  v1338

def k0_off463 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond366 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_861 : BitVec 32 := 13#32
  let v1339 : BitVec 1 := Scalar.cmpi .ne v2 c13_i32_861
  let v1340 : BitVec 32 := Scalar.extui v1339
  let c0_i32_862 : BitVec 32 := 0#32
  let v1341 : BitVec 1 := Scalar.cmpi .ne v1340 c0_i32_862
  v1341

def k0_off464 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond367 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_863 : BitVec 32 := 14#32
  let v1342 : BitVec 1 := Scalar.cmpi .ne v2 c14_i32_863
  let v1343 : BitVec 32 := Scalar.extui v1342
  let c0_i32_864 : BitVec 32 := 0#32
  let v1344 : BitVec 1 := Scalar.cmpi .ne v1343 c0_i32_864
  v1344

def k0_off465 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond368 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_865 : BitVec 32 := 15#32
  let v1345 : BitVec 1 := Scalar.cmpi .ne v2 c15_i32_865
  let v1346 : BitVec 32 := Scalar.extui v1345
  let c0_i32_866 : BitVec 32 := 0#32
  let v1347 : BitVec 1 := Scalar.cmpi .ne v1346 c0_i32_866
  v1347

def k0_off466 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond369 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_867 : BitVec 32 := 16#32
  let v1348 : BitVec 1 := Scalar.cmpi .ne v2 c16_i32_867
  let v1349 : BitVec 32 := Scalar.extui v1348
  let c0_i32_868 : BitVec 32 := 0#32
  let v1350 : BitVec 1 := Scalar.cmpi .ne v1349 c0_i32_868
  v1350

def k0_off467 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond370 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_869 : BitVec 32 := 17#32
  let v1351 : BitVec 1 := Scalar.cmpi .ne v2 c17_i32_869
  let v1352 : BitVec 32 := Scalar.extui v1351
  let c0_i32_870 : BitVec 32 := 0#32
  let v1353 : BitVec 1 := Scalar.cmpi .ne v1352 c0_i32_870
  v1353

def k0_off468 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond371 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_871 : BitVec 32 := 18#32
  let v1354 : BitVec 1 := Scalar.cmpi .ne v2 c18_i32_871
  let v1355 : BitVec 32 := Scalar.extui v1354
  let c0_i32_872 : BitVec 32 := 0#32
  let v1356 : BitVec 1 := Scalar.cmpi .ne v1355 c0_i32_872
  v1356

def k0_off469 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond372 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_873 : BitVec 32 := 19#32
  let v1357 : BitVec 1 := Scalar.cmpi .ne v2 c19_i32_873
  let v1358 : BitVec 32 := Scalar.extui v1357
  let c0_i32_874 : BitVec 32 := 0#32
  let v1359 : BitVec 1 := Scalar.cmpi .ne v1358 c0_i32_874
  v1359

def k0_off470 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond373 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_875 : BitVec 32 := 20#32
  let v1360 : BitVec 1 := Scalar.cmpi .ne v2 c20_i32_875
  let v1361 : BitVec 32 := Scalar.extui v1360
  let c0_i32_876 : BitVec 32 := 0#32
  let v1362 : BitVec 1 := Scalar.cmpi .ne v1361 c0_i32_876
  v1362

def k0_off471 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond374 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_877 : BitVec 32 := 21#32
  let v1363 : BitVec 1 := Scalar.cmpi .ne v2 c21_i32_877
  let v1364 : BitVec 32 := Scalar.extui v1363
  let c0_i32_878 : BitVec 32 := 0#32
  let v1365 : BitVec 1 := Scalar.cmpi .ne v1364 c0_i32_878
  v1365

def k0_off472 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond375 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_879 : BitVec 32 := 22#32
  let v1366 : BitVec 1 := Scalar.cmpi .ne v2 c22_i32_879
  let v1367 : BitVec 32 := Scalar.extui v1366
  let c0_i32_880 : BitVec 32 := 0#32
  let v1368 : BitVec 1 := Scalar.cmpi .ne v1367 c0_i32_880
  v1368

def k0_off473 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond376 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_881 : BitVec 32 := 23#32
  let v1369 : BitVec 1 := Scalar.cmpi .ne v2 c23_i32_881
  let v1370 : BitVec 32 := Scalar.extui v1369
  let c0_i32_882 : BitVec 32 := 0#32
  let v1371 : BitVec 1 := Scalar.cmpi .ne v1370 c0_i32_882
  v1371

def k0_off474 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond377 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_883 : BitVec 32 := 24#32
  let v1372 : BitVec 1 := Scalar.cmpi .ne v2 c24_i32_883
  let v1373 : BitVec 32 := Scalar.extui v1372
  let c0_i32_884 : BitVec 32 := 0#32
  let v1374 : BitVec 1 := Scalar.cmpi .ne v1373 c0_i32_884
  v1374

def k0_off475 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond378 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_885 : BitVec 32 := 25#32
  let v1375 : BitVec 1 := Scalar.cmpi .ne v2 c25_i32_885
  let v1376 : BitVec 32 := Scalar.extui v1375
  let c0_i32_886 : BitVec 32 := 0#32
  let v1377 : BitVec 1 := Scalar.cmpi .ne v1376 c0_i32_886
  v1377

def k0_off476 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond379 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_887 : BitVec 32 := 26#32
  let v1378 : BitVec 1 := Scalar.cmpi .ne v2 c26_i32_887
  let v1379 : BitVec 32 := Scalar.extui v1378
  let c0_i32_888 : BitVec 32 := 0#32
  let v1380 : BitVec 1 := Scalar.cmpi .ne v1379 c0_i32_888
  v1380

def k0_off477 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond380 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_889 : BitVec 32 := 27#32
  let v1381 : BitVec 1 := Scalar.cmpi .ne v2 c27_i32_889
  let v1382 : BitVec 32 := Scalar.extui v1381
  let c0_i32_890 : BitVec 32 := 0#32
  let v1383 : BitVec 1 := Scalar.cmpi .ne v1382 c0_i32_890
  v1383

def k0_off478 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond381 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_891 : BitVec 32 := 28#32
  let v1384 : BitVec 1 := Scalar.cmpi .ne v2 c28_i32_891
  let v1385 : BitVec 32 := Scalar.extui v1384
  let c0_i32_892 : BitVec 32 := 0#32
  let v1386 : BitVec 1 := Scalar.cmpi .ne v1385 c0_i32_892
  v1386

def k0_off479 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond382 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_893 : BitVec 32 := 29#32
  let v1387 : BitVec 1 := Scalar.cmpi .ne v2 c29_i32_893
  let v1388 : BitVec 32 := Scalar.extui v1387
  let c0_i32_894 : BitVec 32 := 0#32
  let v1389 : BitVec 1 := Scalar.cmpi .ne v1388 c0_i32_894
  v1389

def k0_off480 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond383 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_895 : BitVec 32 := 30#32
  let v1390 : BitVec 1 := Scalar.cmpi .ne v2 c30_i32_895
  let v1391 : BitVec 32 := Scalar.extui v1390
  let c0_i32_896 : BitVec 32 := 0#32
  let v1392 : BitVec 1 := Scalar.cmpi .ne v1391 c0_i32_896
  v1392

def k0_off481 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
def k0_cond384 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_897 : BitVec 32 := 31#32
  let v1393 : BitVec 1 := Scalar.cmpi .ne v2 c31_i32_897
  let v1394 : BitVec 32 := Scalar.extui v1393
  let c0_i32_898 : BitVec 32 := 0#32
  let v1395 : BitVec 1 := Scalar.cmpi .ne v1394 c0_i32_898
  v1395

def k0_off482 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_899 : BitVec 32 := 8#32
  let v1396 : BitVec 32 := Scalar.muli v2 c8_i32_899
  let c0_i32_906 : BitVec 32 := 0#32
  ![v1396.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x256, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x256, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
/-
The kernel's body as a list of steps.

The printed body is one straight line of 384 conditionals (one per layer, kind of transfer and peer) with the loads and stores of the
three layers between them. Here each kind of step is written once, at a symbolic device `d` and a symbolic peer `j`, and a program is a
list of steps. `Parts.lean` shows that the printed parts are such lists.
-/
module

public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

/-- The device's own number, as the kernel computes it. -/
abbrev me (d : Dev nD) : BitVec 32 := Scalar.remsi (Scalar.divsi (Dev.word d) 1#32) 32#32
/-- "the peer `j` is another device", as the kernel computes it. -/
abbrev neq (d : Dev nD) (j : Fin 32) : BitVec 1 :=
  Scalar.cmpi .ne (Scalar.extui (Scalar.cmpi .ne (me d) (BitVec.ofNat 32 j.val)) : BitVec 32) 0#32

/-! ### The rectangles in range -/

theorem inb_sem (j : Fin 32) : ∀ a, (![j.val] : Fin 1 → ℕ) a + S1.size a ≤ S32.size a := by revert j; decide +kernel
theorem inb_rows (j : Fin 32) : ∀ a, (![8 * j.val, 0] : Fin 2 → ℕ) a + S8x256.size a ≤ S256x256.size a := by revert j; decide +kernel
theorem inb_slot (j : Fin 32) : ∀ a, (![j.val, 0, 0] : Fin 3 → ℕ) a + S1x8x256.size a ≤ S32x8x256.size a := by revert j; decide +kernel
theorem inb_grp (g : Fin 4) : ∀ a, (![64 * g.val, 0] : Fin 2 → ℕ) a + S64x256.size a ≤ S256x256.size a := by revert g; decide +kernel
theorem inb_sem_me (d : Dev nD) : ∀ a, (![(me d).toNat] : Fin 1 → ℕ) a + S1.size a ≤ S32.size a := by revert d; decide +kernel
theorem inb_rows_me (d : Dev nD) : ∀ a, (![(Scalar.muli (me d) 8#32).toNat, 0] : Fin 2 → ℕ) a + S8x256.size a ≤ S256x256.size a := by
  revert d; decide +kernel
theorem inb_slot_me (d : Dev nD) : ∀ a, (![(me d).toNat, 0, 0] : Fin 3 → ℕ) a + S1x8x256.size a ≤ S32x8x256.size a := by
  revert d; decide +kernel

/-! ### The pieces of the buffers -/

/-- Semaphore `j` of an array of 32. -/
abbrev semAt (s : DmaSems sig S32) (j : Fin 32) : DmaSems sig S_ :=
  (s.slice (Rect.unit (s := S32) ![j.val] S1.size (inb_sem j))).squeeze S_ squeezes_S1_S_
/-- Rows `8 j … 8 j + 7` of a 256×256 buffer. -/
abbrev rowsAt (b : Memref sig .tc .vmem S256x256 .f32) (j : Fin 32) : Memref sig .tc .vmem S8x256 .f32 :=
  b.slice (Rect.unit (s := S256x256) ![8 * j.val, 0] S8x256.size (inb_rows j)) (fun _ => rfl)
/-- Slot `j` of the 32×8×256 buffer. -/
abbrev slotAt (b : Memref sig .tc .vmem S32x8x256 .f32) (j : Fin 32) : Memref sig .tc .vmem S8x256 .f32 :=
  (b.slice (Rect.unit (s := S32x8x256) ![j.val, 0, 0] S1x8x256.size (inb_slot j)) (fun _ => rfl)).squeeze S8x256 squeezes_S1x8x256_S8x256

/-- The same three with the device's own number as the kernel computes it. -/
abbrev semMe (s : DmaSems sig S32) (d : Dev nD) : DmaSems sig S_ :=
  (s.slice (Rect.unit (s := S32) ![(me d).toNat] S1.size (inb_sem_me d))).squeeze S_ squeezes_S1_S_
abbrev rowsMe (b : Memref sig .tc .vmem S256x256 .f32) (d : Dev nD) : Memref sig .tc .vmem S8x256 .f32 :=
  b.slice (Rect.unit (s := S256x256) ![(Scalar.muli (me d) 8#32).toNat, 0] S8x256.size (inb_rows_me d)) (fun _ => rfl)
abbrev slotMe (b : Memref sig .tc .vmem S32x8x256 .f32) (d : Dev nD) : Memref sig .tc .vmem S8x256 .f32 :=
  (b.slice (Rect.unit (s := S32x8x256) ![(me d).toNat, 0, 0] S1x8x256.size (inb_slot_me d)) (fun _ => rfl)).squeeze S8x256 squeezes_S1x8x256_S8x256

/-! ### The steps -/

/-- Programs of one device; every step below ends by running what comes after it. -/
abbrev P (F : FTy → Type) (α : Type) : Type 1 := Prog (TpuEff nD τ sig (Elt F) Λ₀ .tc) α

variable {α : Type}

/-- Start of the transfer of the partial rows of `j` to device `j`. -/
def rsStart (part : Memref sig .tc .vmem S256x256 .f32) (rs : Memref sig .tc .vmem S32x8x256 .f32) (ss rr : DmaSems sig S32)
    (d : Dev nD) (j : Fin 32) (k : P F α) : P F α :=
  if h : neq d j = 1#1 then do
    Prog.lift (.enqueueDma (rowsAt part j) (.remote (Dev.tc (⟨j.val, j.isLt⟩ : Dev nD)) (slotMe rs d) (.dma (semAt ss j).sem))
      (.dma (semMe rr d).sem) (View.wordExact_bits rfl) ((View.wordExact_bits rfl).reshape _ _) ⟨⟨rfl, Or.inl rfl⟩, trivial⟩)
    k
  else k

/-- Wait for the partial rows from device `j` and for the own transfer to device `j`. -/
def rsWait (part : Memref sig .tc .vmem S256x256 .f32) (rs : Memref sig .tc .vmem S32x8x256 .f32) (ss rr : DmaSems sig S32)
    (d : Dev nD) (j : Fin 32) (k : P F α) : P F α :=
  if h : neq d j = 1#1 then do
    Prog.lift (.waitDma2 (semAt rr j).sem (rowsAt part j) (slotAt rs j) (View.wordExact_bits rfl) ((View.wordExact_bits rfl).reshape _ _))
    Prog.lift (.waitDma2 (semAt ss j).sem (slotAt rs j) (rowsAt part j) ((View.wordExact_bits rfl).reshape _ _) (View.wordExact_bits rfl))
    k
  else k

/-- Start of the transfer of the own reduced rows to device `j`. -/
def agStart (dst : Memref sig .tc .vmem S256x256 .f32) (ss rr : DmaSems sig S32) (d : Dev nD) (j : Fin 32) (k : P F α) : P F α :=
  if h : neq d j = 1#1 then do
    Prog.lift (.enqueueDma (rowsMe dst d) (.remote (Dev.tc (⟨j.val, j.isLt⟩ : Dev nD)) (rowsMe dst d) (.dma (semAt ss j).sem))
      (.dma (semMe rr d).sem) (View.wordExact_bits rfl) (View.wordExact_bits rfl) ⟨⟨rfl, Or.inl rfl⟩, trivial⟩)
    k
  else k

/-- Wait for the reduced rows of device `j` and for the own transfer to device `j`. -/
def agWait (dst : Memref sig .tc .vmem S256x256 .f32) (ss rr : DmaSems sig S32) (d : Dev nD) (j : Fin 32) (k : P F α) : P F α :=
  if h : neq d j = 1#1 then do
    Prog.lift (.waitDma2 (semAt rr j).sem (rowsMe dst d) (rowsAt dst j) (View.wordExact_bits rfl) (View.wordExact_bits rfl))
    Prog.lift (.waitDma2 (semAt ss j).sem (rowsAt dst j) (rowsMe dst d) (View.wordExact_bits rfl) (View.wordExact_bits rfl))
    k
  else k

/-- One layer's partial product of a group of 64 rows. -/
def comp (x : Memref sig .tc .vmem S256x256 .f32) (w1 : Memref sig .tc .vmem S256x512 .f32) (w2 : Memref sig .tc .vmem S512x256 .f32)
    (part : Memref sig .tc .vmem S256x256 .f32)
    (pay : Vec F S64x256 .f32 → Vec F S256x512 .f32 → Vec F S512x256 .f32 → FVec F S64x256 .f32) (g : Fin 4) (k : P F α) : P F α := do
  let v5 : Vec F S64x256 .f32 ← Prog.lift (.load x (Rect.unit (s := S256x256) ![64 * g.val, 0] S64x256.size (inb_grp g)).toLoadRect (View.loadsAt_vmem h_S64x256))
  let v8 : Vec F S256x512 .f32 ← Prog.lift (.load w1 (Rect.unit (s := S256x512) ![0, 0] S256x512.size inb_S256x512_S256x512_0_0).toLoadRect (View.loadsAt_vmem h_S256x512))
  let v15 : Vec F S512x256 .f32 ← Prog.lift (.load w2 (Rect.unit (s := S512x256) ![0, 0] S512x256.size inb_S512x256_S512x256_0_0).toLoadRect (View.loadsAt_vmem h_S512x256))
  let v19 : Vec F S64x256 .f32 ← Prog.lift (.load part (Rect.unit (s := S256x256) ![64 * g.val, 0] S64x256.size (inb_grp g)).toLoadRect (View.loadsAt_vmem h_S64x256))
  Prog.lift (.store part (Rect.unit (s := S256x256) ![64 * g.val, 0] S64x256.size (inb_grp g)) (pay v5 v8 v15) Finset.univ (View.stores_vmem_bits_univ h_S64x256 rfl) (.inl rfl))
  k

/-- The own partial rows into the own slot. -/
def own (part : Memref sig .tc .vmem S256x256 .f32) (rs : Memref sig .tc .vmem S32x8x256 .f32) (d : Dev nD) (k : P F α) : P F α := do
  let v171 : Vec F S8x256 .f32 ← Prog.lift (.load part (Rect.unit (s := S256x256) ![(Scalar.muli (me d) 8#32).toNat, 0] S8x256.size (inb_rows_me d)).toLoadRect (View.loadsAt_vmem h_S8x256))
  let v174 : Vec F S1x8x256 .f32 ← Prog.lift (.load rs (Rect.unit (s := S32x8x256) ![(me d).toNat, 0, 0] S1x8x256.size (inb_slot_me d)).toLoadRect (View.loadsAt_vmem h_S1x8x256))
  Prog.lift (.store rs (Rect.unit (s := S32x8x256) ![(me d).toNat, 0, 0] S1x8x256.size (inb_slot_me d)) (k0_pay8 v171) Finset.univ (View.stores_vmem_bits_univ h_S1x8x256 rfl) (.inl rfl))
  k

/-- The sum over the slots into the own rows of the layer's result. -/
def red (rs : Memref sig .tc .vmem S32x8x256 .f32) (dst : Memref sig .tc .vmem S256x256 .f32)
    (pay : Vec F S32x8x256 .f32 → FVec F S8x256 .f32) (d : Dev nD) (k : P F α) : P F α := do
  let v273 : Vec F S32x8x256 .f32 ← Prog.lift (.load rs (Rect.unit (s := S32x8x256) ![0, 0, 0] S32x8x256.size inb_S32x8x256_S32x8x256_0_0_0).toLoadRect (View.loadsAt_vmem h_S32x8x256))
  let v277 : Vec F S8x256 .f32 ← Prog.lift (.load dst (Rect.unit (s := S256x256) ![(Scalar.muli (me d) 8#32).toNat, 0] S8x256.size (inb_rows_me d)).toLoadRect (View.loadsAt_vmem h_S8x256))
  Prog.lift (.store dst (Rect.unit (s := S256x256) ![(Scalar.muli (me d) 8#32).toNat, 0] S8x256.size (inb_rows_me d)) (pay v273) Finset.univ (View.stores_vmem_bits_univ h_S8x256 rfl) (.inl rfl))
  k

/-! ### The kernel's buffers and its steps by layer -/

/-- The buffers and semaphore arrays the kernel is called with. -/
structure Env where
  a0 : Memref sig .tc .vmem S256x256 .f32
  a1 : Memref sig .tc .vmem S256x512 .f32
  a2 : Memref sig .tc .vmem S512x256 .f32
  a3 : Memref sig .tc .vmem S256x512 .f32
  a4 : Memref sig .tc .vmem S512x256 .f32
  a5 : Memref sig .tc .vmem S256x512 .f32
  a6 : Memref sig .tc .vmem S512x256 .f32
  a7 : Memref sig .tc .vmem S256x256 .f32
  a8 : Memref sig .tc .vmem S256x256 .f32
  a9 : Memref sig .tc .vmem S256x256 .f32
  a10 : Memref sig .tc .vmem S256x256 .f32
  a11 : Memref sig .tc .vmem S32x8x256 .f32
  a12 : DmaSems sig S32
  a13 : DmaSems sig S32
  a14 : DmaSems sig S32
  a15 : DmaSems sig S32

/-- The input of layer `l`, its two weights and its result. -/
def Env.src (E : Env) : Fin 3 → Memref sig .tc .vmem S256x256 .f32 | 0 => E.a0 | 1 => E.a9 | 2 => E.a10
def Env.win (E : Env) : Fin 3 → Memref sig .tc .vmem S256x512 .f32 | 0 => E.a1 | 1 => E.a3 | 2 => E.a5
def Env.wout (E : Env) : Fin 3 → Memref sig .tc .vmem S512x256 .f32 | 0 => E.a2 | 1 => E.a4 | 2 => E.a6
def Env.dst (E : Env) : Fin 3 → Memref sig .tc .vmem S256x256 .f32 | 0 => E.a9 | 1 => E.a10 | 2 => E.a7

/-- What layer `l` stores for a group of rows, from the rows and the two weights. -/
def gpay : Fin 3 → Vec F S64x256 .f32 → Vec F S256x512 .f32 → Vec F S512x256 .f32 → FVec F S64x256 .f32
  | 0 => k0_pay1 | 1 => k0_pay11 | 2 => k0_pay17
/-- What layer `l` stores for the own rows of its result, from the slots. -/
def rpay : Fin 3 → Vec F S32x8x256 .f32 → FVec F S8x256 .f32
  | 0 => fun v => k0_pay10 (k0_pay9 v) | 1 => k0_pay16 | 2 => k0_pay22

/-- A step of the kernel. -/
inductive Step where
  | rsS (l : Fin 3) (j : Fin 32)
  | rsW (l : Fin 3) (j : Fin 32)
  | agS (l : Fin 3) (j : Fin 32)
  | agW (l : Fin 3) (j : Fin 32)
  | comp (l : Fin 3) (g : Fin 4)
  | own (l : Fin 3)
  | red (l : Fin 3)
deriving DecidableEq

/-- A step's program on device `d`, then `k`. -/
def Step.run (E : Env) (d : Dev nD) (k : P F α) : Step → P F α
  | .rsS l j => rsStart E.a8 E.a11 E.a12 E.a14 d j k
  | .rsW l j => rsWait E.a8 E.a11 E.a12 E.a14 d j k
  | .agS l j => agStart (E.dst l) E.a13 E.a15 d j k
  | .agW l j => agWait (E.dst l) E.a13 E.a15 d j k
  | .comp l g => Pf.comp (E.src l) (E.win l) (E.wout l) E.a8 (gpay l) g k
  | .own l => Pf.own E.a8 E.a11 d k
  | .red l => Pf.red E.a11 (E.dst l) (rpay l) d k

/-- A list of steps, then `k`. -/
def runK (E : Env) (d : Dev nD) : List Step → P F α → P F α
  | [], k => k
  | s :: l, k => s.run E d (runK E d l k)

theorem runK_append (E : Env) (d : Dev nD) (l l' : List Step) (k : P F α) :
    runK E d (l ++ l') k = runK E d l (runK E d l' k) := by
  induction l with
  | nil => rfl
  | cons s l ih => exact congrArg (fun k => s.run E d k) ih

theorem run_bind (E : Env) (d : Dev nD) {β : Type} (s : Step) (k : P F α) (f : α → P F β) :
    s.run E d k >>= f = s.run E d (k >>= f) := by
  cases s with
  | rsS l j => unfold Step.run rsStart; dsimp only; split <;> rfl
  | rsW l j => unfold Step.run rsWait; dsimp only; split <;> rfl
  | agS l j => unfold Step.run agStart; dsimp only; split <;> rfl
  | agW l j => unfold Step.run agWait; dsimp only; split <;> rfl
  | comp l g => rfl
  | own l => rfl
  | red l => rfl

theorem runK_bind (E : Env) (d : Dev nD) {β : Type} (l : List Step) (k : P F α) (f : α → P F β) :
    runK E d l k >>= f = runK E d l (k >>= f) := by
  induction l with
  | nil => rfl
  | cons s l ih => exact (run_bind E d s _ f).trans (congrArg (fun k => s.run E d k) ih)

end Cert.KernelIdeal.Pf

end
-- ==== Proof.Parts.lean ====
/-
The printed body is the list of steps: one equation per printed part, and their chain.
-/
module

public import proofs.«01_k».proof.Proof.Steps

@[expose] public section

set_option maxRecDepth 65536

noncomputable section

namespace Cert.KernelIdeal.Pf

open Cert.KernelIdeal Cert.KernelIdeal.Gen
open Idealize.ShloMosaic Idealize.ShloMosaic.TcCoe Idealize.SL.Sem

variable {F : FTy → Type} [FloatOps F]

/-- The three stages of the test "the peer is another device" at which the printed parts are cut. -/
abbrev ne0 (d : Dev nD) (j : BitVec 32) : BitVec 1 := Scalar.cmpi .ne (me d) j
abbrev ne1 (d : Dev nD) (j : BitVec 32) : BitVec 32 := Scalar.extui (ne0 d j)
abbrev ne2 (d : Dev nD) (j : BitVec 32) : BitVec 1 := Scalar.cmpi .ne (ne1 d j) 0#32

/-- Two stretches of steps one after the other. -/
theorem chain {E : Env} {d : Dev nD} {α β : Type} {p : P F α} {a : α} {f : α → P F β} {l l' : List Step} {k : P F β}
    (h : p = runK E d l (pure a)) (h' : f a = runK E d l' k) : p >>= f = runK E d (l ++ l') k := by
  rw [h, runK_bind, runK_append]
  exact congrArg (runK E d l) h'

/-- The same for a stretch already followed by what comes after it. -/
theorem chainK {E : Env} {d : Dev nD} {β : Type} {p q : P F β} {l l' : List Step} {k : P F β}
    (h : p = runK E d l q) (h' : q = runK E d l' k) : p = runK E d (l ++ l') k := by
  rw [h, h', runK_append]

/-- Programs that begin with the same operation. -/
theorem opc {α β : Type} {e : TpuEff nD τ sig (Elt F) Λ₀ .tc β} {f f' : β → P F α} (h : ∀ v, f v = f' v) : Prog.op e f = Prog.op e f' :=
  congrArg (Prog.op e) (funext h)

variable (E : Env) (h0 : E.a0.IsWhole) (h1 : E.a1.IsWhole) (h2 : E.a2.IsWhole) (h3 : E.a3.IsWhole) (h4 : E.a4.IsWhole)
  (h5 : E.a5.IsWhole) (h6 : E.a6.IsWhole) (h7 : E.a7.IsWhole) (h8 : E.a8.IsWhole) (h9 : E.a9.IsWhole) (h10 : E.a10.IsWhole)
  (h11 : E.a11.IsWhole) (d : Dev nD)

/-! Parts 2–4: two products are cut, one before its store, one after its second load. -/

theorem part2_eq : k0_part2 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 2#32) =
    runK E d [.rsS 0 2, .rsS 0 3, .rsS 0 4, .rsS 0 5, .rsS 0 6, .rsS 0 7] (do
    let v : Vec F S64x256 .f32 ← Prog.lift (.load E.a0 (Rect.unit (s := S256x256) ![64 * ((1 : Fin 4)).val, 0] S64x256.size (inb_grp 1)).toLoadRect (View.loadsAt_vmem h_S64x256))
    let w : Vec F S256x512 .f32 ← Prog.lift (.load E.a1 (Rect.unit (s := S256x512) ![0, 0] S256x512.size inb_S256x512_S256x512_0_0).toLoadRect (View.loadsAt_vmem h_S256x512))
    let u : Vec F S512x256 .f32 ← Prog.lift (.load E.a2 (Rect.unit (s := S512x256) ![0, 0] S512x256.size inb_S512x256_S512x256_0_0).toLoadRect (View.loadsAt_vmem h_S512x256))
    let _z : Vec F S64x256 .f32 ← Prog.lift (.load E.a8 (Rect.unit (s := S256x256) ![64 * ((1 : Fin 4)).val, 0] S64x256.size (inb_grp 1)).toLoadRect (View.loadsAt_vmem h_S64x256))
    pure (k0_pay2 v w u)) := rfl

theorem part3_eq (y) : k0_part3 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) y = (do
    Prog.lift (.store E.a8 (Rect.unit (s := S256x256) ![64 * ((1 : Fin 4)).val, 0] S64x256.size (inb_grp 1)) (k0_pay3 y) Finset.univ (View.stores_vmem_bits_univ h_S64x256 rfl) (.inl rfl))
    runK E d [.rsS 0 8, .rsS 0 9, .rsS 0 10, .rsS 0 11, .rsS 0 12, .rsS 0 13, .rsS 0 14, .rsS 0 15] (do
    let v : Vec F S64x256 .f32 ← Prog.lift (.load E.a0 (Rect.unit (s := S256x256) ![64 * ((2 : Fin 4)).val, 0] S64x256.size (inb_grp 2)).toLoadRect (View.loadsAt_vmem h_S64x256))
    let w : Vec F S256x512 .f32 ← Prog.lift (.load E.a1 (Rect.unit (s := S256x512) ![0, 0] S256x512.size inb_S256x512_S256x512_0_0).toLoadRect (View.loadsAt_vmem h_S256x512))
    pure ⟨k0_pay4 v, k0_pay5 w⟩)) := rfl

theorem part4_eq (y z) : k0_part4 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) y z = (do
    let u : Vec F S512x256 .f32 ← Prog.lift (.load E.a2 (Rect.unit (s := S512x256) ![0, 0] S512x256.size inb_S512x256_S512x256_0_0).toLoadRect (View.loadsAt_vmem h_S512x256))
    let _z : Vec F S64x256 .f32 ← Prog.lift (.load E.a8 (Rect.unit (s := S256x256) ![64 * ((2 : Fin 4)).val, 0] S64x256.size (inb_grp 2)).toLoadRect (View.loadsAt_vmem h_S64x256))
    Prog.lift (.store E.a8 (Rect.unit (s := S256x256) ![64 * ((2 : Fin 4)).val, 0] S64x256.size (inb_grp 2)) (k0_pay6 y z u) Finset.univ (View.stores_vmem_bits_univ h_S64x256 rfl) (.inl rfl))
    runK E d [.rsS 0 16, .rsS 0 17, .rsS 0 18, .rsS 0 19, .rsS 0 20, .rsS 0 21] (pure ⟨⟩)) := rfl

theorem part234_eq {β : Type} (K : PUnit → P F β) :
    (k0_part2 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 2#32) >>= fun y =>
      k0_part3 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) y >>= fun r =>
      k0_part4 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) r.1 r.2 >>= K) =
    runK E d [.rsS 0 2, .rsS 0 3, .rsS 0 4, .rsS 0 5, .rsS 0 6, .rsS 0 7, .comp 0 1, .rsS 0 8, .rsS 0 9, .rsS 0 10, .rsS 0 11, .rsS 0 12, .rsS 0 13, .rsS 0 14, .rsS 0 15, .comp 0 2, .rsS 0 16, .rsS 0 17, .rsS 0 18, .rsS 0 19, .rsS 0 20, .rsS 0 21] (K ⟨⟩) := by
  rw [part2_eq, runK_bind]
  refine congrArg (runK E d [.rsS 0 2, .rsS 0 3, .rsS 0 4, .rsS 0 5, .rsS 0 6, .rsS 0 7]) ?_
  refine opc fun v => opc fun w => opc fun u => opc fun _z => ?_
  refine (congrArg (· >>= _) (part3_eq E h0 h1 h2 h3 h4 h5 h6 h7 h8 h9 h10 h11 d _)).trans (opc fun _ => ?_)
  refine (runK_bind E d _ _ _).trans (congrArg (runK E d [.rsS 0 8, .rsS 0 9, .rsS 0 10, .rsS 0 11, .rsS 0 12, .rsS 0 13, .rsS 0 14, .rsS 0 15]) ?_)
  refine opc fun v => opc fun w => ?_
  refine (congrArg (· >>= _) (part4_eq E h0 h1 h2 h3 h4 h5 h6 h7 h8 h9 h10 h11 d _ _)).trans (opc fun u => opc fun _ => opc fun _ => ?_)
  exact runK_bind E d _ _ _

theorem part5_eq : k0_part5 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.rsS 0 22, .rsS 0 23, .comp 0 3, .rsS 0 24, .rsS 0 25, .rsS 0 26, .rsS 0 27] (pure ⟨⟩) := rfl

theorem part6_eq : k0_part6 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.rsS 0 28, .rsS 0 29, .rsS 0 30, .rsS 0 31, .own 0, .rsW 0 0, .rsW 0 1, .rsW 0 2] (pure (ne2 d 3#32)) := rfl

theorem part7_eq : k0_part7 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne2 d 3#32) =
    runK E d [.rsW 0 3, .rsW 0 4, .rsW 0 5, .rsW 0 6, .rsW 0 7, .rsW 0 8, .rsW 0 9, .rsW 0 10, .rsW 0 11, .rsW 0 12] (pure (ne2 d 13#32)) := rfl

theorem part8_eq : k0_part8 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne2 d 13#32) =
    runK E d [.rsW 0 13, .rsW 0 14, .rsW 0 15, .rsW 0 16, .rsW 0 17, .rsW 0 18, .rsW 0 19, .rsW 0 20, .rsW 0 21, .rsW 0 22] (pure (ne2 d 23#32)) := rfl

/-! Parts 9 and 10: the sum of layer 0 is cut before its store. -/

theorem part9_eq : k0_part9 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne2 d 23#32) =
    runK E d [.rsW 0 23, .rsW 0 24, .rsW 0 25, .rsW 0 26, .rsW 0 27, .rsW 0 28, .rsW 0 29, .rsW 0 30, .rsW 0 31] (do
    let v : Vec F S32x8x256 .f32 ← Prog.lift (.load E.a11 (Rect.unit (s := S32x8x256) ![0, 0, 0] S32x8x256.size inb_S32x8x256_S32x8x256_0_0_0).toLoadRect (View.loadsAt_vmem h_S32x8x256))
    let w : Vec F S8x256 .f32 ← Prog.lift (.load E.a9 (Rect.unit (s := S256x256) ![(Scalar.muli (me d) 8#32).toNat, 0] S8x256.size (inb_rows_me d)).toLoadRect (View.loadsAt_vmem h_S8x256))
    pure ⟨k0_pay9 v, w⟩) := rfl

theorem part10_eq (y z) : k0_part10 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) y z = (do
    Prog.lift (.store E.a9 (Rect.unit (s := S256x256) ![(Scalar.muli (me d) 8#32).toNat, 0] S8x256.size (inb_rows_me d)) (k0_pay10 y) Finset.univ (View.stores_vmem_bits_univ h_S8x256 rfl) (.inl rfl))
    runK E d [.agS 0 0, .agS 0 1, .agS 0 2, .agS 0 3, .agS 0 4, .agS 0 5, .agS 0 6, .agS 0 7, .agS 0 8] (pure (ne1 d 9#32))) := rfl

theorem part910_eq {β : Type} (K : BitVec 32 → P F β) :
    (k0_part9 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne2 d 23#32) >>= fun r =>
      k0_part10 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) r.1 r.2 >>= K) =
    runK E d [.rsW 0 23, .rsW 0 24, .rsW 0 25, .rsW 0 26, .rsW 0 27, .rsW 0 28, .rsW 0 29, .rsW 0 30, .rsW 0 31, .red 0, .agS 0 0, .agS 0 1, .agS 0 2, .agS 0 3, .agS 0 4, .agS 0 5, .agS 0 6, .agS 0 7, .agS 0 8] (K (ne1 d 9#32)) := by
  rw [part9_eq, runK_bind]
  refine congrArg (runK E d [.rsW 0 23, .rsW 0 24, .rsW 0 25, .rsW 0 26, .rsW 0 27, .rsW 0 28, .rsW 0 29, .rsW 0 30, .rsW 0 31]) ?_
  refine opc fun v => opc fun w => ?_
  refine (congrArg (· >>= _) (part10_eq E h0 h1 h2 h3 h4 h5 h6 h7 h8 h9 h10 h11 d _ _)).trans (opc fun _ => ?_)
  exact runK_bind E d _ _ _

theorem part11_eq : k0_part11 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 9#32) =
    runK E d [.agS 0 9, .agS 0 10, .agS 0 11, .agS 0 12, .agS 0 13, .agS 0 14, .agS 0 15, .agS 0 16, .agS 0 17, .agS 0 18] (pure (ne1 d 19#32)) := rfl

theorem part12_eq : k0_part12 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 19#32) =
    runK E d [.agS 0 19, .agS 0 20, .agS 0 21, .agS 0 22, .agS 0 23, .agS 0 24, .agS 0 25, .agS 0 26, .agS 0 27, .agS 0 28] (pure (ne1 d 29#32)) := rfl

theorem part13_eq : k0_part13 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 29#32) =
    runK E d [.agS 0 29, .agS 0 30, .agS 0 31, .agW 0 0, .agW 0 1, .agW 0 2, .agW 0 3, .agW 0 4, .agW 0 5, .agW 0 6] (pure (ne1 d 7#32)) := rfl

theorem part14_eq : k0_part14 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 7#32) =
    runK E d [.agW 0 7, .comp 1 0, .rsS 1 0, .rsS 1 1, .rsS 1 2, .rsS 1 3] (pure ⟨⟩) := rfl

theorem part15_eq : k0_part15 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.rsS 1 4, .rsS 1 5, .rsS 1 6, .rsS 1 7, .agW 0 8, .agW 0 9, .agW 0 10, .agW 0 11, .agW 0 12, .agW 0 13] (pure ⟨⟩) := rfl

theorem part16_eq : k0_part16 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.agW 0 14, .agW 0 15, .comp 1 1, .rsS 1 8, .rsS 1 9, .rsS 1 10, .rsS 1 11] (pure 12#32) := rfl

theorem part17_eq : k0_part17 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (12#32) =
    runK E d [.rsS 1 12, .rsS 1 13, .rsS 1 14, .rsS 1 15, .agW 0 16, .agW 0 17, .agW 0 18, .agW 0 19, .agW 0 20, .agW 0 21] (pure 22#32) := rfl

theorem part18_eq : k0_part18 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (22#32) =
    runK E d [.agW 0 22, .agW 0 23, .comp 1 2, .rsS 1 16, .rsS 1 17, .rsS 1 18] (pure (ne1 d 19#32)) := rfl

theorem part19_eq : k0_part19 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 19#32) =
    runK E d [.rsS 1 19, .rsS 1 20, .rsS 1 21, .rsS 1 22, .rsS 1 23, .agW 0 24, .agW 0 25, .agW 0 26, .agW 0 27, .agW 0 28] (pure (ne1 d 29#32)) := rfl

theorem part20_eq : k0_part20 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 29#32) =
    runK E d [.agW 0 29, .agW 0 30, .agW 0 31, .comp 1 3, .rsS 1 24, .rsS 1 25] (pure ⟨⟩) := rfl

theorem part21_eq : k0_part21 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.rsS 1 26, .rsS 1 27, .rsS 1 28, .rsS 1 29, .rsS 1 30, .rsS 1 31, .own 1, .rsW 1 0, .rsW 1 1] (pure ⟨(ne1 d 2#32), 0#32⟩) := rfl

theorem part22_eq : k0_part22 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 2#32) (0#32) =
    runK E d [.rsW 1 2, .rsW 1 3, .rsW 1 4, .rsW 1 5, .rsW 1 6, .rsW 1 7, .rsW 1 8, .rsW 1 9, .rsW 1 10, .rsW 1 11] (pure ⟨(ne1 d 12#32), 0#32⟩) := rfl

theorem part23_eq : k0_part23 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 12#32) (0#32) =
    runK E d [.rsW 1 12, .rsW 1 13, .rsW 1 14, .rsW 1 15, .rsW 1 16, .rsW 1 17, .rsW 1 18, .rsW 1 19, .rsW 1 20, .rsW 1 21] (pure ⟨(ne1 d 22#32), 0#32⟩) := rfl

/-! Parts 24 and 25: the sum of layer 1 is cut before its store. -/

theorem part24_eq : k0_part24 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 22#32) (0#32) =
    runK E d [.rsW 1 22, .rsW 1 23, .rsW 1 24, .rsW 1 25, .rsW 1 26, .rsW 1 27, .rsW 1 28, .rsW 1 29, .rsW 1 30, .rsW 1 31] (do
    let v : Vec F S32x8x256 .f32 ← Prog.lift (.load E.a11 (Rect.unit (s := S32x8x256) ![0, 0, 0] S32x8x256.size inb_S32x8x256_S32x8x256_0_0_0).toLoadRect (View.loadsAt_vmem h_S32x8x256))
    pure v) := rfl

theorem part25_eq (y) : k0_part25 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) y = (do
    let w : Vec F S8x256 .f32 ← Prog.lift (.load E.a10 (Rect.unit (s := S256x256) ![(Scalar.muli (me d) 8#32).toNat, 0] S8x256.size (inb_rows_me d)).toLoadRect (View.loadsAt_vmem h_S8x256))
    Prog.lift (.store E.a10 (Rect.unit (s := S256x256) ![(Scalar.muli (me d) 8#32).toNat, 0] S8x256.size (inb_rows_me d)) (k0_pay16 y) Finset.univ (View.stores_vmem_bits_univ h_S8x256 rfl) (.inl rfl))
    runK E d [.agS 1 0, .agS 1 1, .agS 1 2, .agS 1 3, .agS 1 4, .agS 1 5, .agS 1 6, .agS 1 7] (pure (ne0 d 8#32))) := rfl

theorem part2425_eq {β : Type} (K : BitVec 1 → P F β) :
    (k0_part24 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 22#32) (0#32) >>= fun r =>
      k0_part25 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) r >>= K) =
    runK E d [.rsW 1 22, .rsW 1 23, .rsW 1 24, .rsW 1 25, .rsW 1 26, .rsW 1 27, .rsW 1 28, .rsW 1 29, .rsW 1 30, .rsW 1 31, .red 1, .agS 1 0, .agS 1 1, .agS 1 2, .agS 1 3, .agS 1 4, .agS 1 5, .agS 1 6, .agS 1 7] (K (ne0 d 8#32)) := by
  rw [part24_eq, runK_bind]
  refine congrArg (runK E d [.rsW 1 22, .rsW 1 23, .rsW 1 24, .rsW 1 25, .rsW 1 26, .rsW 1 27, .rsW 1 28, .rsW 1 29, .rsW 1 30, .rsW 1 31]) ?_
  refine opc fun v => ?_
  refine (congrArg (· >>= _) (part25_eq E h0 h1 h2 h3 h4 h5 h6 h7 h8 h9 h10 h11 d _)).trans (opc fun _ => opc fun _ => ?_)
  exact runK_bind E d _ _ _

theorem part26_eq : k0_part26 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 8#32) =
    runK E d [.agS 1 8, .agS 1 9, .agS 1 10, .agS 1 11, .agS 1 12, .agS 1 13, .agS 1 14, .agS 1 15, .agS 1 16, .agS 1 17] (pure (ne0 d 18#32)) := rfl

theorem part27_eq : k0_part27 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 18#32) =
    runK E d [.agS 1 18, .agS 1 19, .agS 1 20, .agS 1 21, .agS 1 22, .agS 1 23, .agS 1 24, .agS 1 25, .agS 1 26, .agS 1 27] (pure (ne0 d 28#32)) := rfl

theorem part28_eq : k0_part28 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 28#32) =
    runK E d [.agS 1 28, .agS 1 29, .agS 1 30, .agS 1 31, .agW 1 0, .agW 1 1, .agW 1 2, .agW 1 3, .agW 1 4, .agW 1 5] (pure (ne0 d 6#32)) := rfl

theorem part29_eq : k0_part29 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 6#32) =
    runK E d [.agW 1 6, .agW 1 7, .comp 2 0, .rsS 2 0, .rsS 2 1, .rsS 2 2] (pure ⟨(ne1 d 3#32), 0#32⟩) := rfl

theorem part30_eq : k0_part30 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 3#32) (0#32) =
    runK E d [.rsS 2 3, .rsS 2 4, .rsS 2 5, .rsS 2 6, .rsS 2 7, .agW 1 8, .agW 1 9, .agW 1 10, .agW 1 11, .agW 1 12] (pure ⟨(ne1 d 13#32), 0#32⟩) := rfl

theorem part31_eq : k0_part31 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 13#32) (0#32) =
    runK E d [.agW 1 13, .agW 1 14, .agW 1 15, .comp 2 1, .rsS 2 8, .rsS 2 9, .rsS 2 10] (pure ⟨⟩) := rfl

theorem part32_eq : k0_part32 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.rsS 2 11, .rsS 2 12, .rsS 2 13, .rsS 2 14, .rsS 2 15, .agW 1 16, .agW 1 17, .agW 1 18, .agW 1 19, .agW 1 20] (pure ⟨⟩) := rfl

theorem part33_eq : k0_part33 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) =
    runK E d [.agW 1 21, .agW 1 22, .agW 1 23, .comp 2 2, .rsS 2 16, .rsS 2 17] (pure (ne0 d 18#32)) := rfl

theorem part34_eq : k0_part34 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 18#32) =
    runK E d [.rsS 2 18, .rsS 2 19, .rsS 2 20, .rsS 2 21, .rsS 2 22, .rsS 2 23, .agW 1 24, .agW 1 25, .agW 1 26, .agW 1 27] (pure (ne0 d 28#32)) := rfl

theorem part35_eq : k0_part35 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne0 d 28#32) =
    runK E d [.agW 1 28, .agW 1 29, .agW 1 30, .agW 1 31, .comp 2 3, .rsS 2 24] (pure ⟨(ne1 d 25#32), 0#32⟩) := rfl

theorem part36_eq : k0_part36 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 25#32) (0#32) =
    runK E d [.rsS 2 25, .rsS 2 26, .rsS 2 27, .rsS 2 28, .rsS 2 29, .rsS 2 30, .rsS 2 31, .own 2, .rsW 2 0] (pure (ne1 d 1#32)) := rfl

theorem part37_eq : k0_part37 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 1#32) =
    runK E d [.rsW 2 1, .rsW 2 2, .rsW 2 3, .rsW 2 4, .rsW 2 5, .rsW 2 6, .rsW 2 7, .rsW 2 8, .rsW 2 9, .rsW 2 10] (pure (ne1 d 11#32)) := rfl

theorem part38_eq : k0_part38 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 11#32) =
    runK E d [.rsW 2 11, .rsW 2 12, .rsW 2 13, .rsW 2 14, .rsW 2 15, .rsW 2 16, .rsW 2 17, .rsW 2 18, .rsW 2 19, .rsW 2 20] (pure (ne1 d 21#32)) := rfl

theorem part39_eq : k0_part39 (F := F) E.a0 h0 E.a1 h1 E.a2 h2 E.a3 h3 E.a4 h4 E.a5 h5 E.a6 h6 E.a7 h7 E.a8 h8 E.a9 h9 E.a10 h10 E.a11 h11 E.a12 E.a13 E.a14 E.a15 (me d) (ne1 d 21#32) =
    runK E d [.rsW 2 21, .rsW 2 22, .rsW 2 23, .rsW 2 24, .rsW 2 25, .rsW 2 26, .rsW 2 27, .rsW 2 28, .rsW 2 29, .rsW 2 30] (pure (ne1 d 31#32)) := rfl

theorem part40_eq : k0_part40 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 31#32) =
    runK E d [.rsW 2 31, .red 2, .agS 2 0, .agS 2 1, .agS 2 2, .agS 2 3, .agS 2 4, .agS 2 5, .agS 2 6] (pure (ne1 d 7#32)) := rfl

theorem part41_eq : k0_part41 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 7#32) =
    runK E d [.agS 2 7, .agS 2 8, .agS 2 9, .agS 2 10, .agS 2 11, .agS 2 12, .agS 2 13, .agS 2 14, .agS 2 15, .agS 2 16] (pure (ne1 d 17#32)) := rfl

theorem part42_eq : k0_part42 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 17#32) =
    runK E d [.agS 2 17, .agS 2 18, .agS 2 19, .agS 2 20, .agS 2 21, .agS 2 22, .agS 2 23, .agS 2 24, .agS 2 25, .agS 2 26] (pure (ne1 d 27#32)) := rfl

theorem part43_eq : k0_part43 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 27#32) =
    runK E d [.agS 2 27, .agS 2 28, .agS 2 29, .agS 2 30, .agS 2 31, .agW 2 0, .agW 2 1, .agW 2 2, .agW 2 3, .agW 2 4] (pure (ne1 d 5#32)) := rfl

theorem part44_eq : k0_part44 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 5#32) =
    runK E d [.agW 2 5, .agW 2 6, .agW 2 7, .agW 2 8, .agW 2 9, .agW 2 10, .agW 2 11, .agW 2 12, .agW 2 13, .agW 2 14] (pure (ne1 d 15#32)) := rfl

theorem part45_eq : k0_part45 (F := F) E.a0 h0 E.a1 h1 E.a2 h2 E.a3 h3 E.a4 h4 E.a5 h5 E.a6 h6 E.a7 h7 E.a8 h8 E.a9 h9 E.a10 h10 E.a11 h11 E.a12 E.a13 E.a14 E.a15 d (me d) (ne1 d 15#32) =
    runK E d [.agW 2 15, .agW 2 16, .agW 2 17, .agW 2 18, .agW 2 19, .agW 2 20, .agW 2 21, .agW 2 22, .agW 2 23, .agW 2 24] (pure (ne1 d 25#32)) := rfl

/-! ### The whole body -/

/-- The part before the first step: the count of the others' signals. -/
abbrev preBody (E : Env) (h0 : E.a0.IsWhole) (h1 : E.a1.IsWhole) (h2 : E.a2.IsWhole) (h3 : E.a3.IsWhole) (h4 : E.a4.IsWhole)
    (h5 : E.a5.IsWhole) (h6 : E.a6.IsWhole) (h7 : E.a7.IsWhole) (h8 : E.a8.IsWhole) (h9 : E.a9.IsWhole) (h10 : E.a10.IsWhole)
    (h11 : E.a11.IsWhole) (d : Dev nD) {β : Type} (k : P F β) : P F β :=
  Scf.Loop.for k0_t1_loop k0_t1_ok ⟨⟩ (k0_t1_body E.a0 h0 E.a1 h1 E.a2 h2 E.a3 h3 E.a4 h4 E.a5 h5 E.a6 h6 E.a7 h7 E.a8 h8 E.a9 h9 E.a10 h10 E.a11 h11 E.a12 E.a13 E.a14 E.a15 d (SemArray.scalar (sig.barrier 0 rfl))) >>= fun _ =>
    semWaitWord (SemArray.scalar (sig.barrier 0 rfl) : Sems sig S_).sem 31#32 >>= fun _ => k

theorem part1_eq : k0_part1 (F := F) E.a0 h0 E.a1 h1 E.a2 h2 E.a3 h3 E.a4 h4 E.a5 h5 E.a6 h6 E.a7 h7 E.a8 h8 E.a9 h9 E.a10 h10 E.a11 h11 E.a12 E.a13 E.a14 E.a15 = Prog.op .deviceId (fun d => preBody E h0 h1 h2 h3 h4 h5 h6 h7 h8 h9 h10 h11 d
    (runK E d [.comp 0 0, .rsS 0 0, .rsS 0 1] (pure ⟨d, me d, ne1 d 2#32⟩))) := rfl

/-- The peers of group `g`, and all peers. -/
abbrev grp (g : Fin 4) : List (Fin 32) := (List.finRange 8).map fun i => ⟨8 * g.val + i.val, by omega⟩
abbrev allP : List (Fin 32) := List.finRange 32

/-- What a layer does after its last group: the exchange of the partial rows, the sum, the start of the exchange of its result. -/
abbrev tailSteps (l : Fin 3) : List Step := .own l :: allP.map (.rsW l) ++ .red l :: allP.map (.agS l)
/-- A layer's group of rows: the product and the starts of its transfers. -/
abbrev grpSteps (l : Fin 3) (g : Fin 4) : List Step := .comp l g :: (grp g).map (.rsS l)
/-- The first layer, and a later one, whose groups wait for the rows of the layer before. -/
abbrev firstSteps : List Step := (List.finRange 4).flatMap (fun g => grpSteps 0 g) ++ tailSteps 0
abbrev nextSteps (l' l : Fin 3) : List Step := (List.finRange 4).flatMap (fun g => (grp g).map (.agW l') ++ grpSteps l g) ++ tailSteps l
abbrev allSteps : List Step := firstSteps ++ (nextSteps 0 1 ++ (nextSteps 1 2 ++ allP.map (.agW 2)))

/-- The part before the first step may be followed by anything. -/
theorem pre_bind {β γ : Type} (k : P F β) (f : β → P F γ) : preBody E h0 h1 h2 h3 h4 h5 h6 h7 h8 h9 h10 h11 d k >>= f = preBody E h0 h1 h2 h3 h4 h5 h6 h7 h8 h9 h10 h11 d (k >>= f) := by
  refine (Prog.bind_assoc _ _ _).trans (congrArg (Prog.bind _) (funext fun _ => ?_))
  exact Prog.bind_assoc _ _ _

/-- The last three peers are waited for outside the printed parts. -/
abbrev lastSteps : List Step := [.agW 2 28, .agW 2 29, .agW 2 30, .agW 2 31]

theorem part46_eq : k0_part46 (F := F) E.a0 h0 E.a1 h1 E.a2 h2 E.a3 h3 E.a4 h4 E.a5 h5 E.a6 h6 E.a7 h7 E.a8 h8 E.a9 h9 E.a10 h10 E.a11 h11 E.a12 E.a13 E.a14 E.a15 = Prog.op .deviceId (fun d => preBody E h0 h1 h2 h3 h4 h5 h6 h7 h8 h9 h10 h11 d
    (runK E d (allSteps.take 398) (pure ⟨d, me d⟩))) := by
  rw [k0_part46_eq_skeleton]
  unfold k0_part46_skel
  rw [part1_eq E h0 h1 h2 h3 h4 h5 h6 h7 h8 h9 h10 h11]
  refine opc fun d => (pre_bind E h0 h1 h2 h3 h4 h5 h6 h7 h8 h9 h10 h11 d _ _).trans (congrArg (preBody E h0 h1 h2 h3 h4 h5 h6 h7 h8 h9 h10 h11 d) ?_)
  refine Eq.trans (chain rfl <| chainK (part234_eq E h0 h1 h2 h3 h4 h5 h6 h7 h8 h9 h10 h11 d _) <| chain (part5_eq E h0 h1 h2 h3 h4 h5 h6 h7 h8 h9 h10 h11 d) <| chain (part6_eq E h0 h1 h2 h3 h4 h5 h6 h7 h8 h9 h10 h11 d) <|
    chain (part7_eq E h0 h1 h2 h3 h4 h5 h6 h7 h8 h9 h10 h11 d) <| chain (part8_eq E h0 h1 h2 h3 h4 h5 h6 h7 h8 h9 h10 h11 d) <| chainK (part910_eq E h0 h1 h2 h3 h4 h5 h6 h7 h8 h9 h10 h11 d _) <|
    chain (part11_eq E h0 h1 h2 h3 h4 h5 h6 h7 h8 h9 h10 h11 d) <| chain (part12_eq E h0 h1 h2 h3 h4 h5 h6 h7 h8 h9 h10 h11 d) <| chain (part13_eq E h0 h1 h2 h3 h4 h5 h6 h7 h8 h9 h10 h11 d) <|
    chain (part14_eq E h0 h1 h2 h3 h4 h5 h6 h7 h8 h9 h10 h11 d) <| chain (part15_eq E h0 h1 h2 h3 h4 h5 h6 h7 h8 h9 h10 h11 d) <| chain (part16_eq E h0 h1 h2 h3 h4 h5 h6 h7 h8 h9 h10 h11 d) <|
    chain (part17_eq E h0 h1 h2 h3 h4 h5 h6 h7 h8 h9 h10 h11 d) <| chain (part18_eq E h0 h1 h2 h3 h4 h5 h6 h7 h8 h9 h10 h11 d) <| chain (part19_eq E h0 h1 h2 h3 h4 h5 h6 h7 h8 h9 h10 h11 d) <|
    chain (part20_eq E h0 h1 h2 h3 h4 h5 h6 h7 h8 h9 h10 h11 d) <| chain (part21_eq E h0 h1 h2 h3 h4 h5 h6 h7 h8 h9 h10 h11 d) <| chain (part22_eq E h0 h1 h2 h3 h4 h5 h6 h7 h8 h9 h10 h11 d) <|
    chain (part23_eq E h0 h1 h2 h3 h4 h5 h6 h7 h8 h9 h10 h11 d) <| chainK (part2425_eq E h0 h1 h2 h3 h4 h5 h6 h7 h8 h9 h10 h11 d _) <| chain (part26_eq E h0 h1 h2 h3 h4 h5 h6 h7 h8 h9 h10 h11 d) <|
    chain (part27_eq E h0 h1 h2 h3 h4 h5 h6 h7 h8 h9 h10 h11 d) <| chain (part28_eq E h0 h1 h2 h3 h4 h5 h6 h7 h8 h9 h10 h11 d) <| chain (part29_eq E h0 h1 h2 h3 h4 h5 h6 h7 h8 h9 h10 h11 d) <|
    chain (part30_eq E h0 h1 h2 h3 h4 h5 h6 h7 h8 h9 h10 h11 d) <| chain (part31_eq E h0 h1 h2 h3 h4 h5 h6 h7 h8 h9 h10 h11 d) <| chain (part32_eq E h0 h1 h2 h3 h4 h5 h6 h7 h8 h9 h10 h11 d) <|
    chain (part33_eq E h0 h1 h2 h3 h4 h5 h6 h7 h8 h9 h10 h11 d) <| chain (part34_eq E h0 h1 h2 h3 h4 h5 h6 h7 h8 h9 h10 h11 d) <| chain (part35_eq E h0 h1 h2 h3 h4 h5 h6 h7 h8 h9 h10 h11 d) <|
    chain (part36_eq E h0 h1 h2 h3 h4 h5 h6 h7 h8 h9 h10 h11 d) <| chain (part37_eq E h0 h1 h2 h3 h4 h5 h6 h7 h8 h9 h10 h11 d) <| chain (part38_eq E h0 h1 h2 h3 h4 h5 h6 h7 h8 h9 h10 h11 d) <|
    chain (part39_eq E h0 h1 h2 h3 h4 h5 h6 h7 h8 h9 h10 h11 d) <| chain (part40_eq E h0 h1 h2 h3 h4 h5 h6 h7 h8 h9 h10 h11 d) <| chain (part41_eq E h0 h1 h2 h3 h4 h5 h6 h7 h8 h9 h10 h11 d) <|
    chain (part42_eq E h0 h1 h2 h3 h4 h5 h6 h7 h8 h9 h10 h11 d) <| chain (part43_eq E h0 h1 h2 h3 h4 h5 h6 h7 h8 h9 h10 h11 d) <| chain (part44_eq E h0 h1 h2 h3 h4 h5 h6 h7 h8 h9 h10 h11 d) <|
    chain (part45_eq E h0 h1 h2 h3 h4 h5 h6 h7 h8 h9 h10 h11 d) <| (show _ = runK E d [.agW 2 25, .agW 2 26, .agW 2 27] (pure ⟨d, me d⟩) from rfl)) ?_
  exact congrArg (fun l : List Step => runK (F := F) E d l (pure (⟨d, me d⟩ : Σ' (_ : Dev nD), BitVec 32))) (by decide +kernel)

theorem body_eq : cc0_body (F := F) E.a0 h0 E.a1 h1 E.a2 h2 E.a3 h3 E.a4 h4 E.a5 h5 E.a6 h6 E.a7 h7 E.a8 h8 E.a9 h9 E.a10 h10 E.a11 h11 E.a12 E.a13 E.a14 E.a15 = Prog.op .deviceId (fun d => preBody E h0 h1 h2 h3 h4 h5 h6 h7 h8 h9 h10 h11 d
    (runK E d allSteps (pure ⟨⟩))) := by
  rw [cc0_body_eq_skeleton]
  unfold cc0_body_skel
  rw [part46_eq E h0 h1 h2 h3 h4 h5 h6 h7 h8 h9 h10 h11]
  refine opc fun d => (pre_bind E h0 h1 h2 h3 h4 h5 h6 h7 h8 h9 h10 h11 d _ _).trans (congrArg (preBody E h0 h1 h2 h3 h4 h5 h6 h7 h8 h9 h10 h11 d) ?_)
  refine Eq.trans (chain rfl (show _ = runK E d lastSteps (pure ⟨⟩) from rfl)) ?_
  exact congrArg (fun l : List Step => runK (F := F) E d l (pure PUnit.unit)) (by decide +kernel)

end Cert.KernelIdeal.Pf

end
-- ==== Proof.Own.lean ====
/-
Pieces of a buffer held by values.

`mPt m c S q x` says that device `c` holds the indices `S` of the memref `m` at the share `q`, and that they hold the values of `x`.
Splitting along index sets and shares, and what a load, a store and a landing do to such a piece, are proved here once for every memref.
-/
module

public import proofs.«01_k».proof.Proof.Steps
public import proofs.«01_k».proof.Proof.Parts
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ### The resource algebra -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ### Pieces held by values -/

section Piece
variable {sp : Space} {s : Shape} {e : EltTy}

def mPt (m : Memref sig .tc sp s e) (c : Dev nD) (S : Finset s.Idx) (q : PosShare TreeShare) (x : s.Idx → Elt F e) : sProp 𝕄 :=
  m.view.loc (c : Thread nD τ) ↦[S.map m.view.emb]{q} m.view.rep x

instance mPt_storable (m : Memref sig .tc sp s e) (c : Dev nD) (S : Finset s.Idx) (q : PosShare TreeShare) (x : s.Idx → Elt F e) :
    BI.Storable (upEmb : UEmb _ 𝕄) (mPt m c S q x) := by unfold mPt; infer_instance

/-- Contents of the buffer that read `x` on `S` are held by the values of `x`. -/
theorem mPt_of_read (m : Memref sig .tc sp s e) (c : Dev nD) (S : Finset s.Idx) (q : PosShare TreeShare) (x : s.Idx → Elt F e)
    (f : Buf (Elt F) (m.view.loc (c : Thread nD τ))) (h : ∀ i ∈ S, m.view.read (Elt F) f i = x i) :
    (m.view.loc (c : Thread nD τ) ↦[S.map m.view.emb]{q} f : sProp 𝕄) = mPt m c S q x :=
  pointsTo_congr fun i hi => by
    obtain ⟨y, hy, rfl⟩ := Finset.mem_map.mp hi
    rw [View.rep_emb, ← h y hy, View.read_apply, cast_cast, cast_eq]

theorem mPt_congr (m : Memref sig .tc sp s e) (c : Dev nD) (S : Finset s.Idx) (q : PosShare TreeShare) {x y : s.Idx → Elt F e}
    (h : ∀ i ∈ S, x i = y i) : (mPt m c S q x : sProp 𝕄) = mPt m c S q y :=
  mPt_of_read m c S q y (m.view.rep x) fun i hi => by rw [View.read_rep]; exact h i hi

theorem mPt_whole {m : Memref sig .tc sp s e} (hm : m.view.set = Finset.univ) (c : Dev nD) (q : PosShare TreeShare)
    (f : Buf (Elt F) (m.view.loc (c : Thread nD τ))) :
    (m.view.loc (c : Thread nD τ) ↦{q} f : sProp 𝕄) = mPt m c Finset.univ q (m.view.read (Elt F) f) := by
  rw [← mPt_of_read m c Finset.univ q _ f fun _ _ => rfl, ← hm]; rfl

theorem mPt_halves (m : Memref sig .tc sp s e) (c : Dev nD) (S : Finset s.Idx) (q : PosShare TreeShare)
    (x : s.Idx → Elt F e) : (mPt m c S q x : sProp 𝕄) = iprop(mPt m c S q.left x ∗ mPt m c S q.right x) :=
  have h : (m.view.loc (c : Thread nD τ) ↦[S.map m.view.emb]{q} m.view.rep x : sProp 𝕄) ⊣⊢ _ := pointsTo_share q.mem_left_op_right
  BI.equiv_iff.mp ⟨h.1, h.2⟩

theorem mPt_biUnion {T : Type} [DecidableEq T] (m : Memref sig .tc sp s e) (c : Dev nD) (A : Finset T) (K : T → Finset s.Idx)
    (q : PosShare TreeShare) (x : s.Idx → Elt F e) (h : ∀ t ∈ A, ∀ t' ∈ A, t ≠ t' → Disjoint (K t) (K t')) :
    (mPt m c (A.biUnion K) q x : sProp 𝕄) = bigSep A fun t => mPt m c (K t) q x := by
  unfold mPt
  rw [← pointsTo_biUnion (ℓ := m.view.loc (c : Thread nD τ)) A (fun t => (K t).map m.view.emb) fun t ht t' ht' hne => (Finset.disjoint_map _).mpr (h t ht t' ht' hne)]
  refine congrArg (fun S => m.view.loc (c : Thread nD τ) ↦[S]{q} m.view.rep x) ?_
  ext i; simp only [Finset.mem_map, Finset.mem_biUnion]; tauto

/-- Pieces at any values are one piece at some values. -/
theorem mPt_biUnion_any {T : Type} [DecidableEq T] (m : Memref sig .tc sp s e) (c : Dev nD) (A : Finset T) (K : T → Finset s.Idx)
    (q : PosShare TreeShare) (h : ∀ t ∈ A, ∀ t' ∈ A, t ≠ t' → Disjoint (K t) (K t')) :
    (bigSep A fun t => iprop(∃ x, mPt m c (K t) q x)) ⊢ (iprop(∃ x, mPt m c (A.biUnion K) q x) : sProp 𝕄) := by
  have hne : Nonempty (s.Idx → Elt F e) := ⟨fun _ => Classical.arbitrary _⟩
  refine (BI.bigSep_exists_pi A fun t (x : s.Idx → Elt F e) => mPt m c (K t) q x).trans ?_
  iintro ⟨%xs, H⟩
  ihave H := (Entails.of_eq (show (bigSep A fun t => (mPt m c (K t) q (xs t) : sProp 𝕄))
    = bigSep A fun t => (m.view.loc (c : Thread nD τ) ↦[(K t).map m.view.emb]{q} m.view.rep (xs t)) from rfl)) $$ H
  ihave H' := (pointsTo_biUnion_join (ℓ := m.view.loc (c : Thread nD τ)) (q := q) A (fun t => (K t).map m.view.emb) (fun t => m.view.rep (xs t)) (m.view.rep (Classical.arbitrary _))
    fun t ht t' ht' hne => (Finset.disjoint_map _).mpr (h t ht t' ht' hne)) $$ H
  icases H' with ⟨%g, -, H⟩
  iexists (m.view.read (Elt F) g)
  iapply (Entails.of_eq (mPt_of_read m c (A.biUnion K) q _ g fun _ _ => rfl))
  iapply (Entails.of_eq (congrArg (fun S => (m.view.loc (c : Thread nD τ) ↦[S]{q} g : sProp 𝕄))
    (show (A.biUnion fun t => (K t).map m.view.emb) = (A.biUnion K).map m.view.emb by
      ext i; simp only [Finset.mem_map, Finset.mem_biUnion]; tauto)))
  iexact H

/-! ### What the memory operations do to a piece -/

variable {α : Type} {Q : α → sProp (MT nD τ sig ℕ (Elt F) ℕ UU ℕ)}

/-- A load of a rectangle of the piece. -/
theorem wp_load_m {cs : CoreSpace} (m : Memref sig .tc cs s e) (c : Dev nD) (r : Rect s) {hl : m.view.LoadsAt r.toLoadRect}
    (S : Finset s.Idx) (hS : r.set ⊆ S) (q : PosShare TreeShare) (x : s.Idx → Elt F e)
    {k : (r.shape.Idx → Elt F e) → P F α} :
    (mPt m c S q x : sProp 𝕄)
      ⊢ iprop((mPt m c S q x -∗ wp frame (wpE (defs₀ (F := F)) 𝒱₀ (c : Thread nD τ) none) Set.univ (k fun y => x (r.emb y)) Q)
        -∗ wp frame (wpE (defs₀ (F := F)) 𝒱₀ (c : Thread nD τ) none) Set.univ (.op (.load m r.toLoadRect hl) k) Q) := by
  have h : (m.view.loc (c : Thread nD τ) ↦[S.map m.view.emb]{q} m.view.rep x : sProp 𝕄)
      ⊢ iprop(((m.view.loc (c : Thread nD τ) ↦[S.map m.view.emb]{q} m.view.rep x)
          -∗ wp frame (wpE (defs₀ (F := F)) 𝒱₀ (c : Thread nD τ) none) Set.univ (k (m.view.readAt (Elt F) r.toLoadRect (m.view.rep x))) Q)
        -∗ wp frame (wpE (defs₀ (F := F)) 𝒱₀ (c : Thread nD τ) none) Set.univ (.op (.load m r.toLoadRect hl) k) Q) := wp_load (Ix := ℕ) (Name := ℕ) (U := UU) (Lvl := ℕ) (defs := defs₀ (F := F)) 𝒱₀ (c : Thread nD τ) none Set.univ (m := m)
    (r := r.toLoadRect) (hl := hl) (k := k) (q := q) (f := m.view.rep x) (S := S.map m.view.emb) (Q := Q) (Finset.map_subset_map.mpr hS)
  rw [View.readAt_rep] at h
  exact h

/-- A store over a rectangle that is the whole piece. -/
theorem wp_store_m {cs : CoreSpace} (m : Memref sig .tc cs s e) (c : Dev nD) (r : Rect s) (w : r.shape.Idx → Elt F e)
    {hx : (m.access r).Stores Finset.univ} {hm : Finset.univ = Finset.univ ∨ ∀ a, r.stride a = 1}
    (x y : s.Idx → Elt F e) (hy : ∀ i, y (r.emb i) = w i) {k : PUnit → P F α} :
    (mPt m c r.set fullShare x : sProp 𝕄)
      ⊢ iprop((mPt m c r.set fullShare y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  have h : ((m.access r).loc (c : Thread nD τ) ↦[r.set.map m.view.emb]{fullShare} m.view.rep x : sProp 𝕄)
      ⊢ iprop((((m.access r).loc (c : Thread nD τ) ↦[r.set.map m.view.emb]{fullShare} (m.access r).write (Elt F) (m.view.rep x) w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := wp_store (Ix := ℕ) (Name := ℕ) (U := UU) (Lvl := ℕ) (defs := defs₀ (F := F)) 𝒱₀ (c : Thread nD τ) none Set.univ (m := m)
    (r := r) (w := w) (Mk := Finset.univ) (hx := hx) (hm := hm) (k := k) (f := m.view.rep x) (S := r.set.map m.view.emb) (Q := Q)
    (by rw [View.setOn_univ]; exact (View.set_slice m.view r).le)
  have hc : ((m.access r).loc (c : Thread nD τ) ↦[r.set.map m.view.emb]{fullShare} ((m.access r).write (Elt F) (m.view.rep x) w Finset.univ) : sProp 𝕄)
      = mPt m c r.set fullShare y := by
    refine mPt_of_read m c r.set fullShare y _ fun i hi => ?_
    rw [← Rect.map_emb_univ] at hi
    obtain ⟨j, -, rfl⟩ := Finset.mem_map.mp hi
    exact (View.read_slice_write_emb (v := m.view) r _ _ (Finset.mem_univ j)).trans (hy j).symm
  rw [hc] at h
  exact h

end Piece

end Cert.KernelIdeal.Pf

end
-- ==== Proof.Geom.lean ====
/-
The pieces of the kernel's buffers: blocks of eight rows, groups of 64 rows, slots. The values each holds in a layer, and where a
transfer puts them.
-/
module

public import proofs.«01_k».proof.Proof.Own
public import Idealize.ShloMosaic.Lib.Pipeline.ValueKit.Geometry

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ### Rectangles -/

abbrev rowR (j : Fin 32) : Rect S256x256 := Rect.unit (s := S256x256) ![8 * j.val, 0] S8x256.size (inb_rows j)
abbrev grpR (g : Fin 4) : Rect S256x256 := Rect.unit (s := S256x256) ![64 * g.val, 0] S64x256.size (inb_grp g)
abbrev slotR (j : Fin 32) : Rect S32x8x256 := Rect.unit (s := S32x8x256) ![j.val, 0, 0] S1x8x256.size (inb_slot j)

theorem mem_rowR {j : Fin 32} {i : S256x256.Idx} : i ∈ (rowR j).set ↔ (i 0).val / 8 = j.val := by
  have h1 := idx2_lt1 i
  rw [Rect.mem_set_unit, Fin.forall_fin_two]
  show ((8 * j.val ≤ (i 0).val ∧ (i 0).val < 8 * j.val + 8) ∧ (0 ≤ (i 1).val ∧ (i 1).val < 0 + 256)) ↔ _
  omega
theorem mem_grpR {g : Fin 4} {i : S256x256.Idx} : i ∈ (grpR g).set ↔ (i 0).val / 64 = g.val := by
  have h1 := idx2_lt1 i
  rw [Rect.mem_set_unit, Fin.forall_fin_two]
  show ((64 * g.val ≤ (i 0).val ∧ (i 0).val < 64 * g.val + 64) ∧ (0 ≤ (i 1).val ∧ (i 1).val < 0 + 256)) ↔ _
  omega
theorem mem_slotR {j : Fin 32} {i : S32x8x256.Idx} : i ∈ (slotR j).set ↔ (i 0).val = j.val := by
  have h1 : (i 1).val < 8 := (i 1).isLt
  have h2 : (i 2).val < 256 := (i 2).isLt
  rw [Rect.mem_set_unit]
  constructor
  · intro h; have h0 : j.val ≤ (i 0).val ∧ (i 0).val < j.val + 1 := h 0; omega
  · intro h a
    match a with
    | ⟨0, _⟩ => show j.val ≤ (i 0).val ∧ (i 0).val < j.val + 1; omega
    | ⟨1, _⟩ => show 0 ≤ (i 1).val ∧ (i 1).val < 0 + 8; omega
    | ⟨2, _⟩ => show 0 ≤ (i 2).val ∧ (i 2).val < 0 + 256; omega

theorem rows_disj {j j' : Fin 32} (h : j ≠ j') : Disjoint (rowR j).set (rowR j').set :=
  Finset.disjoint_left.mpr fun i hi hi' => h (Fin.ext ((mem_rowR.mp hi).symm.trans (mem_rowR.mp hi')))
theorem slots_disj {j j' : Fin 32} (h : j ≠ j') : Disjoint (slotR j).set (slotR j').set :=
  Finset.disjoint_left.mpr fun i hi hi' => h (Fin.ext ((mem_slotR.mp hi).symm.trans (mem_slotR.mp hi')))
theorem grps_disj {j j' : Fin 4} (h : j ≠ j') : Disjoint (grpR j).set (grpR j').set :=
  Finset.disjoint_left.mpr fun i hi hi' => h (Fin.ext ((mem_grpR.mp hi).symm.trans (mem_grpR.mp hi')))

/-- The blocks of a group. -/
def grpF (g : Fin 4) : Finset (Fin 32) := (grp g).toFinset
theorem mem_grpF {g : Fin 4} {j : Fin 32} : j ∈ grpF g ↔ j.val / 8 = g.val := by revert g j; decide +kernel

theorem grp_cover (g : Fin 4) : (grpF g).biUnion (fun j => (rowR j).set) = (grpR g).set := by
  ext i
  have h0 := idx2_lt0 i
  rw [Finset.mem_biUnion, mem_grpR]
  constructor
  · rintro ⟨j, hj, hi⟩; have h1 := mem_grpF.mp hj; have h2 := mem_rowR.mp hi; omega
  · intro h; exact ⟨⟨(i 0).val / 8, by omega⟩, mem_grpF.mpr (by show (i 0).val / 8 / 8 = _; omega), mem_rowR.mpr rfl⟩
theorem rows_cover : (Finset.univ : Finset (Fin 32)).biUnion (fun j => (rowR j).set) = Finset.univ := by
  ext i
  have h0 := idx2_lt0 i
  simp only [Finset.mem_biUnion, Finset.mem_univ, true_and, iff_true]
  exact ⟨⟨(i 0).val / 8, by omega⟩, mem_rowR.mpr rfl⟩
theorem slots_cover : (Finset.univ : Finset (Fin 32)).biUnion (fun j => (slotR j).set) = Finset.univ := by
  ext i
  have h0 : (i 0).val < 32 := (i 0).isLt
  simp only [Finset.mem_biUnion, Finset.mem_univ, true_and, iff_true]
  exact ⟨⟨(i 0).val, h0⟩, mem_slotR.mpr rfl⟩
theorem grpF_disj {g g' : Fin 4} (h : g ≠ g') : Disjoint (grpF g) (grpF g') :=
  Finset.disjoint_left.mpr fun j hj hj' => h (Fin.ext ((mem_grpF.mp hj).symm.trans (mem_grpF.mp hj')))
theorem grpF_cover : (Finset.univ : Finset (Fin 4)).biUnion grpF = Finset.univ := by decide +kernel

/-- A buffer split into its 32 blocks of rows, a group into its eight, the slots. -/
theorem mPt_rows (m : Memref sig .tc .vmem S256x256 .f32) (c : Dev nD) (q : PosShare TreeShare) (x : Vec F S256x256 .f32) :
    (mPt m c Finset.univ q x : sProp 𝕄) = bigSep Finset.univ fun j : Fin 32 => mPt m c (rowR j).set q x := by
  rw [← mPt_biUnion m c Finset.univ (fun j => (rowR j).set) q x fun t _ t' _ h => rows_disj h, rows_cover]
theorem mPt_grp (m : Memref sig .tc .vmem S256x256 .f32) (c : Dev nD) (g : Fin 4) (q : PosShare TreeShare) (x : Vec F S256x256 .f32) :
    (mPt m c (grpR g).set q x : sProp 𝕄) = bigSep (grpF g) fun j : Fin 32 => mPt m c (rowR j).set q x := by
  rw [← mPt_biUnion m c (grpF g) (fun j => (rowR j).set) q x fun t _ t' _ h => rows_disj h, grp_cover]
theorem mPt_slots (m : Memref sig .tc .vmem S32x8x256 .f32) (c : Dev nD) (q : PosShare TreeShare) (x : Vec F S32x8x256 .f32) :
    (mPt m c Finset.univ q x : sProp 𝕄) = bigSep Finset.univ fun j : Fin 32 => mPt m c (slotR j).set q x := by
  rw [← mPt_biUnion m c Finset.univ (fun j => (slotR j).set) q x fun t _ t' _ h => slots_disj h, slots_cover]

/-! ### The values of a layer -/

/-- The group of a row, the block of a row. -/
def gOf (i : S256x256.Idx) : Fin 4 := ⟨(i 0).val / 64, by have := idx2_lt0 i; omega⟩
def bOf (i : S256x256.Idx) : Fin 32 := ⟨(i 0).val / 8, by have := idx2_lt0 i; omega⟩

/-- The partial product of layer `l` on a device, from the layer's input and the device's two weights. -/
def partF (l : Fin 3) (X : Vec F S256x256 .f32) (w1 : Vec F S256x512 .f32) (w2 : Vec F S512x256 .f32) : Vec F S256x256 .f32 :=
  fun i => gpay l (fun y => X ((grpR (gOf i)).emb y)) w1 w2 (ix2 ⟨(i 0).val % 64, Nat.mod_lt _ (by decide)⟩ (i 1))

/-- What the slots of device `c` hold once every peer's rows have landed: slot `j` is the rows `c` of device `j`'s partial product. -/
def slotF (P : Dev nD → Vec F S256x256 .f32) (c : Dev nD) : Vec F S32x8x256 .f32 :=
  fun i => P (i 0) (ix2 ⟨8 * c.val + (i 1).val, by have h1 : (i 1).val < 8 := (i 1).isLt; have h2 := c.isLt; unfold nD at h2; omega⟩ (i 2))

/-- The result of layer `l`, from every device's partial product. -/
def outF (l : Fin 3) (P : Dev nD → Vec F S256x256 .f32) : Vec F S256x256 .f32 :=
  fun i => rpay l (slotF P (bOf i)) (ix2 ⟨(i 0).val % 8, Nat.mod_lt _ (by decide)⟩ (i 1))

theorem row_emb_0 (j : Fin 32) (y : S8x256.Idx) : ((rowR j).emb y 0).val = 8 * j.val + (y 0).val := ValueKit.rect_emb_unit_val (s := S256x256) ![8 * j.val, 0] S8x256.size (inb_rows j) y 0
theorem row_emb_1 (j : Fin 32) (y : S8x256.Idx) : ((rowR j).emb y 1).val = (y 1).val :=
  (ValueKit.rect_emb_unit_val (s := S256x256) ![8 * j.val, 0] S8x256.size (inb_rows j) y 1).trans (Nat.zero_add _)
theorem grp_emb_0 (g : Fin 4) (y : S64x256.Idx) : ((grpR g).emb y 0).val = 64 * g.val + (y 0).val := ValueKit.rect_emb_unit_val (s := S256x256) ![64 * g.val, 0] S64x256.size (inb_grp g) y 0
theorem grp_emb_1 (g : Fin 4) (y : S64x256.Idx) : ((grpR g).emb y 1).val = (y 1).val :=
  (ValueKit.rect_emb_unit_val (s := S256x256) ![64 * g.val, 0] S64x256.size (inb_grp g) y 1).trans (Nat.zero_add _)
theorem slot_emb_0 (j : Fin 32) (y : S1x8x256.Idx) : ((slotR j).emb y 0).val = j.val := by
  have h : (y 0).val < 1 := (y 0).isLt
  exact (ValueKit.rect_emb_unit_val (s := S32x8x256) ![j.val, 0, 0] S1x8x256.size (inb_slot j) y 0).trans (by show j.val + (y 0).val = j.val; omega)
theorem slot_emb_1 (j : Fin 32) (y : S1x8x256.Idx) : ((slotR j).emb y 1).val = (y 1).val :=
  (ValueKit.rect_emb_unit_val (s := S32x8x256) ![j.val, 0, 0] S1x8x256.size (inb_slot j) y 1).trans (Nat.zero_add _)
theorem slot_emb_2 (j : Fin 32) (y : S1x8x256.Idx) : ((slotR j).emb y 2).val = (y 2).val :=
  (ValueKit.rect_emb_unit_val (s := S32x8x256) ![j.val, 0, 0] S1x8x256.size (inb_slot j) y 2).trans (Nat.zero_add _)

theorem partF_grp (l : Fin 3) (X : Vec F S256x256 .f32) (w1 : Vec F S256x512 .f32) (w2 : Vec F S512x256 .f32) (g : Fin 4) (y : S64x256.Idx) :
    partF l X w1 w2 ((grpR g).emb y) = gpay l (fun y => X ((grpR g).emb y)) w1 w2 y := by
  have hy : (y 0).val < 64 := idx2_lt0 y
  have hg : gOf ((grpR g).emb y) = g := Fin.ext (by show ((grpR g).emb y 0).val / 64 = g.val; rw [grp_emb_0]; omega)
  unfold partF
  rw [hg]
  refine congrArg _ ((eq_ix2 (n0 := 64) (n1 := 256) y).trans ?_).symm
  congr 1
  · exact Fin.ext (by show (y 0).val = ((grpR g).emb y 0).val % 64; rw [grp_emb_0]; omega)
  · exact Fin.ext (grp_emb_1 g y).symm

theorem outF_row (l : Fin 3) (P : Dev nD → Vec F S256x256 .f32) (c : Dev nD) (y : S8x256.Idx) :
    outF l P ((rowR c).emb y) = rpay l (slotF P c) y := by
  have hy : (y 0).val < 8 := idx2_lt0 y
  have hb : bOf ((rowR c).emb y) = c := Fin.ext (by show ((rowR c).emb y 0).val / 8 = c.val; rw [row_emb_0]; omega)
  unfold outF
  rw [hb]
  refine congrArg _ ((eq_ix2 (n0 := 8) (n1 := 256) y).trans ?_).symm
  congr 1
  · exact Fin.ext (by show (y 0).val = ((rowR c).emb y 0).val % 8; rw [row_emb_0]; omega)
  · exact Fin.ext (row_emb_1 c y).symm

/-- Slot `j` of `c` at an index of a 1×8×256 block. -/
theorem slotF_slot (P : Dev nD → Vec F S256x256 .f32) (c : Dev nD) (j : Fin 32) (a : Fin 1) (y : S8x256.Idx) :
    slotF P c ((slotR j).emb (ix3 a (y 0) (y 1))) = P j ((rowR c).emb y) := by
  unfold slotF
  have h0 : (slotR j).emb (ix3 a (y 0) (y 1)) 0 = j := Fin.ext (slot_emb_0 j _)
  rw [h0]
  refine congrArg (P j) ?_
  refine Eq.trans ?_ (eq_ix2 (n0 := 256) (n1 := 256) ((rowR c).emb y)).symm
  congr 1
  · exact Fin.ext (by show 8 * c.val + ((slotR j).emb (ix3 a (y 0) (y 1)) 1).val = ((rowR c).emb y 0).val; rw [slot_emb_1, row_emb_0])

/-! ### Where a transfer puts its rows -/

theorem rows_set (b : Memref sig .tc .vmem S256x256 .f32) (j : Fin 32) : (rowsAt b j).view.set = (rowR j).set.map b.view.emb := View.set_slice _ _
theorem slot_set (b : Memref sig .tc .vmem S32x8x256 .f32) (j : Fin 32) : (slotAt b j).view.set = (slotR j).set.map b.view.emb :=
  (View.set_reshape _ _).trans (View.set_slice _ _)

theorem read_rows (b : Memref sig .tc .vmem S256x256 .f32) (j : Fin 32) (x : Vec F S256x256 .f32) :
    (rowsAt b j).view.read (Elt F) (b.view.rep x) = fun y => x ((rowR j).emb y) := by
  funext y; exact congrFun (View.read_rep b.view x) ((rowR j).emb y)

theorem land_rows (b : Memref sig .tc .vmem S256x256 .f32) (c : Dev nD) (j : Fin 32) (fd : Buf (Elt F) (b.view.loc (c : Thread nD τ)))
    (w : Vec F S8x256 .f32) (x : Vec F S256x256 .f32) (h : ∀ y, x ((rowR j).emb y) = w y) :
    ((rowsAt b j).view.loc (c : Thread nD τ) ↦[(rowsAt b j).view.set]{fullShare} (rowsAt b j).view.write (Elt F) fd w Finset.univ : sProp 𝕄)
      = mPt b c (rowR j).set fullShare x := by
  rw [rows_set]
  refine mPt_of_read b c (rowR j).set fullShare x _ fun i hi => ?_
  rw [← Rect.map_emb_univ] at hi
  obtain ⟨y, -, rfl⟩ := Finset.mem_map.mp hi
  exact (View.read_slice_write_emb (v := b.view) (rowR j) _ _ (Finset.mem_univ y)).trans (h y).symm

theorem land_slot (b : Memref sig .tc .vmem S32x8x256 .f32) (c : Dev nD) (j : Fin 32) (fd : Buf (Elt F) (b.view.loc (c : Thread nD τ)))
    (w : Vec F S8x256 .f32) (x : Vec F S32x8x256 .f32) (h : ∀ y : S8x256.Idx, x ((slotR j).emb (ix3 0 (y 0) (y 1))) = w y) :
    ((slotAt b j).view.loc (c : Thread nD τ) ↦[(slotAt b j).view.set]{fullShare} (slotAt b j).view.write (Elt F) fd w Finset.univ : sProp 𝕄)
      = mPt b c (slotR j).set fullShare x := by
  rw [slot_set]
  refine mPt_of_read b c (slotR j).set fullShare x _ fun i hi => ?_
  rw [← Rect.map_emb_univ] at hi
  obtain ⟨z, -, rfl⟩ := Finset.mem_map.mp hi
  have hz : z = Shape.reshapeEquiv squeezes_S1x8x256_S8x256.numel_eq (ix2 (z 1) (z 2) : S8x256.Idx) := by
    refine ((reshapeEquiv_ix2_1ab (a := 8) (b := 256) _ (z 1) (z 2)).trans ?_).symm
    refine Eq.trans ?_ (eq_ix3 (n0 := 1) (n1 := 8) (n2 := 256) z).symm
    congr 1
    exact Fin.ext (by have h : (z 0).val < 1 := (z 0).isLt; show 0 = (z 0).val; omega)
  have h1 : b.view.read (Elt F) ((slotAt b j).view.write (Elt F) fd w Finset.univ) ((slotR j).emb z) = w (ix2 (z 1) (z 2)) := by
    conv_lhs => rw [hz]
    exact View.read_write_of_mem (v := (slotAt b j).view) fd w (Finset.mem_univ (ix2 (z 1) (z 2) : S8x256.Idx))
  rw [h1, ← h]
  congr 2
  refine Eq.trans ?_ (eq_ix3 (n0 := 1) (n1 := 8) (n2 := 256) z).symm
  congr 1
  exact Fin.ext (by have h : (z 0).val < 1 := (z 0).isLt; show 0 = (z 0).val; omega)

/-! ### Shares: a piece kept for loads, and 32 pieces lent to the transfers -/

abbrev ldSh : PosShare TreeShare := fullShare.left
/-- What stays after `n` pieces were lent, each the right half of what was left. -/
def keptSh : ℕ → PosShare TreeShare
  | 0 => fullShare.right
  | n + 1 => (keptSh n).left
def lendSh (j : ℕ) : PosShare TreeShare := (keptSh j).right

theorem lend_split {sp : Space} {s : Shape} {e : EltTy} (m : Memref sig .tc sp s e) (c : Dev nD) (S : Finset s.Idx) (x : s.Idx → Elt F e) (n : ℕ) :
    (mPt m c S fullShare.right x : sProp 𝕄) = iprop(mPt m c S (keptSh n) x ∗ bigSep (Finset.range n) fun j => mPt m c S (lendSh j) x) := by
  induction n with
  | zero =>
    rw [Finset.range_zero, bigSep_empty]
    exact BI.equiv_iff.mp ⟨(sep_emp (PROP := sProp 𝕄)).2, (sep_emp (PROP := sProp 𝕄)).1⟩
  | succ n ih =>
    rw [ih, Finset.range_add_one, bigSep_insert Finset.notMem_range_self, mPt_halves m c S (keptSh n) x]
    exact BI.equiv_iff.mp ⟨Idealize.SL.BI.sep_assoc, Idealize.SL.BI.sep_assoc'⟩

theorem lend_fin {sp : Space} {s : Shape} {e : EltTy} (m : Memref sig .tc sp s e) (c : Dev nD) (S : Finset s.Idx) (x : s.Idx → Elt F e) :
    (mPt m c S fullShare.right x : sProp 𝕄) = iprop(mPt m c S (keptSh 32) x ∗ bigSep Finset.univ fun j : Fin 32 => mPt m c S (lendSh j.val) x) := by
  rw [lend_split m c S x 32, show Finset.range 32 = (Finset.univ : Finset (Fin 32)).map Fin.valEmbedding by decide +kernel, bigSep_map]
  rfl

end Cert.KernelIdeal.Pf

end
-- ==== Proof.Sched.lean ====
/-
The schedule of the kernel's semaphores.

Every device has one barrier cell and, for each other device, four transfer cells: the send and the receive semaphore of the exchange of
partial rows, and the same two of the exchange of reduced rows. The barrier cell has one round, a transfer cell three (one per layer). Here:
the values, the cells, what each round hands over, what a device owes before each step, and the levels of the waits.
-/
module

public import proofs.«01_k».proof.Proof.Geom

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ### The values -/

/-- What the devices' arguments hold. -/
structure Vals (F : FTy → Type) where
  x : Dev nD → Vec F S256x256 .f32
  w1 : Fin 3 → Dev nD → Vec F S256x512 .f32
  w2 : Fin 3 → Dev nD → Vec F S512x256 .f32

namespace Vals
variable (V : Vals F)
def pOf (l : Fin 3) (X : Dev nD → Vec F S256x256 .f32) (c : Dev nD) : Vec F S256x256 .f32 := partF l (X c) (V.w1 l c) (V.w2 l c)
def y0 : Vec F S256x256 .f32 := outF 0 (V.pOf 0 V.x)
def y1 : Vec F S256x256 .f32 := outF 1 (V.pOf 1 fun _ => V.y0)
def y2 : Vec F S256x256 .f32 := outF 2 (V.pOf 2 fun _ => V.y1)
/-- The input of layer `l` on a device. -/
def xv : Fin 3 → Dev nD → Vec F S256x256 .f32 | 0 => V.x | 1 => fun _ => V.y0 | 2 => fun _ => V.y1
/-- The partial product of layer `l` on a device. -/
def pv (l : Fin 3) : Dev nD → Vec F S256x256 .f32 := V.pOf l (V.xv l)
/-- The result of layer `l`. -/
def yv : Fin 3 → Vec F S256x256 .f32 | 0 => V.y0 | 1 => V.y1 | 2 => V.y2
theorem yv_eq (l : Fin 3) : V.yv l = outF l (V.pv l) := by
  match l with
  | 0 => rfl
  | 1 => rfl
  | 2 => rfl
end Vals

/-! ### The buffers and the cells -/

def E0 : Env where
  a0 := Memref.whole cc0_stg0_0
  a1 := Memref.whole cc0_stg1_0
  a2 := Memref.whole cc0_stg2_0
  a3 := Memref.whole cc0_stg3_0
  a4 := Memref.whole cc0_stg4_0
  a5 := Memref.whole cc0_stg5_0
  a6 := Memref.whole cc0_stg6_0
  a7 := Memref.whole cc0_stg7_0
  a8 := Memref.whole cc0_scratch0
  a9 := Memref.whole cc0_scratch1
  a10 := Memref.whole cc0_scratch2
  a11 := Memref.whole cc0_scratch3
  a12 := cc0_scratch4
  a13 := cc0_scratch5
  a14 := cc0_scratch6
  a15 := cc0_scratch7

abbrev part : Memref sig .tc .vmem S256x256 .f32 := E0.a8
abbrev rs : Memref sig .tc .vmem S32x8x256 .f32 := E0.a11

/-- The barrier semaphore; transfer semaphore `j` of kind `k`: 0 and 1 the sends of partial and of reduced rows, 2 and 3 the receives. -/
abbrev barS : Sem sig := (SemArray.scalar (sig.barrier 0 rfl) : Sems sig S_).sem
def dsem (k : Fin 4) (j : Fin 32) : DmaSem sig := ⟨8 + 32 * k.val + j.val, by have := k.isLt; have := j.isLt; show _ < 136; omega⟩
def kOf (q : DmaSem sig) : Fin 4 := ⟨(q.val - 8) / 32 % 4, Nat.mod_lt _ (by decide)⟩
def jOf (q : DmaSem sig) : Fin 32 := ⟨(q.val - 8) % 32, Nat.mod_lt _ (by decide)⟩
theorem kOf_dsem (k : Fin 4) (j : Fin 32) : kOf (dsem k j) = k :=
  Fin.ext (by have := k.isLt; have := j.isLt; show (8 + 32 * k.val + j.val - 8) / 32 % 4 = k.val; omega)
theorem jOf_dsem (k : Fin 4) (j : Fin 32) : jOf (dsem k j) = j :=
  Fin.ext (by have := k.isLt; have := j.isLt; show (8 + 32 * k.val + j.val - 8) % 32 = j.val; omega)
theorem le_dsem (k : Fin 4) (j : Fin 32) : 8 ≤ (dsem k j).val := by show 8 ≤ 8 + 32 * k.val + j.val; omega
theorem dsem_inj {k k' : Fin 4} {j j' : Fin 32} (h : dsem k j = dsem k' j') : k = k' ∧ j = j' :=
  ⟨by rw [← kOf_dsem k j, h, kOf_dsem], by rw [← jOf_dsem k j, h, jOf_dsem]⟩

theorem sem12 (j : Fin 32) : (semAt E0.a12 j).sem = dsem 0 j := by revert j; decide +kernel
theorem sem13 (j : Fin 32) : (semAt E0.a13 j).sem = dsem 1 j := by revert j; decide +kernel
theorem sem14 (j : Fin 32) : (semAt E0.a14 j).sem = dsem 2 j := by revert j; decide +kernel
theorem sem15 (j : Fin 32) : (semAt E0.a15 j).sem = dsem 3 j := by revert j; decide +kernel
theorem semMe14 (c : Dev nD) : (semMe E0.a14 c).sem = dsem 2 c := by revert c; decide +kernel
theorem semMe15 (c : Dev nD) : (semMe E0.a15 c).sem = dsem 3 c := by revert c; decide +kernel

abbrev bar (c : Dev nD) : GSem nD τ sig := ((c : Thread nD τ), .reg barS)
abbrev xc (c : Dev nD) (k : Fin 4) (j : Fin 32) : GSem nD τ sig := ((c : Thread nD τ), .dma (dsem k j))

theorem xc_inj {c c' : Dev nD} {k k' : Fin 4} {j j' : Fin 32} (h : xc c k j = xc c' k' j') : c = c' ∧ k = k' ∧ j = j' :=
  ⟨congrArg (fun g : GSem nD τ sig => g.1.1) h, dsem_inj (by have h2 := congrArg Prod.snd h; exact SemLoc.dma.inj h2)⟩

/-- The credit of a block of eight rows. -/
def N : ℕ := (rowsAt part 0).view.dmaCredit
theorem N_pos : 0 < N := View.dmaCredit_pos _ (by decide)

/-! ### What each round hands over -/

section Sched
variable (V : Vals F)

/-- A piece at some values. -/
def anyPt {sp : Space} {s : Shape} {e : EltTy} (m : Memref sig .tc sp s e) (c : Dev nD) (S : Finset s.Idx) : sProp 𝕄 :=
  iprop(∃ x, mPt m c S fullShare x)
instance anyPt_storable {sp : Space} {s : Shape} {e : EltTy} (m : Memref sig .tc sp s e) (c : Dev nD) (S : Finset s.Idx) :
    BI.Storable (upEmb : UEmb _ 𝕄) (anyPt (F := F) m c S) := by unfold anyPt; infer_instance
theorem anyPt_intro {sp : Space} {s : Shape} {e : EltTy} (m : Memref sig .tc sp s e) (c : Dev nD) (S : Finset s.Idx) (x : s.Idx → Elt F e) :
    (mPt m c S fullShare x : sProp 𝕄) ⊢ anyPt m c S := by unfold anyPt; iintro H; iexists x; iexact H

/-- Device `d`'s signal hands `c` the places on `d` that `c` will write: slot `c`, and rows `c` of the three results. -/
def barPay (c d : Dev nD) : sProp 𝕄 :=
  iprop(anyPt rs d (slotR c).set ∗ anyPt (E0.dst 0) d (rowR c).set ∗ anyPt (E0.dst 1) d (rowR c).set ∗ anyPt (E0.dst 2) d (rowR c).set)
/-- The slot handed back for the next layer. -/
def slotBack (l : Fin 3) (c d : Dev nD) : sProp 𝕄 :=
  if l.val < 2 then iprop(anyPt rs d (slotR c).set ∗ reached ER (xc d 2 c) (l.val + 1)) else iprop(emp)
def dmaPay (c : Dev nD) (k : Fin 4) (j : Fin 32) (l : Fin 3) : sProp 𝕄 :=
  match k with
  | 0 => mPt part c (rowR j).set fullShare (V.pv l c)
  | 1 => mPt (E0.dst l) c (rowR c).set (lendSh j.val) (V.yv l)
  | 2 => iprop(mPt rs c (slotR j).set fullShare (slotF (V.pv l) c) ∗ reached ER (xc j 3 c) l.val)
  | 3 => iprop(mPt (E0.dst l) c (rowR j).set fullShare (V.yv l) ∗ slotBack l c j)

instance barPay_storable (c d : Dev nD) : BI.Storable (upEmb : UEmb _ 𝕄) (barPay (F := F) c d) := by unfold barPay; infer_instance
instance slotBack_storable (l : Fin 3) (c d : Dev nD) : BI.Storable (upEmb : UEmb _ 𝕄) (slotBack (F := F) l c d) := by
  unfold slotBack; split <;> infer_instance
instance dmaPay_storable (c : Dev nD) (k : Fin 4) (j : Fin 32) (l : Fin 3) : BI.Storable (upEmb : UEmb _ 𝕄) (dmaPay V c k j l) := by
  unfold dmaPay; split <;> infer_instance

def Rd : Rounds.Schedule (GSem nD τ sig) (Dev nD) 𝕄 where
  duties g r := match g.2 with
    | .reg s => if g.1.2 = .tc ∧ s = barS ∧ r = 0 then Finset.univ.erase g.1.1 else ∅
    | .dma q => if g.1.2 = .tc ∧ 8 ≤ q.val ∧ r < 3 ∧ jOf q ≠ g.1.1 then {0} else ∅
  unitless _ := False
  amount g _ _ := match g.2 with
    | .reg _ => 1
    | .dma _ => N
  payload g r d := match g.2 with
    | .reg _ => barPay g.1.1 d
    | .dma q => if h : r < 3 then dmaPay V g.1.1 (kOf q) (jOf q) ⟨r, h⟩ else iprop(emp)
  amount_pos g _ _ _ := by
    match g with
    | (_, .reg _) => exact Nat.one_pos
    | (_, .dma _) => exact N_pos

instance Rd_storable (g : GSem nD τ sig) (r : ℕ) (d : Dev nD) : BI.Storable (upEmb : UEmb _ 𝕄) ((Rd V).payload g r d) := by
  match g with
  | (t, .reg _) => show BI.Storable upEmb (barPay t.1 d); infer_instance
  | (t, .dma q) =>
    show BI.Storable upEmb (if h : r < 3 then dmaPay V t.1 (kOf q) (jOf q) ⟨r, h⟩ else iprop(emp))
    split <;> infer_instance

theorem duties_bar (c : Dev nD) : (Rd V).duties (bar c) 0 = Finset.univ.erase c := by
  dsimp only [Rd]; exact if_pos ⟨rfl, rfl, rfl⟩
theorem duties_bar_later (c : Dev nD) (r : ℕ) (h : 1 ≤ r) : (Rd V).duties (bar c) r = ∅ := if_neg fun h' => by have := h'.2.2; omega
theorem duties_xc {c : Dev nD} (k : Fin 4) {j : Fin 32} (l : Fin 3) (h : j ≠ c) : (Rd V).duties (xc c k j) l.val = {0} :=
  if_pos ⟨rfl, le_dsem k j, l.isLt, by rw [jOf_dsem]; exact h⟩
theorem duties_xc_self (c : Dev nD) (k : Fin 4) (r : ℕ) : (Rd V).duties (xc c k c) r = ∅ := if_neg fun h => h.2.2.2 (jOf_dsem k c)
theorem duties_xc_later (c : Dev nD) (k : Fin 4) (j : Fin 32) (r : ℕ) (h : 3 ≤ r) : (Rd V).duties (xc c k j) r = ∅ :=
  if_neg fun h' => by have := h'.2.2.1; omega
theorem payload_xc (c : Dev nD) (k : Fin 4) (j : Fin 32) (l : Fin 3) (d : Dev nD) : (Rd V).payload (xc c k j) l.val d = dmaPay V c k j l := by
  show (if h : l.val < 3 then dmaPay V c (kOf (dsem k j)) (jOf (dsem k j)) ⟨l.val, h⟩ else iprop(emp)) = _
  rw [dif_pos l.isLt, kOf_dsem, jOf_dsem]
theorem expect_bar (c : Dev nD) : (Rd V).expect (bar c) 0 = 31 := by
  unfold Schedule.expect Schedule.amountOf
  rw [duties_bar, Finset.sum_congr rfl fun d _ => show (Rd V).amount (bar c) 0 d = 1 from rfl, Finset.sum_const, smul_eq_mul, mul_one,
    Finset.card_erase_of_mem (Finset.mem_univ c), Finset.card_univ, Fintype.card_fin]
  rfl
theorem expect_xc {c : Dev nD} (k : Fin 4) {j : Fin 32} (l : Fin 3) (h : j ≠ c) : (Rd V).expect (xc c k j) l.val = N := by
  unfold Schedule.expect Schedule.amountOf
  rw [duties_xc V k l h, Finset.sum_singleton]; rfl
theorem rest_xc {c : Dev nD} (k : Fin 4) {j : Fin 32} (l : Fin 3) (h : j ≠ c) :
    bigSep ((Rd V).duties (xc c k j) l.val \ ∅) (fun d => (Rd V).payload (xc c k j) l.val d) = dmaPay V c k j l := by
  rw [Finset.sdiff_empty, duties_xc V k l h, bigSep_singleton, payload_xc]
theorem rest_bar (c : Dev nD) :
    bigSep ((Rd V).duties (bar c) 0 \ ∅) (fun d => (Rd V).payload (bar c) 0 d) = bigSep (Finset.univ.erase c) fun d => (barPay c d : sProp 𝕄) := by
  rw [Finset.sdiff_empty, duties_bar]; rfl

end Sched

/-! ### What a device owes before a list of steps -/

/-- The credit a step pays to another device. -/
def stepOwes (c : Dev nD) : Step → CellTallies nD τ sig ℕ
  | .rsS l j => if j = c then 0 else tallyAt (xc j 2 c) l.val N
  | .agS l j => if j = c then 0 else tallyAt (xc j 3 c) l.val N
  | _ => 0
def owedOf (c : Dev nD) (st : List Step) : CellTallies nD τ sig ℕ := (st.map (stepOwes c)).sum
theorem owedOf_cons (c : Dev nD) (s : Step) (st : List Step) : owedOf c (s :: st) = owedOf c st + stepOwes c s := by
  unfold owedOf; rw [List.map_cons, List.sum_cons, add_comm]
theorem owedOf_nil (c : Dev nD) : owedOf c [] = 0 := rfl

def L (g : GSem nD τ sig) : Finset ℕ := if g.1.2 = .tc then {0, 1, 2} else ∅
def lv (g : GSem nD τ sig) (i : ℕ) : ℕ := match g.2 with
  | .reg s => if s = barS then 1 else 0
  | .dma q => if q.val < 8 then 0 else if kOf q = 2 then 2 + 2 * i else if kOf q = 3 then 3 + 2 * i else 0

theorem L_of_ne (g : GSem nD τ sig) (h : g.1.2 ≠ .tc) : L g = ∅ := if_neg h
theorem mem_L (c : Dev nD) (sm : SemLoc sig) (l : Fin 3) : l.val ∈ L ((c : Thread nD τ), sm) := by
  rw [show L ((c : Thread nD τ), sm) = {0, 1, 2} from if_pos rfl]; revert l; decide

theorem lv_bar (c : Dev nD) (i : ℕ) : lv (bar c) i = 1 := by dsimp only [lv]; exact if_pos rfl
theorem lv_xc (c : Dev nD) (k : Fin 4) (j : Fin 32) (i : ℕ) : lv (xc c k j) i = if k = 2 then 2 + 2 * i else if k = 3 then 3 + 2 * i else 0 := by
  show (if (dsem k j).val < 8 then 0 else if kOf (dsem k j) = 2 then 2 + 2 * i else if kOf (dsem k j) = 3 then 3 + 2 * i else 0) = _
  rw [if_neg (Nat.not_lt.mpr (le_dsem k j)), kOf_dsem]

/-- A step pays above level `n`. -/
def aboveB (n : ℕ) : Step → Bool
  | .rsS l _ => n < 2 + 2 * l.val
  | .agS l _ => n < 3 + 2 * l.val
  | _ => true

theorem tally_pos {g g' : GSem nD τ sig} {i i' n : ℕ} (h : 0 < (tallyAt g i n : CellTallies nD τ sig ℕ) g' i') : g' = g ∧ i' = i := by
  rw [tallyAt_apply] at h
  by_contra hn
  rw [if_neg hn] at h
  exact Nat.lt_irrefl 0 h

theorem stepOwes_pos {c : Dev nD} {s : Step} {n : ℕ} (hn : aboveB n s = true) {g : GSem nD τ sig} {i : ℕ} (h : 0 < stepOwes c s g i) :
    n < lv g i ∧ i ∈ L g := by
  have h0 : ¬ 0 < (0 : CellTallies nD τ sig ℕ) g i := Nat.lt_irrefl 0
  cases s with
  | rsS l j =>
    unfold stepOwes at h; dsimp only at h
    split at h
    · exact absurd h h0
    · obtain ⟨rfl, rfl⟩ := tally_pos h
      refine ⟨?_, mem_L j _ l⟩
      rw [lv_xc, if_pos rfl]; exact of_decide_eq_true hn
  | agS l j =>
    unfold stepOwes at h; dsimp only at h
    split at h
    · exact absurd h h0
    · obtain ⟨rfl, rfl⟩ := tally_pos h
      refine ⟨?_, mem_L j _ l⟩
      rw [lv_xc, if_neg (by decide), if_pos rfl]; exact of_decide_eq_true hn
  | rsW l j => exact absurd h h0
  | agW l j => exact absurd h h0
  | comp l g => exact absurd h h0
  | own l => exact absurd h h0
  | red l => exact absurd h h0

theorem owedOf_pos {c : Dev nD} {st : List Step} {n : ℕ} (hn : st.all (aboveB n) = true) {g : GSem nD τ sig} {i : ℕ} (h : 0 < owedOf c st g i) :
    n < lv g i ∧ i ∈ L g := by
  induction st with
  | nil => exact absurd h (Nat.lt_irrefl 0)
  | cons s st ih =>
    rw [List.all_cons, Bool.and_eq_true] at hn
    rw [owedOf_cons, Pi.add_apply, Finsupp.add_apply] at h
    rcases Nat.eq_zero_or_pos (stepOwes c s g i) with h' | h'
    · exact ih hn.2 (by rw [h'] at h; exact h)
    · exact stepOwes_pos hn.1 h'

/-- A wait at a level below everything owed. -/
theorem mayWait (c : Dev nD) (sm : SemLoc sig) (l : Fin 3) (st : List Step) (n : ℕ) (hl : lv ((c : Thread nD τ), sm) l.val ≤ n)
    (h : st.all (aboveB n) = true) : (levAts L lv : sProp 𝕄) ⊢ MayWait (c : Thread nD τ) sm l.val (owedOf c st) :=
  MayOwe.of_cut (L := L) (lev := lv) n (fun p hp => by rw [Finset.mem_singleton.mp hp]; exact mem_L c sm l)
    (fun g u hg => (owedOf_pos h hg).2) (fun p hp => by rw [Finset.mem_singleton.mp hp]; exact hl) (fun g u hg => (owedOf_pos h hg).1)

/-! ### The records every device keeps -/

/-- The cells of a device: its barrier cell and its 128 transfer cells. -/
abbrev CI : Type := Unit ⊕ (Fin 4 × Fin 32)
def csem : CI → SemLoc sig | .inl _ => .reg barS | .inr kj => .dma (dsem kj.1 kj.2)
abbrev kcell (ci : Dev nD × CI) : GSem nD τ sig := ((ci.1 : Thread nD τ), csem ci.2)

section Recs
variable (V : Vals F) (K : Dev nD × CI → ℕ)

def recs : sProp 𝕄 :=
  iprop((bigSep Finset.univ fun ci : Dev nD × CI => cellInv ER (Rd V) (K ci) (kcell ci))
    ∗ (bigSep Finset.univ fun ci : Dev nD × CI => reached ER (kcell ci) 0) ∗ levAts L lv)
instance recs_persistent : BI.Persistent (recs V K) := by unfold recs; infer_instance

theorem inv_at (ci : Dev nD × CI) :
    (bigSep Finset.univ fun ci : Dev nD × CI => (cellInv ER (Rd V) (K ci) (kcell ci) : sProp 𝕄)) ⊢ cellInv ER (Rd V) (K ci) (kcell ci) :=
  bigSep_elim (Finset.mem_univ ci)
theorem reached_at (ci : Dev nD × CI) :
    (bigSep Finset.univ fun ci : Dev nD × CI => (reached ER (kcell ci) 0 : sProp 𝕄)) ⊢ reached ER (kcell ci) 0 :=
  bigSep_elim (Finset.mem_univ ci)
theorem recs_bar (c : Dev nD) : recs V K ⊢ (cellInv ER (Rd V) (K (c, .inl ())) (bar c) : sProp 𝕄) := by
  unfold recs; iintro ⟨H, -, -⟩; iapply (inv_at V K (c, .inl ())); iexact H
theorem recs_xc (c : Dev nD) (k : Fin 4) (j : Fin 32) : recs V K ⊢ (cellInv ER (Rd V) (K (c, .inr (k, j))) (xc c k j) : sProp 𝕄) := by
  unfold recs; iintro ⟨H, -, -⟩; iapply (inv_at V K (c, .inr (k, j))); iexact H
theorem recs_rbar (c : Dev nD) : recs V K ⊢ (reached ER (bar c) 0 : sProp 𝕄) := by
  unfold recs; iintro ⟨-, H, -⟩; iapply (reached_at (F := F) (c, .inl ())); iexact H
theorem recs_rxc (c : Dev nD) (k : Fin 4) (j : Fin 32) : recs V K ⊢ (reached ER (xc c k j) 0 : sProp 𝕄) := by
  unfold recs; iintro ⟨-, H, -⟩; iapply (reached_at (F := F) (c, .inr (k, j))); iexact H
theorem recs_lev : recs V K ⊢ (levAts L lv : sProp 𝕄) := by
  unfold recs; iintro ⟨-, -, H⟩; iexact H
end Recs

end Cert.KernelIdeal.Pf

end
-- ==== Proof.Tri.lean ====
/-
One transfer and one wait of the schedule, and how lists of steps are gone through.
-/
module

public import proofs.«01_k».proof.Proof.Sched

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

theorem neq_iff (c : Dev nD) (j : Fin 32) : neq c j = 1#1 ↔ j ≠ c := by revert c j; decide +kernel
theorem me_nat (c : Dev nD) : (me c).toNat = c.val := by revert c; decide +kernel
theorem me8_nat (c : Dev nD) : (Scalar.muli (me c) 8#32).toNat = 8 * c.val := by revert c; decide +kernel
theorem row_off (c : Dev nD) : (![(Scalar.muli (me c) 8#32).toNat, 0] : Fin 2 → ℕ) = ![8 * c.val, 0] := by rw [me8_nat]
theorem slot_off (c : Dev nD) : (![(me c).toNat, 0, 0] : Fin 3 → ℕ) = ![c.val, 0, 0] := by rw [me_nat]
theorem unit_off {s : Shape} {o o' n : Fin s.rank → ℕ} (h : o = o') (i : ∀ a, o a + n a ≤ s.size a) (i' : ∀ a, o' a + n a ≤ s.size a) :
    Rect.unit (s := s) o n i = Rect.unit (s := s) o' n i' := by subst h; rfl
theorem rowRme (c : Dev nD) : Rect.unit (s := S256x256) ![(Scalar.muli (me c) 8#32).toNat, 0] S8x256.size (inb_rows_me c) = rowR c :=
  unit_off (row_off c) _ _
theorem slotRme (c : Dev nD) : Rect.unit (s := S32x8x256) ![(me c).toNat, 0, 0] S1x8x256.size (inb_slot_me c) = slotR c :=
  unit_off (slot_off c) _ _
theorem rowsMe_eq (b : Memref sig .tc .vmem S256x256 .f32) (c : Dev nD) : rowsMe b c = rowsAt b c := by
  have h : ∀ (o o' : Fin 2 → ℕ) (e : o = o') (i : ∀ a, o a + S8x256.size a ≤ S256x256.size a) (i' : ∀ a, o' a + S8x256.size a ≤ S256x256.size a),
      b.slice (Rect.unit (s := S256x256) o S8x256.size i) (fun _ => rfl) = b.slice (Rect.unit (s := S256x256) o' S8x256.size i') (fun _ => rfl) := by
    intro o o' e i i'; subst e; rfl
  exact h _ _ (row_off c) _ _
theorem slotMe_eq (b : Memref sig .tc .vmem S32x8x256 .f32) (c : Dev nD) : slotMe b c = slotAt b c := by
  have h : ∀ (o o' : Fin 3 → ℕ) (e : o = o') (i : ∀ a, o a + S1x8x256.size a ≤ S32x8x256.size a) (i' : ∀ a, o' a + S1x8x256.size a ≤ S32x8x256.size a),
      (b.slice (Rect.unit (s := S32x8x256) o S1x8x256.size i) (fun _ => rfl)).squeeze S8x256 squeezes_S1x8x256_S8x256
        = (b.slice (Rect.unit (s := S32x8x256) o' S1x8x256.size i') (fun _ => rfl)).squeeze S8x256 squeezes_S1x8x256_S8x256 := by
    intro o o' e i i'; subst e; rfl
  exact h _ _ (slot_off c) _ _

section
variable (V : Vals F) (K : Dev nD × CI → ℕ) (c : Dev nD)

/-- What device `c` owes when the steps `st` are left. -/
def Inv (st : List Step) : sProp 𝕄 := iprop(∃ W, owes (c : Thread nD τ) (owedOf c st) W)

abbrev WP {α : Type} (k : P F α) (Q : α → sProp 𝕄) : sProp 𝕄 :=
  wp frame (wpE (defs₀ (F := F)) 𝒱₀ (c : Thread nD τ) none) Set.univ k Q

/-- A transfer to device `j`: it pays the round of its own send cell `(k₁, j)` and that of the receive cell `(k₂, c)` of `j`. -/
theorem wp_send_gen {j : Dev nD} (hj : j ≠ c) (l : Fin 3) (k₁ k₂ : Fin 4) (src dst src' dst' : Memref sig .tc .vmem S8x256 .f32) (hsr : src' = src) (hds : dst' = dst)
    (s₁ s₂ : DmaSem sig) (h₁ : s₁ = dsem k₁ j) (h₂ : s₂ = dsem k₂ c)
    {hsc : (dst' : Memref sig (Dev.tc j : Thread nD τ).2.kind .vmem S8x256 .f32).view.ref.isScScratch = false} {hsrc : src'.view.WordExact} {hdst : dst'.view.WordExact}
    {hsem : DmaTarget.Typed .vmem (.dma s₂) (.remote (Dev.tc j : Thread nD τ) dst' (.dma s₁) hsc)}
    {Q : PUnit → sProp (MT nD τ sig ℕ (Elt F) ℕ UU ℕ)} {k : PUnit → P F PUnit} {q : PosShare TreeShare} {fs : Buf (Elt F) (src.view.loc (c : Thread nD τ))}
    {fd : Buf (Elt F) (dst.view.loc (j : Thread nD τ))} {R : sProp (MT nD τ sig ℕ (Elt F) ℕ UU ℕ)} (hN : dst.view.amount (.dma s₂) = N)
    (hp₁ : (src.view.loc (c : Thread nD τ) ↦[src.view.set]{q} fs) ⊢ dmaPay V c k₁ j l)
    (hp₂ : iprop((dst.view.loc (j : Thread nD τ) ↦[dst.view.set]{fullShare} (dst.view.write (Elt F) fd (src.view.read (Elt F) fs) Finset.univ)) ∗ R)
      ⊢ dmaPay V j k₂ c l)
    (s : Step) (st : List Step) (hs : stepOwes c s = tallyAt (xc j k₂ c) l.val N) :
    iprop(recs V K ∗ Inv c (s :: st)
        ∗ (src.view.loc (c : Thread nD τ) ↦[src.view.set]{q} fs) ∗ (dst.view.loc (j : Thread nD τ) ↦[dst.view.set]{fullShare} fd) ∗ R
        ∗ dutyTok ER (xc c k₁ j) l.val 0 ∗ reached ER (xc c k₁ j) l.val
        ∗ dutyTok ER (xc j k₂ c) l.val 0 ∗ reached ER (xc j k₂ c) l.val)
      ⊢ iprop(((cred (tallyAt (xc c k₁ j) l.val N) ∗ Inv c st) -∗ WP c (k ⟨⟩) Q)
          -∗ WP c (.op (.enqueueDma src' (.remote (Dev.tc j : Thread nD τ) dst' (.dma s₁) hsc) (.dma s₂) hsrc hdst hsem) k) Q) := by
  subst h₁ h₂ hsr hds
  unfold Inv
  iintro ⟨#Hr, ⟨%W, HO⟩, Hsrc, Hdst, HR, Ht1, Hr1, Ht2, Hr2⟩ Hk
  iapply (Rounds.wp_send_pointsTo_with 𝒱₀ ER (Rd V) (c : Thread nD τ) none (κ₁ := K (c, .inr (k₁, j))) (κ₂ := K (j, .inr (k₂, c)))
    (r₁ := l.val) (r₂ := l.val) (d₁ := 0) (d₂ := 0) (fs := fs) (fd := fd) (F := R) (q := q)
    (by rw [duties_xc V k₁ l hj]; exact Finset.mem_singleton_self _) (by rw [duties_xc V k₂ l hj.symm]; exact Finset.mem_singleton_self _)
    l.val l.val N hN rfl rfl (O₀ := owedOf c (s :: st)) (owedOf c st) (by rw [owedOf_cons, hs]) (W := W)
    (by rw [payload_xc]; exact hp₁) (by rw [payload_xc]; exact hp₂)) $$ [HO Hsrc Hdst HR Ht1 Hr1 Ht2 Hr2]
  · isplitr; · iapply (recs_xc V K c k₁ j); iexact Hr
    isplitr; · iapply (recs_xc V K j k₂ c); iexact Hr
    isplitl [Hsrc]; · iexact Hsrc
    isplitl [Hdst HR]
    · isplitl [Hdst]; · iexact Hdst
      iexact HR
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A wait for round `l` of the own transfer cell `(k, j)`. -/
theorem wp_wait_gen {j : Dev nD} (hj : j ≠ c) (l : Fin 3) (kk : Fin 4) (src dst : Memref sig .tc .vmem S8x256 .f32)
    (sm : DmaSem sig) (h₁ : sm = dsem kk j) {hsrc : src.view.WordExact} {hdst : dst.view.WordExact}
    {Q : PUnit → sProp (MT nD τ sig ℕ (Elt F) ℕ UU ℕ)} {k : PUnit → P F PUnit} (hN : dst.view.dmaCredit = N)
    (st : List Step) (n : ℕ) (hl : lv (xc c kk j) l.val ≤ n) (hst : st.all (aboveB n) = true) :
    iprop(recs V K ∗ Inv c st ∗ cred (tallyAt (xc c kk j) l.val N) ∗ atPos ER (xc c kk j) l.val ∅ 0)
      ⊢ iprop(((Inv c st ∗ atPos ER (xc c kk j) (l.val + 1) ∅ 0 ∗ reached ER (xc c kk j) (l.val + 1) ∗ dmaPay V c kk j l) -∗ WP c (k ⟨⟩) Q)
          -∗ WP c (.op (.waitDma2 sm src dst hsrc hdst) k) Q) := by
  subst h₁
  unfold Inv
  have hmw : recs V K ⊢ (MayWait (c : Thread nD τ) (.dma (dsem kk j)) l.val (owedOf c st) : sProp 𝕄) :=
    (recs_lev V K).trans (mayWait c (.dma (dsem kk j)) l st n hl hst)
  iintro ⟨#Hr, ⟨%W, HO⟩, Hc, Hat⟩ Hk
  iapply (Rounds.wp_wait_rest_token 𝒱₀ ER (Rd V) (c : Thread nD τ) none (κ := K (c, .inr (kk, j)))
      (wpE_waitDma2_eq 𝒱₀ (c : Thread nD τ) none Set.univ) (Set.mem_univ _) l.val (O := owedOf c st) (W := W) (R := l.val) (m := 0) (T := ∅)
      (by rw [Nat.zero_add, expect_xc V kk l hj]; exact hN)) $$ [HO Hc Hat]
  · isplitr; · iapply (recs_xc V K c kk j); iexact Hr
    isplitl [Hc]; · iapply (Entails.of_eq (congrArg (fun n => (cred (tallyAt (xc c kk j) l.val n) : sProp 𝕄)) hN.symm)); iexact Hc
    isplitl [HO]; · iexact HO
    isplitr; · iapply hmw; iexact Hr
    iexact Hat
  iintro ⟨HO, Hat, Hre, Hpay⟩
  iapply Hk
  isplitl [HO]; · iexists _; iexact HO
  isplitl [Hat]; · iexact Hat
  isplitl [Hre]; · iexact Hre
  iapply (Entails.of_eq (rest_xc V kk l hj)); iexact Hpay

/-! ### Lists of steps -/

/-- The steps `st`, with the steps `rest` left after them, take `Pre` to `Post`. -/
def Tri (st rest : List Step) (Pre Post : sProp 𝕄) : Prop :=
  ∀ (Q : PUnit → sProp 𝕄) (k : P F PUnit),
    iprop(recs V K ∗ Inv c (st ++ rest) ∗ Pre ∗ ((Inv c rest ∗ Post) -∗ WP c k Q)) ⊢ WP c (runK E0 c st k) Q

variable {V K c}

theorem Tri.nil (rest : List Step) (A : sProp 𝕄) : Tri V K c [] rest A A := by
  intro Q k
  show iprop(recs V K ∗ Inv c rest ∗ A ∗ ((Inv c rest ∗ A) -∗ WP c k Q)) ⊢ WP c k Q
  iintro ⟨-, HO, HA, Hk⟩
  iapply Hk
  isplitl [HO] <;> iassumption

theorem Tri.append {st st' rest : List Step} {A B C : sProp 𝕄} (h : Tri V K c st (st' ++ rest) A B) (h' : Tri V K c st' rest B C) :
    Tri V K c (st ++ st') rest A C := by
  intro Q k
  rw [runK_append, List.append_assoc]
  iintro ⟨#Hr, HO, HA, Hk⟩
  iapply (h Q _)
  isplitr; · iexact Hr
  isplitl [HO]; · iexact HO
  isplitl [HA]; · iexact HA
  iintro ⟨HO, HB⟩
  iapply (h' Q k)
  isplitr; · iexact Hr
  isplitl [HO]; · iexact HO
  isplitl [HB]; · iexact HB
  iexact Hk

theorem Tri.conseq {st rest : List Step} {A A' B B' : sProp 𝕄} (h : Tri V K c st rest A B) (hA : iprop(recs V K ∗ A') ⊢ A) (hB : B ⊢ B') :
    Tri V K c st rest A' B' := by
  intro Q k
  iintro ⟨#Hr, HO, HA, Hk⟩
  iapply (h Q k)
  isplitr; · iexact Hr
  isplitl [HO]; · iexact HO
  isplitl [HA]
  · iapply hA; isplitr; · iexact Hr
    iexact HA
  iintro ⟨HO, HB⟩
  iapply Hk
  isplitl [HO]; · iexact HO
  iapply hB; iexact HB

theorem Tri.pre {st rest : List Step} {A A' B : sProp 𝕄} (h : Tri V K c st rest A B) (hA : A' ⊢ A) : Tri V K c st rest A' B :=
  h.conseq (by iintro ⟨-, H⟩; iapply hA; iexact H) (Entails.refl _)
theorem Tri.post {st rest : List Step} {A B B' : sProp 𝕄} (h : Tri V K c st rest A B) (hB : B ⊢ B') : Tri V K c st rest A B' :=
  h.conseq (by iintro ⟨-, H⟩; iexact H) hB

theorem Tri.frame {st rest : List Step} {A B : sProp 𝕄} (h : Tri V K c st rest A B) (R : sProp 𝕄) :
    Tri V K c st rest iprop(A ∗ R) iprop(B ∗ R) := by
  intro Q k
  iintro ⟨#Hr, HO, ⟨HA, HR⟩, Hk⟩
  iapply (h Q k)
  isplitr; · iexact Hr
  isplitl [HO]; · iexact HO
  isplitl [HA]; · iexact HA
  iintro ⟨HO, HB⟩
  iapply Hk
  isplitl [HO]; · iexact HO
  isplitl [HB] <;> iassumption

/-- The same kind of step for each peer of a list. -/
theorem Tri.map (f : Fin 32 → Step) (A B : Fin 32 → sProp 𝕄) (rest : List Step) (n : ℕ) (hf : ∀ j, aboveB n (f j) = true)
    (h : ∀ j st, (st.all (aboveB n) = true) → Tri V K c [f j] st (A j) (B j)) (hrest : rest.all (aboveB n) = true) (js : List (Fin 32)) (hn : js.Nodup) :
    Tri V K c (js.map f) rest (bigSep js.toFinset A) (bigSep js.toFinset B) := by
  induction js with
  | nil => exact Tri.nil rest _
  | cons j js ih =>
    have hj : j ∉ js.toFinset := fun hm => (List.nodup_cons.mp hn).1 (List.mem_toFinset.mp hm)
    rw [List.toFinset_cons, bigSep_insert hj, bigSep_insert hj, List.map_cons]
    have hr : (js.map f ++ rest).all (aboveB n) = true := by
      rw [List.all_append, hrest, Bool.and_true, List.all_map, List.all_eq_true]; exact fun x _ => hf x
    have h1 := (h j (js.map f ++ rest) hr).frame (bigSep js.toFinset A)
    have h2 := ((ih (List.nodup_cons.mp hn).2).frame (B j)).conseq (A' := iprop(B j ∗ bigSep js.toFinset A)) (B' := iprop(B j ∗ bigSep js.toFinset B))
      (by iintro ⟨-, H1, H2⟩; isplitl [H2] <;> iassumption) (by iintro ⟨H1, H2⟩; isplitl [H2] <;> iassumption)
    exact h1.append h2

end

end Cert.KernelIdeal.Pf

end
-- ==== Proof.StepWp.lean ====
/-
Each kind of step: what it needs and what it leaves.
-/
module

public import proofs.«01_k».proof.Proof.Tri

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- Only for peers other than the device itself. -/
def nz (c j : Dev nD) (A : sProp 𝕄) : sProp 𝕄 := if j = c then iprop(emp) else A
theorem nz_self (c : Dev nD) (A : sProp 𝕄) : nz c c A = iprop(emp) := if_pos rfl
theorem nz_ne {c j : Dev nD} (h : j ≠ c) (A : sProp 𝕄) : nz c j A = A := if_neg h

theorem rows_pts (b : Memref sig .tc .vmem S256x256 .f32) (c : Dev nD) (j : Fin 32) (q : PosShare TreeShare) (x : Vec F S256x256 .f32) :
    ((rowsAt b j).view.loc (c : Thread nD τ) ↦[(rowsAt b j).view.set]{q} b.view.rep x : sProp 𝕄) = mPt b c (rowR j).set q x := by
  rw [rows_set]; rfl
theorem slot_pts (b : Memref sig .tc .vmem S32x8x256 .f32) (c : Dev nD) (j : Fin 32) (q : PosShare TreeShare) (x : Vec F S32x8x256 .f32) :
    ((slotAt b j).view.loc (c : Thread nD τ) ↦[(slotAt b j).view.set]{q} b.view.rep x : sProp 𝕄) = mPt b c (slotR j).set q x := by
  rw [slot_set]; rfl
theorem credit_rows (b : Memref sig .tc .vmem S256x256 .f32) (j : Fin 32) (s : DmaSem sig) : (rowsAt b j).view.amount (.dma s) = N := rfl
theorem credit_rows' (b : Memref sig .tc .vmem S256x256 .f32) (j : Fin 32) : (rowsAt b j).view.dmaCredit = N := rfl
theorem credit_rowsMe (b : Memref sig .tc .vmem S256x256 .f32) (c : Dev nD) : (rowsMe b c).view.dmaCredit = N := rfl

section
variable (V : Vals F) (K : Dev nD × CI → ℕ) (c : Dev nD)

/-- The place on `j` for the own partial rows, and the rounds a transfer to it needs reached. -/
def slotLent (l : Fin 3) (j : Dev nD) : sProp 𝕄 :=
  iprop(anyPt rs j (slotR c).set ∗ reached ER (xc c 0 j) l.val ∗ reached ER (xc j 2 c) l.val ∗ reached ER (xc c 3 j) l.val)
/-- The rights to pay the two rounds of a transfer of partial rows, of reduced rows. -/
def tokP (l : Fin 3) (j : Dev nD) : sProp 𝕄 := iprop(dutyTok ER (xc c 0 j) l.val 0 ∗ dutyTok ER (xc j 2 c) l.val 0)
def tokG (l : Fin 3) (j : Dev nD) : sProp 𝕄 := iprop(dutyTok ER (xc c 1 j) l.val 0 ∗ dutyTok ER (xc j 3 c) l.val 0)

def preRsS (l : Fin 3) (j : Dev nD) : sProp 𝕄 :=
  iprop(mPt part c (rowR j).set fullShare (V.pv l c) ∗ nz c j iprop(tokP c l j ∗ slotLent c l j))
def postRsS (l : Fin 3) (j : Dev nD) : sProp 𝕄 :=
  if j = c then mPt part c (rowR j).set fullShare (V.pv l c) else cred (tallyAt (xc c 0 j) l.val N)

def preRsW (l : Fin 3) (j : Dev nD) : sProp 𝕄 :=
  nz c j iprop(cred (tallyAt (xc c 0 j) l.val N) ∗ cred (tallyAt (xc c 2 j) l.val N) ∗ atPos ER (xc c 2 j) l.val ∅ 0 ∗ atPos ER (xc c 0 j) l.val ∅ 0)
def postRsW (l : Fin 3) (j : Dev nD) : sProp 𝕄 :=
  nz c j iprop(mPt part c (rowR j).set fullShare (V.pv l c) ∗ mPt rs c (slotR j).set fullShare (slotF (V.pv l) c) ∗ reached ER (xc j 3 c) l.val
    ∗ atPos ER (xc c 2 j) (l.val + 1) ∅ 0 ∗ atPos ER (xc c 0 j) (l.val + 1) ∅ 0 ∗ reached ER (xc c 0 j) (l.val + 1) ∗ reached ER (xc c 2 j) (l.val + 1))

def preAgS (l : Fin 3) (j : Dev nD) : sProp 𝕄 :=
  nz c j iprop(mPt (E0.dst l) c (rowR c).set (lendSh j.val) (V.yv l) ∗ tokG c l j ∗ anyPt (E0.dst l) j (rowR c).set
    ∗ reached ER (xc c 1 j) l.val ∗ reached ER (xc j 3 c) l.val ∗ slotBack l j c)
def postAgS (l : Fin 3) (j : Dev nD) : sProp 𝕄 := nz c j iprop(cred (tallyAt (xc c 1 j) l.val N))

def preAgW (l : Fin 3) (j : Dev nD) : sProp 𝕄 :=
  nz c j iprop(cred (tallyAt (xc c 1 j) l.val N) ∗ cred (tallyAt (xc c 3 j) l.val N) ∗ atPos ER (xc c 3 j) l.val ∅ 0 ∗ atPos ER (xc c 1 j) l.val ∅ 0)
def postAgW (l : Fin 3) (j : Dev nD) : sProp 𝕄 :=
  nz c j iprop(mPt (E0.dst l) c (rowR c).set (lendSh j.val) (V.yv l) ∗ mPt (E0.dst l) c (rowR j).set fullShare (V.yv l)
    ∗ atPos ER (xc c 3 j) (l.val + 1) ∅ 0 ∗ atPos ER (xc c 1 j) (l.val + 1) ∅ 0 ∗ reached ER (xc c 1 j) (l.val + 1) ∗ reached ER (xc c 3 j) (l.val + 1)
    ∗ slotBack l c j)

/-- Nothing is done for the device itself. -/
theorem tri_skip (s : Step) (rest : List Step) (A : sProp 𝕄) (h : ∀ k : P F PUnit, s.run E0 c k = k) (ho : stepOwes c s = 0) :
    Tri V K c [s] rest A A := by
  intro Q k
  rw [show runK E0 c [s] k = k from h k]
  have h0 : (Inv c ([s] ++ rest) : sProp 𝕄) = Inv c rest := by
    unfold Inv; rw [List.singleton_append, owedOf_cons, ho, add_zero]
  rw [h0]
  iintro ⟨-, HO, HA, Hk⟩
  iapply Hk
  isplitl [HO] <;> iassumption

theorem inv_skip (s : Step) (rest : List Step) (ho : stepOwes c s = 0) : (Inv c ([s] ++ rest) : sProp 𝕄) = Inv c rest := by
  unfold Inv; rw [List.singleton_append, owedOf_cons, ho, add_zero]

theorem tri_rsS (l : Fin 3) (j : Fin 32) (rest : List Step) : Tri V K c [.rsS l j] rest (preRsS V c l j) (postRsS V c l j) := by
  by_cases hj : j = c
  · subst hj
    have h := tri_skip V K j (.rsS l j) rest (mPt part j (rowR j).set fullShare (V.pv l j)) (fun k => dif_neg fun h => (neq_iff j j).mp h rfl) (if_pos rfl)
    refine h.conseq ?_ ?_
    · unfold preRsS; rw [nz_self]; iintro ⟨-, H, -⟩; iexact H
    · unfold postRsS; rw [if_pos rfl]
  · intro Q k
    rw [show runK E0 c [.rsS l j] k = Prog.op (.enqueueDma (rowsAt part j) (.remote (Dev.tc (⟨j.val, j.isLt⟩ : Dev nD)) (slotMe rs c) (.dma (semAt E0.a12 j).sem))
      (.dma (semMe E0.a14 c).sem) (View.wordExact_bits rfl) ((View.wordExact_bits rfl).reshape _ _) ⟨⟨rfl, Or.inl rfl⟩, trivial⟩) (fun _ => k) from dif_pos ((neq_iff c j).mpr hj)]
    unfold preRsS postRsS slotLent tokP
    rw [nz_ne hj, if_neg hj]
    unfold anyPt
    iintro ⟨#Hr, HO, ⟨Hsrc, ⟨Ht1, Ht2⟩, ⟨%x, Hdst⟩, Hr1, Hr2, Hr3⟩, Hk⟩
    ihave Hsrc := (Entails.of_eq (rows_pts part c j fullShare (V.pv l c)).symm) $$ Hsrc
    ihave Hdst := (Entails.of_eq (slot_pts rs j c fullShare x).symm) $$ Hdst
    iapply (wp_send_gen V K c (j := j) hj l 0 2 (rowsAt part j) (slotAt rs c) (rowsAt part j) (slotMe rs c) rfl (slotMe_eq rs c)
      (semAt E0.a12 j).sem (semMe E0.a14 c).sem (sem12 j) (semMe14 c) (fd := rs.view.rep x) (R := reached ER (xc c 3 j) l.val) rfl
      (Entails.of_eq (rows_pts part c j fullShare (V.pv l c)))
      (by
        refine sep_mono_left (Entails.of_eq (land_slot rs j c (rs.view.rep x) _ _ fun y => ?_))
        rw [read_rows, slotF_slot])
      (.rsS l j) rest (if_neg hj)) $$ [HO Hsrc Hdst Ht1 Ht2 Hr1 Hr2 Hr3]
    · isplitr; · iexact Hr
      isplitl [HO]; · iexact HO
      isplitl [Hsrc]; · iexact Hsrc
      isplitl [Hdst]; · iexact Hdst
      isplitl [Hr3]; · iexact Hr3
      isplitl [Ht1]; · iexact Ht1
      isplitl [Hr1]; · iexact Hr1
      isplitl [Ht2]; · iexact Ht2
      iexact Hr2
    iintro ⟨Hc, HO⟩
    iapply Hk
    isplitl [HO] <;> iassumption

theorem tri_agS (l : Fin 3) (j : Fin 32) (rest : List Step) : Tri V K c [.agS l j] rest (preAgS V c l j) (postAgS c l j) := by
  by_cases hj : j = c
  · subst hj
    have h := tri_skip V K j (.agS l j) rest iprop(emp) (fun k => dif_neg fun h => (neq_iff j j).mp h rfl) (if_pos rfl)
    refine h.conseq ?_ ?_
    · unfold preAgS; rw [nz_self]; iintro ⟨-, H⟩; iexact H
    · unfold postAgS; rw [nz_self]
  · intro Q k
    rw [show runK E0 c [.agS l j] k = Prog.op (.enqueueDma (rowsMe (E0.dst l) c) (.remote (Dev.tc (⟨j.val, j.isLt⟩ : Dev nD)) (rowsMe (E0.dst l) c) (.dma (semAt E0.a13 j).sem))
      (.dma (semMe E0.a15 c).sem) (View.wordExact_bits rfl) (View.wordExact_bits rfl) ⟨⟨rfl, Or.inl rfl⟩, trivial⟩) (fun _ => k) from dif_pos ((neq_iff c j).mpr hj)]
    unfold preAgS postAgS tokG
    rw [nz_ne hj, nz_ne hj]
    unfold anyPt
    iintro ⟨#Hr, HO, ⟨Hsrc, ⟨Ht1, Ht2⟩, ⟨%x, Hdst⟩, Hr1, Hr2, Hr3⟩, Hk⟩
    ihave Hsrc := (Entails.of_eq (rows_pts (E0.dst l) c c (lendSh j.val) (V.yv l)).symm) $$ Hsrc
    ihave Hdst := (Entails.of_eq (rows_pts (E0.dst l) j c fullShare x).symm) $$ Hdst
    iapply (wp_send_gen V K c (j := j) hj l 1 3 (rowsAt (E0.dst l) c) (rowsAt (E0.dst l) c) (rowsMe (E0.dst l) c) (rowsMe (E0.dst l) c)
      (rowsMe_eq _ c) (rowsMe_eq _ c)
      (semAt E0.a13 j).sem (semMe E0.a15 c).sem (sem13 j) (semMe15 c) (fd := (E0.dst l).view.rep x) (R := slotBack l j c) (credit_rows (E0.dst l) c _)
      (Entails.of_eq (rows_pts (E0.dst l) c c (lendSh j.val) (V.yv l)))
      (by
        refine sep_mono_left (Entails.of_eq (land_rows (E0.dst l) j c ((E0.dst l).view.rep x) _ _ fun y => ?_))
        rw [read_rows])
      (.agS l j) rest (if_neg hj)) $$ [HO Hsrc Hdst Ht1 Ht2 Hr1 Hr2 Hr3]
    · isplitr; · iexact Hr
      isplitl [HO]; · iexact HO
      isplitl [Hsrc]; · iexact Hsrc
      isplitl [Hdst]; · iexact Hdst
      isplitl [Hr3]; · iexact Hr3
      isplitl [Ht1]; · iexact Ht1
      isplitl [Hr1]; · iexact Hr1
      isplitl [Ht2]; · iexact Ht2
      iexact Hr2
    iintro ⟨Hc, HO⟩
    iapply Hk
    isplitl [HO] <;> iassumption

theorem tri_rsW (l : Fin 3) (j : Fin 32) (rest : List Step) (hrest : rest.all (aboveB (2 + 2 * l.val)) = true) :
    Tri V K c [.rsW l j] rest (preRsW c l j) (postRsW V c l j) := by
  by_cases hj : j = c
  · subst hj
    have h := tri_skip V K j (.rsW l j) rest iprop(emp) (fun k => dif_neg fun h => (neq_iff j j).mp h rfl) rfl
    refine h.conseq ?_ ?_
    · unfold preRsW; rw [nz_self]; iintro ⟨-, H⟩; iexact H
    · unfold postRsW; rw [nz_self]
  · intro Q k
    rw [inv_skip c (.rsW l j) rest rfl]
    rw [show runK E0 c [.rsW l j] k = Prog.op (.waitDma2 (semAt E0.a14 j).sem (rowsAt part j) (slotAt rs j) (View.wordExact_bits rfl) ((View.wordExact_bits rfl).reshape _ _))
      (fun _ => Prog.op (.waitDma2 (semAt E0.a12 j).sem (slotAt rs j) (rowsAt part j) ((View.wordExact_bits rfl).reshape _ _) (View.wordExact_bits rfl)) (fun _ => k))
      from dif_pos ((neq_iff c j).mpr hj)]
    unfold preRsW postRsW
    rw [nz_ne hj, nz_ne hj]
    iintro ⟨#Hr, HO, ⟨Hc0, Hc2, Ha2, Ha0⟩, Hk⟩
    iapply (wp_wait_gen V K c (j := j) hj l 2 (rowsAt part j) (slotAt rs j) (semAt E0.a14 j).sem (sem14 j) rfl rest (2 + 2 * l.val)
      (by rw [lv_xc, if_pos rfl]) hrest) $$ [HO Hc2 Ha2]
    · isplitr; · iexact Hr
      isplitl [HO]; · iexact HO
      isplitl [Hc2] <;> iassumption
    iintro ⟨HO, Ha2, Hr2, Hp2⟩
    iapply (wp_wait_gen V K c (j := j) hj l 0 (slotAt rs j) (rowsAt part j) (semAt E0.a12 j).sem (sem12 j) rfl rest (2 + 2 * l.val)
      (by rw [lv_xc, if_neg (by decide), if_neg (by decide)]; exact Nat.zero_le _) hrest) $$ [HO Hc0 Ha0]
    · isplitr; · iexact Hr
      isplitl [HO]; · iexact HO
      isplitl [Hc0] <;> iassumption
    iintro ⟨HO, Ha0, Hr0, Hp0⟩
    unfold dmaPay
    icases Hp2 with ⟨Hs, Hrj⟩
    iapply Hk
    isplitl [HO]; · iexact HO
    isplitl [Hp0]; · iexact Hp0
    isplitl [Hs]; · iexact Hs
    isplitl [Hrj]; · iexact Hrj
    isplitl [Ha2]; · iexact Ha2
    isplitl [Ha0]; · iexact Ha0
    isplitl [Hr0] <;> iassumption

theorem tri_agW (l : Fin 3) (j : Fin 32) (rest : List Step) (hrest : rest.all (aboveB (3 + 2 * l.val)) = true) :
    Tri V K c [.agW l j] rest (preAgW c l j) (postAgW V c l j) := by
  by_cases hj : j = c
  · subst hj
    have h := tri_skip V K j (.agW l j) rest iprop(emp) (fun k => dif_neg fun h => (neq_iff j j).mp h rfl) rfl
    refine h.conseq ?_ ?_
    · unfold preAgW; rw [nz_self]; iintro ⟨-, H⟩; iexact H
    · unfold postAgW; rw [nz_self]
  · intro Q k
    rw [inv_skip c (.agW l j) rest rfl]
    rw [show runK E0 c [.agW l j] k = Prog.op (.waitDma2 (semAt E0.a15 j).sem (rowsMe (E0.dst l) c) (rowsAt (E0.dst l) j) (View.wordExact_bits rfl) (View.wordExact_bits rfl))
      (fun _ => Prog.op (.waitDma2 (semAt E0.a13 j).sem (rowsAt (E0.dst l) j) (rowsMe (E0.dst l) c) (View.wordExact_bits rfl) (View.wordExact_bits rfl)) (fun _ => k))
      from dif_pos ((neq_iff c j).mpr hj)]
    unfold preAgW postAgW
    rw [nz_ne hj, nz_ne hj]
    iintro ⟨#Hr, HO, ⟨Hc1, Hc3, Ha3, Ha1⟩, Hk⟩
    iapply (wp_wait_gen V K c (j := j) hj l 3 (rowsMe (E0.dst l) c) (rowsAt (E0.dst l) j) (semAt E0.a15 j).sem (sem15 j) (credit_rows' (E0.dst l) j) rest (3 + 2 * l.val)
      (by rw [lv_xc, if_neg (by decide), if_pos rfl]) hrest) $$ [HO Hc3 Ha3]
    · isplitr; · iexact Hr
      isplitl [HO]; · iexact HO
      isplitl [Hc3] <;> iassumption
    iintro ⟨HO, Ha3, Hr3, Hp3⟩
    iapply (wp_wait_gen V K c (j := j) hj l 1 (rowsAt (E0.dst l) j) (rowsMe (E0.dst l) c) (semAt E0.a13 j).sem (sem13 j) (credit_rowsMe (E0.dst l) c) rest (3 + 2 * l.val)
      (by rw [lv_xc, if_neg (by decide), if_neg (by decide)]; exact Nat.zero_le _) hrest) $$ [HO Hc1 Ha1]
    · isplitr; · iexact Hr
      isplitl [HO]; · iexact HO
      isplitl [Hc1] <;> iassumption
    iintro ⟨HO, Ha1, Hr1, Hp1⟩
    unfold dmaPay
    icases Hp3 with ⟨Hd, Hb⟩
    iapply Hk
    isplitl [HO]; · iexact HO
    isplitl [Hp1]; · iexact Hp1
    isplitl [Hd]; · iexact Hd
    isplitl [Ha3]; · iexact Ha3
    isplitl [Ha1]; · iexact Ha1
    isplitl [Hr1]; · iexact Hr1
    isplitl [Hr3] <;> iassumption

end

end Cert.KernelIdeal.Pf

end
-- ==== Proof.StepMem.lean ====
/-
The steps that load and store: a group's partial product, the own slot, the sum over the slots.
-/
module

public import proofs.«01_k».proof.Proof.StepWp

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

theorem emb_zero2 {a b : ℕ} (inb : ∀ d, (![0, 0] : Fin 2 → ℕ) d + (⟨2, ![a, b]⟩ : Shape).size d ≤ (⟨2, ![a, b]⟩ : Shape).size d) (y : (⟨2, ![a, b]⟩ : Shape).Idx) :
    (Rect.unit (s := ⟨2, ![a, b]⟩) ![0, 0] (⟨2, ![a, b]⟩ : Shape).size inb).emb y = y := by
  funext d
  refine Fin.ext ((ValueKit.rect_emb_unit_val (s := ⟨2, ![a, b]⟩) ![0, 0] (⟨2, ![a, b]⟩ : Shape).size inb y d).trans ?_)
  match d with
  | ⟨0, _⟩ => exact Nat.zero_add _
  | ⟨1, _⟩ => exact Nat.zero_add _
theorem emb_zero3 {a b e : ℕ} (inb : ∀ d, (![0, 0, 0] : Fin 3 → ℕ) d + (⟨3, ![a, b, e]⟩ : Shape).size d ≤ (⟨3, ![a, b, e]⟩ : Shape).size d) (y : (⟨3, ![a, b, e]⟩ : Shape).Idx) :
    (Rect.unit (s := ⟨3, ![a, b, e]⟩) ![0, 0, 0] (⟨3, ![a, b, e]⟩ : Shape).size inb).emb y = y := by
  funext d
  refine Fin.ext ((ValueKit.rect_emb_unit_val (s := ⟨3, ![a, b, e]⟩) ![0, 0, 0] (⟨3, ![a, b, e]⟩ : Shape).size inb y d).trans ?_)
  match d with
  | ⟨0, _⟩ => exact Nat.zero_add _
  | ⟨1, _⟩ => exact Nat.zero_add _
  | ⟨2, _⟩ => exact Nat.zero_add _

/-- A rectangle at the offsets the kernel computes is the block of rows, the slot. -/
theorem rowMe_set (c : Dev nD) : (Rect.unit (s := S256x256) ![(Scalar.muli (me c) 8#32).toNat, 0] S8x256.size (inb_rows_me c)).set = (rowR c).set := by
  rw [rowRme]
theorem slotMe_set (c : Dev nD) : (Rect.unit (s := S32x8x256) ![(me c).toNat, 0, 0] S1x8x256.size (inb_slot_me c)).set = (slotR c).set := by
  rw [slotRme]
theorem rowMe_emb (c : Dev nD) (y : S8x256.Idx) :
    (Rect.unit (s := S256x256) ![(Scalar.muli (me c) 8#32).toNat, 0] S8x256.size (inb_rows_me c)).emb y = (rowR c).emb y := by
  have h : ∀ (o o' : Fin 2 → ℕ) (e : o = o') (i : ∀ a, o a + S8x256.size a ≤ S256x256.size a) (i' : ∀ a, o' a + S8x256.size a ≤ S256x256.size a),
      (Rect.unit (s := S256x256) o S8x256.size i).emb y = (Rect.unit (s := S256x256) o' S8x256.size i').emb y := by
    intro o o' e i i'; subst e; rfl
  exact h _ _ (row_off c) _ _
theorem slotMe_emb (c : Dev nD) (y : S1x8x256.Idx) :
    (Rect.unit (s := S32x8x256) ![(me c).toNat, 0, 0] S1x8x256.size (inb_slot_me c)).emb y = (slotR c).emb y := by
  have h : ∀ (o o' : Fin 3 → ℕ) (e : o = o') (i : ∀ a, o a + S1x8x256.size a ≤ S32x8x256.size a) (i' : ∀ a, o' a + S1x8x256.size a ≤ S32x8x256.size a),
      (Rect.unit (s := S32x8x256) o S1x8x256.size i).emb y = (Rect.unit (s := S32x8x256) o' S1x8x256.size i').emb y := by
    intro o o' e i i'; subst e; rfl
  exact h _ _ (slot_off c) _ _

/-- The own rows as the kernel puts them into the own slot. -/
theorem pay8_at (v : Vec F S8x256 .f32) (z : S1x8x256.Idx) : k0_pay8 v z = v (ix2 (z 1) (z 2)) := by
  have h : k0_pay8 v = shapeCast S1x8x256 v shapeCasts_S8x256_S1x8x256 := shapeCast_self _ _
  rw [h]
  refine (shapeCast_addUnit_apply (n := 2) ![8, 256] v shapeCasts_S8x256_S1x8x256 z).trans (congrArg v ?_)
  funext a
  match a with
  | ⟨0, _⟩ => rfl
  | ⟨1, _⟩ => rfl

section
variable (V : Vals F) (K : Dev nD × CI → ℕ) (c : Dev nD)

theorem tri_comp (l : Fin 3) (g : Fin 4) (rest : List Step) (q q1 q2 : PosShare TreeShare) :
    Tri V K c [.comp l g] rest
      iprop(mPt (E0.src l) c (grpR g).set q (V.xv l c) ∗ mPt (E0.win l) c Finset.univ q1 (V.w1 l c) ∗ mPt (E0.wout l) c Finset.univ q2 (V.w2 l c)
        ∗ anyPt part c (grpR g).set)
      iprop(mPt (E0.src l) c (grpR g).set q (V.xv l c) ∗ mPt (E0.win l) c Finset.univ q1 (V.w1 l c) ∗ mPt (E0.wout l) c Finset.univ q2 (V.w2 l c)
        ∗ mPt part c (grpR g).set fullShare (V.pv l c)) := by
  intro Q k
  rw [inv_skip c (.comp l g) rest rfl, show runK E0 c [.comp l g] k = Pf.comp (E0.src l) (E0.win l) (E0.wout l) part (gpay l) g k from rfl]
  unfold Pf.comp anyPt
  simp only [Prog.lift, Prog.bind_op, Prog.bind_ret, Prog.pure_eq_ret]
  iintro ⟨-, HO, ⟨Hx, H1, H2, ⟨%p, Hp⟩⟩, Hk⟩
  iapply (wp_load_m (E0.src l) c (grpR g) (grpR g).set (Finset.Subset.refl _) q (V.xv l c)) $$ Hx
  iintro Hx
  iapply (wp_load_m (E0.win l) c (Rect.unit (s := S256x512) ![0, 0] S256x512.size inb_S256x512_S256x512_0_0) Finset.univ (Finset.subset_univ _) q1 (V.w1 l c)) $$ H1
  iintro H1
  iapply (wp_load_m (E0.wout l) c (Rect.unit (s := S512x256) ![0, 0] S512x256.size inb_S512x256_S512x256_0_0) Finset.univ (Finset.subset_univ _) q2 (V.w2 l c)) $$ H2
  iintro H2
  iapply (wp_load_m part c (grpR g) (grpR g).set (Finset.Subset.refl _) fullShare p) $$ Hp
  iintro Hp
  iapply (wp_store_m part c (grpR g) _ p (V.pv l c) (fun i => by
    exact (partF_grp l (V.xv l c) (V.w1 l c) (V.w2 l c) g i).trans (congrFun (congr (congrArg (gpay l fun y => V.xv l c ((grpR g).emb y))
      (funext fun y => congrArg (V.w1 l c) (emb_zero2 (a := 256) (b := 512) _ y).symm)) (funext fun y => congrArg (V.w2 l c) (emb_zero2 (a := 512) (b := 256) _ y).symm)) i))) $$ Hp
  iintro Hp
  iapply Hk
  isplitl [HO]; · iexact HO
  isplitl [Hx]; · iexact Hx
  isplitl [H1]; · iexact H1
  isplitl [H2]; · iexact H2
  iexact Hp

theorem tri_own (l : Fin 3) (rest : List Step) :
    Tri V K c [.own l] rest
      iprop(mPt part c (rowR c).set fullShare (V.pv l c) ∗ anyPt rs c (slotR c).set)
      iprop(mPt part c (rowR c).set fullShare (V.pv l c) ∗ mPt rs c (slotR c).set fullShare (slotF (V.pv l) c)) := by
  intro Q k
  rw [inv_skip c (.own l) rest rfl, show runK E0 c [.own l] k = Pf.own part rs c k from rfl]
  unfold Pf.own anyPt
  simp only [Prog.lift, Prog.bind_op, Prog.bind_ret, Prog.pure_eq_ret]
  rw [← rowMe_set, ← slotMe_set]
  iintro ⟨-, HO, ⟨Hp, ⟨%x, Hs⟩⟩, Hk⟩
  iapply (wp_load_m part c (Rect.unit (s := S256x256) ![(Scalar.muli (me c) 8#32).toNat, 0] S8x256.size (inb_rows_me c)) _ (Finset.Subset.refl _) fullShare (V.pv l c)) $$ Hp
  iintro Hp
  iapply (wp_load_m rs c (Rect.unit (s := S32x8x256) ![(me c).toNat, 0, 0] S1x8x256.size (inb_slot_me c)) _ (Finset.Subset.refl _) fullShare x) $$ Hs
  iintro Hs
  iapply (wp_store_m rs c (Rect.unit (s := S32x8x256) ![(me c).toNat, 0, 0] S1x8x256.size (inb_slot_me c)) _ x (slotF (V.pv l) c) (fun z => by
    rw [slotMe_emb]
    refine Eq.trans ?_ (pay8_at _ z).symm
    rw [rowMe_emb]
    refine Eq.trans ?_ (slotF_slot (V.pv l) c c (z 0) (ix2 (z 1) (z 2)))
    exact congrArg _ (congrArg _ (eq_ix3 (n0 := 1) (n1 := 8) (n2 := 256) z)))) $$ Hs
  iintro Hs
  iapply Hk
  isplitl [HO]; · iexact HO
  isplitl [Hp]; · iexact Hp
  iexact Hs

theorem tri_red (l : Fin 3) (rest : List Step) :
    Tri V K c [.red l] rest
      iprop(mPt rs c Finset.univ fullShare (slotF (V.pv l) c) ∗ anyPt (E0.dst l) c (rowR c).set)
      iprop(mPt rs c Finset.univ fullShare (slotF (V.pv l) c) ∗ mPt (E0.dst l) c (rowR c).set fullShare (V.yv l)) := by
  intro Q k
  rw [inv_skip c (.red l) rest rfl, show runK E0 c [.red l] k = Pf.red rs (E0.dst l) (rpay l) c k from rfl]
  unfold Pf.red anyPt
  simp only [Prog.lift, Prog.bind_op, Prog.bind_ret, Prog.pure_eq_ret]
  rw [← rowMe_set]
  iintro ⟨-, HO, ⟨Hp, ⟨%x, Hs⟩⟩, Hk⟩
  iapply (wp_load_m rs c (Rect.unit (s := S32x8x256) ![0, 0, 0] S32x8x256.size inb_S32x8x256_S32x8x256_0_0_0) Finset.univ (Finset.subset_univ _) fullShare (slotF (V.pv l) c)) $$ Hp
  iintro Hp
  iapply (wp_load_m (E0.dst l) c (Rect.unit (s := S256x256) ![(Scalar.muli (me c) 8#32).toNat, 0] S8x256.size (inb_rows_me c)) _ (Finset.Subset.refl _) fullShare x) $$ Hs
  iintro Hs
  iapply (wp_store_m (E0.dst l) c (Rect.unit (s := S256x256) ![(Scalar.muli (me c) 8#32).toNat, 0] S8x256.size (inb_rows_me c)) _ x (V.yv l) (fun z => by
    rw [rowMe_emb, V.yv_eq l]
    exact (outF_row l (V.pv l) c z).trans (congrFun (congrArg (rpay l)
      (funext fun y => congrArg (slotF (V.pv l) c) (emb_zero3 (a := 32) (b := 8) (e := 256) _ y).symm)) z))) $$ Hs
  iintro Hs
  iapply Hk
  isplitl [HO]; · iexact HO
  isplitl [Hp]; · iexact Hp
  iexact Hs

end

end Cert.KernelIdeal.Pf

end
-- ==== Proof.Peers.lean ====
/-
Resources given peer by peer, and steps that change them.
-/
module

public import proofs.«01_k».proof.Proof.StepMem

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

instance sep_assoc_inst : Std.Associative (BIBase.sep : sProp 𝕄 → sProp 𝕄 → sProp 𝕄) := ⟨fun A B C => BI.equiv_iff.mp ⟨Idealize.SL.BI.sep_assoc, Idealize.SL.BI.sep_assoc'⟩⟩
instance sep_comm_inst : Std.Commutative (BIBase.sep : sProp 𝕄 → sProp 𝕄 → sProp 𝕄) := ⟨fun A B => BI.equiv_iff.mp ⟨Idealize.SL.BI.sep_comm, Idealize.SL.BI.sep_comm⟩⟩
theorem emp_sep_eq (A : sProp 𝕄) : iprop(emp ∗ A) = A := BI.equiv_iff.mp ⟨(emp_sep (PROP := sProp 𝕄)).1, (emp_sep (PROP := sProp 𝕄)).2⟩
theorem sep_emp_eq (A : sProp 𝕄) : iprop(A ∗ emp) = A := BI.equiv_iff.mp ⟨(sep_emp (PROP := sProp 𝕄)).1, (sep_emp (PROP := sProp 𝕄)).2⟩
theorem drop_left (A B : sProp 𝕄) : iprop(A ∗ B) ⊢ B := by iintro ⟨-, H⟩; iexact H
theorem drop_right (A B : sProp 𝕄) : iprop(A ∗ B) ⊢ A := by iintro ⟨H, -⟩; iexact H

/-- One part of what is held changed. -/
theorem part_mono {A A' X Y : sProp 𝕄} (R : sProp 𝕄) (h : A ⊢ A') (h1 : X = iprop(A ∗ R)) (h2 : iprop(A' ∗ R) = Y) : X ⊢ Y := by
  rw [h1, ← h2]; exact sep_mono_left h

/-- `A` for the device itself, `B` for a peer. -/
def sel (c j : Dev nD) (A B : sProp 𝕄) : sProp 𝕄 := if j = c then A else B
theorem sel_self (c : Dev nD) (A B : sProp 𝕄) : sel c c A B = A := if_pos rfl
theorem sel_ne {c j : Dev nD} (h : j ≠ c) (A B : sProp 𝕄) : sel c j A B = B := if_neg h

theorem bigSep_recs {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section
variable {V : Vals F} {K : Dev nD × CI → ℕ} {c : Dev nD}

/-- Steps that change what is held for each peer, the rest of what is held for it aside. -/
theorem Tri.peers {st rest : List Step} {S : Finset (Fin 32)} {A B A' B' R : Fin 32 → sProp 𝕄} {W : sProp 𝕄}
    (h : Tri V K c st rest iprop(bigSep S A ∗ W) iprop(bigSep S B ∗ W)) (hA : ∀ j, iprop(recs V K ∗ A' j) ⊢ iprop(A j ∗ R j))
    (hB : ∀ j, iprop(B j ∗ R j) ⊢ B' j) : Tri V K c st rest iprop(bigSep S A' ∗ W) iprop(bigSep S B' ∗ W) := by
  refine (h.frame (bigSep S R)).conseq ?_ ?_
  · have h1 : iprop(recs V K ∗ bigSep S A') ⊢ iprop(bigSep S A ∗ bigSep S R) :=
      (bigSep_recs fun j _ => hA j).trans (Entails.of_eq (bigSep_sep' S A R))
    iintro ⟨Hr, HA, HW⟩
    ihave H := h1 $$ [Hr HA]
    · isplitl [Hr]; · iexact Hr
      iexact HA
    icases H with ⟨HA, HR⟩
    isplitr [HR]
    · isplitl [HA]; · iexact HA
      iexact HW
    · iexact HR
  · have h1 : iprop(bigSep S B ∗ bigSep S R) ⊢ (bigSep S B' : sProp 𝕄) :=
      (Entails.of_eq (bigSep_sep' S B R).symm).trans (bigSep_mono fun j _ => hB j)
    iintro ⟨⟨HB, HW⟩, HR⟩
    isplitr [HW]
    · iapply h1
      isplitl [HB]; · iexact HB
      iexact HR
    · iexact HW

/-- The same for each of the four groups. -/
theorem Tri.groups (f : Fin 4 → List Step) (A B : Fin 32 → sProp 𝕄) (W : sProp 𝕄) (rest : List Step) (n : ℕ) (hf : ∀ g, (f g).all (aboveB n) = true)
    (h : ∀ g st, (st.all (aboveB n) = true) → Tri V K c (f g) st iprop(bigSep (grpF g) A ∗ W) iprop(bigSep (grpF g) B ∗ W))
    (hrest : rest.all (aboveB n) = true) :
    Tri V K c ((List.finRange 4).flatMap f) rest iprop(bigSep Finset.univ A ∗ W) iprop(bigSep Finset.univ B ∗ W) := by
  have key : ∀ gs : List (Fin 4), gs.Nodup →
      Tri V K c (gs.flatMap f) rest iprop(bigSep (gs.toFinset.biUnion grpF) A ∗ W) iprop(bigSep (gs.toFinset.biUnion grpF) B ∗ W) := by
    intro gs hn
    induction gs with
    | nil => exact Tri.nil rest _
    | cons g gs ih =>
      have hg : g ∉ gs.toFinset := fun hm => (List.nodup_cons.mp hn).1 (List.mem_toFinset.mp hm)
      have hd : Disjoint (grpF g) (gs.toFinset.biUnion grpF) :=
        (Finset.disjoint_biUnion_right _ _ _).mpr fun g' hg' => grpF_disj fun e => hg (e ▸ hg')
      have hr : (gs.flatMap f ++ rest).all (aboveB n) = true := by
        rw [List.all_append, hrest, Bool.and_true, List.all_flatMap, List.all_eq_true]; exact fun x _ => hf x
      rw [List.toFinset_cons, Finset.biUnion_insert, bigSep_union hd, bigSep_union hd, List.flatMap_cons]
      have h1 := (h g (gs.flatMap f ++ rest) hr).frame (bigSep (gs.toFinset.biUnion grpF) A)
      have h2 := (ih (List.nodup_cons.mp hn).2).frame (bigSep (grpF g) B)
      refine ((h1.pre (A' := iprop((bigSep (grpF g) A ∗ bigSep (gs.toFinset.biUnion grpF) A) ∗ W)) (Entails.of_eq (by ac_rfl))).append
        (h2.pre (Entails.of_eq (by ac_rfl)))).post (Entails.of_eq (by ac_rfl))
  have h0 := key (List.finRange 4) (List.nodup_finRange 4)
  rwa [show (List.finRange 4).toFinset.biUnion grpF = Finset.univ by decide +kernel] at h0

theorem Tri.cons {s : Step} {b rest : List Step} {A B C : sProp 𝕄} (h1 : Tri V K c [s] (b ++ rest) A B)
    (h2 : Tri V K c b rest B C) : Tri V K c (s :: b) rest A C := by
  have h := Tri.append h1 h2
  rwa [List.singleton_append] at h
theorem Tri.four {s s' : Step} {a b rest : List Step} {A B C D E : sProp 𝕄} (h1 : Tri V K c [s] (a ++ ((s' :: b) ++ rest)) A B)
    (h2 : Tri V K c a ((s' :: b) ++ rest) B C) (h3 : Tri V K c [s'] (b ++ rest) C D) (h4 : Tri V K c b rest D E) :
    Tri V K c (s :: a ++ s' :: b) rest A E := Tri.append (Tri.cons h1 h2) (Tri.cons h3 h4)

theorem all_above0 (st : List Step) : st.all (aboveB 0) = true := by
  rw [List.all_eq_true]
  intro s _
  cases s with
  | rsS l j => exact decide_eq_true (by omega)
  | agS l j => exact decide_eq_true (by omega)
  | _ => rfl
end

end Cert.KernelIdeal.Pf

end
-- ==== Proof.Tail.lean ====
/-
A whole layer: its groups, the exchange of the partial rows, the sum and the exchange of its result.
-/
module

public import proofs.«01_k».proof.Proof.Peers

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (V : Vals F) (K : Dev nD × CI → ℕ) (c : Dev nD)

/-- The rows `j` of the input of layer `l`, as the loads hold them; the rows of the partial product at any values; the weights. -/
def XL (l : Fin 3) (j : Dev nD) : sProp 𝕄 := mPt (E0.src l) c (rowR j).set ldSh (V.xv l c)
def PA (j : Dev nD) : sProp 𝕄 := anyPt part c (rowR j).set
def Wt (l : Fin 3) : sProp 𝕄 := iprop(mPt (E0.win l) c Finset.univ fullShare (V.w1 l c) ∗ mPt (E0.wout l) c Finset.univ fullShare (V.w2 l c))
def atP (k : Fin 4) (j : Dev nD) (n : ℕ) : sProp 𝕄 := atPos ER (xc c k j) n ∅ 0
def cr (k : Fin 4) (j : Dev nD) (l : Fin 3) : sProp 𝕄 := cred (tallyAt (xc c k j) l.val N)
def rch (d : Dev nD) (k : Fin 4) (j : Dev nD) (n : ℕ) : sProp 𝕄 := reached ER (xc d k j) n
/-- The rows `j` of the result of layer `l` at a share. -/
def rowPt (l : Fin 3) (j : Dev nD) (q : PosShare TreeShare) : sProp 𝕄 := mPt (E0.dst l) c (rowR j).set q (V.yv l)
def slotAny (d j : Dev nD) : sProp 𝕄 := anyPt rs d (slotR j).set
def rowAny (l : Fin 3) (d j : Dev nD) : sProp 𝕄 := anyPt (E0.dst l) d (rowR j).set
def pRow (l : Fin 3) (j : Dev nD) : sProp 𝕄 := mPt part c (rowR j).set fullShare (V.pv l c)
def pSlot (l : Fin 3) (j : Dev nD) : sProp 𝕄 := mPt rs c (slotR j).set fullShare (slotF (V.pv l) c)

theorem rowPt_halves (l : Fin 3) (j : Dev nD) : rowPt V c l j fullShare = iprop(rowPt V c l j ldSh ∗ rowPt V c l j fullShare.right) := mPt_halves _ _ _ _ _
theorem pRow_any (l : Fin 3) (j : Dev nD) : pRow V c l j ⊢ PA c j := anyPt_intro _ _ _ _
theorem pSlot_any (l : Fin 3) (j : Dev nD) : pSlot V c l j ⊢ slotAny c j := anyPt_intro _ _ _ _
theorem slotBack_eq (l : Fin 3) (d j : Dev nD) : (slotBack l d j : sProp 𝕄) = if l.val < 2 then iprop(slotAny j d ∗ rch j 2 d (l.val + 1)) else iprop(emp) := rfl
theorem slotLent_eq (l : Fin 3) (j : Dev nD) : (slotLent c l j : sProp 𝕄)
    = iprop(slotAny j c ∗ rch c 0 j l.val ∗ rch j 2 c l.val ∗ rch c 3 j l.val) := rfl
theorem preRsS_eq (l : Fin 3) (j : Dev nD) : preRsS V c l j = iprop(pRow V c l j ∗ nz c j iprop(tokP c l j ∗ slotLent c l j)) := rfl
theorem postRsS_eq (l : Fin 3) (j : Dev nD) : postRsS V c l j = sel c j (pRow V c l j) (cr c 0 j l) := rfl
theorem preRsW_eq (l : Fin 3) (j : Dev nD) : (preRsW c l j : sProp 𝕄) = nz c j iprop(cr c 0 j l ∗ cr c 2 j l ∗ atP c 2 j l.val ∗ atP c 0 j l.val) := rfl
theorem postRsW_eq (l : Fin 3) (j : Dev nD) : postRsW V c l j = nz c j iprop(pRow V c l j ∗ pSlot V c l j ∗ rch j 3 c l.val
    ∗ atP c 2 j (l.val + 1) ∗ atP c 0 j (l.val + 1) ∗ rch c 0 j (l.val + 1) ∗ rch c 2 j (l.val + 1)) := rfl
theorem preAgS_eq (l : Fin 3) (j : Dev nD) : preAgS V c l j = nz c j iprop(rowPt V c l c (lendSh j.val) ∗ tokG c l j ∗ rowAny l j c
    ∗ rch c 1 j l.val ∗ rch j 3 c l.val ∗ slotBack l j c) := rfl
theorem postAgS_eq (l : Fin 3) (j : Dev nD) : (postAgS c l j : sProp 𝕄) = nz c j (cr c 1 j l) := rfl
theorem preAgW_eq (l : Fin 3) (j : Dev nD) : (preAgW c l j : sProp 𝕄) = nz c j iprop(cr c 1 j l ∗ cr c 3 j l ∗ atP c 3 j l.val ∗ atP c 1 j l.val) := rfl
theorem postAgW_eq (l : Fin 3) (j : Dev nD) : postAgW V c l j = nz c j iprop(rowPt V c l c (lendSh j.val) ∗ rowPt V c l j fullShare
    ∗ atP c 3 j (l.val + 1) ∗ atP c 1 j (l.val + 1) ∗ rch c 1 j (l.val + 1) ∗ rch c 3 j (l.val + 1) ∗ slotBack l c j) := rfl

/-- What a peer's exchanges of layer `l` take besides the sent partial rows. -/
def T (l : Fin 3) (j : Dev nD) : sProp 𝕄 := sel c j iprop(slotAny c c ∗ rowAny l c c)
  iprop(cr c 2 j l ∗ cr c 3 j l ∗ atP c 0 j l.val ∗ atP c 1 j l.val ∗ atP c 2 j l.val ∗ atP c 3 j l.val ∗ tokG c l j ∗ rowAny l j c
    ∗ rch c 1 j l.val)
def restSlot (l : Fin 3) (j : Dev nD) : sProp 𝕄 := if l.val < 2 then iprop(emp) else slotAny c j
/-- What is held for a peer between layer `l` and the next. -/
def B (l : Fin 3) (j : Dev nD) : sProp 𝕄 := sel c j iprop(rowPt V c l c ldSh ∗ rowPt V c l c (keptSh 32) ∗ rowPt V c l c (lendSh c.val) ∗ slotAny c c)
  iprop(cr c 1 j l ∗ cr c 3 j l ∗ atP c 0 j (l.val + 1) ∗ atP c 1 j l.val ∗ atP c 2 j (l.val + 1) ∗ atP c 3 j l.val ∗ rch c 0 j (l.val + 1)
    ∗ restSlot c l j)
/-- What layer `l` takes for a peer from the launch. -/
def Fu (l : Fin 3) (j : Dev nD) : sProp 𝕄 := sel c j (rowAny l c c) iprop(tokP c l j ∗ tokG c l j ∗ cr c 2 j l ∗ cr c 3 j l ∗ rowAny l j c)
/-- The result of layer `l` at the end, by peers. -/
def Done (l : Fin 3) (j : Dev nD) : sProp 𝕄 := sel c j iprop(rowPt V c l c ldSh ∗ rowPt V c l c (keptSh 32) ∗ rowPt V c l c (lendSh c.val))
  iprop(rowPt V c l j fullShare ∗ rowPt V c l c (lendSh j.val))
/-- The places for the first exchange, and the cells at their starts. -/
def Z (j : Dev nD) : sProp 𝕄 := sel c j (slotAny c c) iprop(slotAny j c ∗ atP c 0 j 0 ∗ atP c 1 j 0 ∗ atP c 2 j 0 ∗ atP c 3 j 0)
/-- The slots and the cells at their ends. -/
def Fin' (j : Dev nD) : sProp 𝕄 := sel c j (slotAny c c) iprop(slotAny c j ∗ atP c 0 j 3 ∗ atP c 1 j 3 ∗ atP c 2 j 3 ∗ atP c 3 j 3)

def X1 (l : Fin 3) (j : Dev nD) : sProp 𝕄 :=
  iprop(cr c 3 j l ∗ atP c 1 j l.val ∗ atP c 3 j l.val ∗ tokG c l j ∗ rowAny l j c ∗ rch c 1 j l.val)
def X2 (l : Fin 3) (j : Dev nD) : sProp 𝕄 :=
  iprop(rch j 3 c l.val ∗ atP c 2 j (l.val + 1) ∗ atP c 0 j (l.val + 1) ∗ rch c 0 j (l.val + 1) ∗ rch c 2 j (l.val + 1) ∗ X1 c l j)
def M1 (l : Fin 3) (j : Dev nD) : sProp 𝕄 := sel c j iprop(pRow V c l c ∗ pSlot V c l c ∗ rowAny l c c)
  iprop(cr c 0 j l ∗ cr c 2 j l ∗ atP c 2 j l.val ∗ atP c 0 j l.val ∗ X1 c l j)
def M2 (l : Fin 3) (j : Dev nD) : sProp 𝕄 := iprop(pRow V c l j ∗ pSlot V c l j ∗ sel c j (rowAny l c c) (X2 c l j))
def M3 (l : Fin 3) (j : Dev nD) : sProp 𝕄 := iprop(pRow V c l j ∗ pSlot V c l j ∗ rowPt V c l c (lendSh j.val)
  ∗ sel c j iprop(rowPt V c l c ldSh ∗ rowPt V c l c (keptSh 32)) (X2 c l j))

variable {V K c}

theorem Tri.atOwn {st rest : List Step} {A B : Fin 32 → sProp 𝕄} {W : sProp 𝕄} (h : Tri V K c st rest (A c) (B c)) (hAB : ∀ j, j ≠ c → A j ⊢ B j) :
    Tri V K c st rest iprop(bigSep Finset.univ A ∗ W) iprop(bigSep Finset.univ B ∗ W) := by
  have hs : ∀ Φ : Fin 32 → sProp 𝕄, bigSep Finset.univ Φ = iprop(Φ c ∗ bigSep (Finset.univ.erase c) Φ) := fun Φ => BI.bigSep_univ_split (I := Fin 32) c
  rw [hs A, hs B]
  refine ((h.frame (bigSep (Finset.univ.erase c) A)).frame W).post (sep_mono_left (sep_mono_right (bigSep_mono fun j hj => hAB j (Finset.ne_of_mem_erase hj))))

variable (V K c)

theorem tri_own_all (l : Fin 3) (rest : List Step) (W : sProp 𝕄) :
    Tri V K c [.own l] rest iprop((bigSep Finset.univ fun j : Fin 32 => iprop(postRsS V c l j ∗ T c l j)) ∗ W) iprop(bigSep Finset.univ (M1 V c l) ∗ W) := by
  refine Tri.atOwn ?_ ?_
  · have h0 : Tri V K c [.own l] rest iprop(pRow V c l c ∗ slotAny c c) iprop(pRow V c l c ∗ pSlot V c l c) := tri_own V K c l rest
    have h := h0.frame (rowAny l c c)
    refine (h.pre ?_).post ?_
    · rw [postRsS_eq]; unfold T; rw [sel_self, sel_self]; exact Entails.of_eq (by ac_rfl)
    · unfold M1; rw [sel_self]; exact Entails.of_eq (by ac_rfl)
  · intro j hj
    rw [postRsS_eq]; unfold T M1 X1
    rw [sel_ne hj, sel_ne hj, sel_ne hj]
    exact Entails.of_eq (by ac_rfl)

theorem tri_rsW_all (l : Fin 3) (rest : List Step) (W : sProp 𝕄) (hrest : rest.all (aboveB (2 + 2 * l.val)) = true) :
    Tri V K c (allP.map (.rsW l)) rest iprop(bigSep Finset.univ (M1 V c l) ∗ W) iprop(bigSep Finset.univ (M2 V c l) ∗ W) := by
  have h := (Tri.map (V := V) (K := K) (c := c) (.rsW l) (preRsW c l) (postRsW V c l) rest (2 + 2 * l.val) (fun _ => rfl)
    (fun j st hst => tri_rsW V K c l j st hst) hrest allP (List.nodup_finRange 32)).frame W
  rw [show (allP).toFinset = (Finset.univ : Finset (Fin 32)) from List.toFinset_finRange 32] at h
  refine Tri.peers (R := fun j => sel c j iprop(pRow V c l c ∗ pSlot V c l c ∗ rowAny l c c) (X1 c l j)) h ?_ ?_
  · intro j
    refine (drop_left _ _).trans ?_
    rcases eq_or_ne j c with rfl | hj
    · rw [preRsW_eq]; unfold M1; rw [sel_self, sel_self, nz_self, emp_sep_eq]
    · rw [preRsW_eq]; unfold M1; rw [sel_ne hj, sel_ne hj, nz_ne hj]; exact Entails.of_eq (by ac_rfl)
  · intro j
    rcases eq_or_ne j c with rfl | hj
    · rw [postRsW_eq]; unfold M2; rw [sel_self, sel_self, nz_self, emp_sep_eq]
    · rw [postRsW_eq]; unfold M2 X2; rw [sel_ne hj, sel_ne hj, nz_ne hj]; exact Entails.of_eq (by ac_rfl)

theorem tri_red_all (l : Fin 3) (rest : List Step) (W : sProp 𝕄) :
    Tri V K c [.red l] rest iprop(bigSep Finset.univ (M2 V c l) ∗ W) iprop(bigSep Finset.univ (M3 V c l) ∗ W) := by
  have hs : ∀ Φ : Fin 32 → sProp 𝕄, bigSep Finset.univ Φ = iprop(Φ c ∗ bigSep (Finset.univ.erase c) Φ) := fun Φ => BI.bigSep_univ_split (I := Fin 32) c
  have hX : ∀ A : sProp 𝕄, (bigSep Finset.univ fun j : Fin 32 => sel c j A (X2 (F := F) c l j)) = iprop(A ∗ bigSep (Finset.univ.erase c) (X2 (F := F) c l)) := by
    intro A
    rw [hs, sel_self]
    refine congrArg (fun B => iprop(A ∗ B)) (bigSep_congr fun j hj => sel_ne (Finset.ne_of_mem_erase hj) _ _)
  have e2 : bigSep Finset.univ (M2 V c l) = iprop(bigSep Finset.univ (pRow V c l) ∗ mPt rs c Finset.univ fullShare (slotF (V.pv l) c)
      ∗ rowAny l c c ∗ bigSep (Finset.univ.erase c) (X2 (F := F) c l)) := by
    rw [mPt_slots, ← hX, ← bigSep_sep', ← bigSep_sep']; rfl
  have e3 : bigSep Finset.univ (M3 V c l) = iprop(bigSep Finset.univ (pRow V c l) ∗ mPt rs c Finset.univ fullShare (slotF (V.pv l) c)
      ∗ (bigSep Finset.univ fun j : Fin 32 => rowPt V c l c (lendSh j.val)) ∗ (rowPt V c l c ldSh ∗ rowPt V c l c (keptSh 32))
      ∗ bigSep (Finset.univ.erase c) (X2 (F := F) c l)) := by
    rw [mPt_slots, ← hX, ← bigSep_sep', ← bigSep_sep', ← bigSep_sep']; rfl
  have e4 : rowPt V c l c fullShare = iprop(rowPt V c l c ldSh ∗ rowPt V c l c (keptSh 32) ∗ bigSep Finset.univ fun j : Fin 32 => rowPt V c l c (lendSh j.val)) := by
    rw [rowPt_halves]; exact congrArg (fun A => iprop(rowPt V c l c ldSh ∗ A)) (lend_fin _ _ _ _)
  rw [e2, e3]
  have hr : Tri V K c [.red l] rest iprop(mPt rs c Finset.univ fullShare (slotF (V.pv l) c) ∗ rowAny l c c)
      iprop(mPt rs c Finset.univ fullShare (slotF (V.pv l) c) ∗ rowPt V c l c fullShare) := tri_red V K c l rest
  rw [e4] at hr
  refine ((hr.frame iprop(bigSep Finset.univ (pRow V c l) ∗ bigSep (Finset.univ.erase c) (X2 (F := F) c l) ∗ W)).pre
    (Entails.of_eq (by ac_rfl))).post (Entails.of_eq (by ac_rfl))

theorem tri_agS_all (l : Fin 3) (rest : List Step) (W : sProp 𝕄) :
    Tri V K c (allP.map (.agS l)) rest iprop(bigSep Finset.univ (M3 V c l) ∗ W) iprop((bigSep Finset.univ fun j : Fin 32 => iprop(PA c j ∗ B V c l j)) ∗ W) := by
  have h := (Tri.map (V := V) (K := K) (c := c) (.agS l) (preAgS V c l) (postAgS c l) rest 0 (fun j => decide_eq_true (by omega))
    (fun j st hst => tri_agS V K c l j st) (all_above0 rest) allP (List.nodup_finRange 32)).frame W
  rw [show (allP).toFinset = (Finset.univ : Finset (Fin 32)) from List.toFinset_finRange 32] at h
  have hslot : ∀ j, iprop(pSlot V c l j ∗ rch c 2 j (l.val + 1)) ⊢ iprop(slotBack l j c ∗ restSlot (F := F) c l j) := by
    intro j
    rw [slotBack_eq]; unfold restSlot
    by_cases h2 : l.val < 2
    · rw [if_pos h2, if_pos h2, sep_emp_eq]; exact sep_mono_left (pSlot_any V c l j)
    · rw [if_neg h2, if_neg h2, emp_sep_eq]; exact (drop_right _ _).trans (pSlot_any V c l j)
  refine Tri.peers (R := fun j => iprop(pRow V c l j ∗ sel c j iprop(pSlot V c l c ∗ rowPt V c l c (lendSh c.val) ∗ rowPt V c l c ldSh ∗ rowPt V c l c (keptSh 32))
    iprop(restSlot c l j ∗ atP c 2 j (l.val + 1) ∗ atP c 0 j (l.val + 1) ∗ rch c 0 j (l.val + 1) ∗ cr c 3 j l ∗ atP c 1 j l.val ∗ atP c 3 j l.val))) h ?_ ?_
  · intro j
    refine (drop_left _ _).trans ?_
    rcases eq_or_ne j c with rfl | hj
    · rw [preAgS_eq]; unfold M3; rw [sel_self, sel_self, nz_self, emp_sep_eq]
    · rw [preAgS_eq]; unfold M3 X2 X1; rw [sel_ne hj, sel_ne hj, nz_ne hj]
      refine part_mono iprop(pRow V c l j ∗ rowPt V c l c (lendSh j.val) ∗ rch j 3 c l.val ∗ atP c 2 j (l.val + 1) ∗ atP c 0 j (l.val + 1)
          ∗ rch c 0 j (l.val + 1) ∗ cr c 3 j l ∗ atP c 1 j l.val ∗ atP c 3 j l.val ∗ tokG c l j ∗ rowAny l j c ∗ rch c 1 j l.val) (hslot j) (by ac_rfl) (by ac_rfl)
  · intro j
    rcases eq_or_ne j c with rfl | hj
    · rw [postAgS_eq]; unfold B; rw [sel_self, sel_self, nz_self, emp_sep_eq]
      iintro ⟨H1, H2, H3, H4, H5⟩
      isplitl [H1]; · iapply (pRow_any V j l j); iexact H1
      isplitl [H4]; · iexact H4
      isplitl [H5]; · iexact H5
      isplitl [H3]; · iexact H3
      iapply (pSlot_any V j l j); iexact H2
    · rw [postAgS_eq]; unfold B; rw [sel_ne hj, sel_ne hj, nz_ne hj]
      refine part_mono iprop(restSlot c l j ∗ atP c 2 j (l.val + 1) ∗ atP c 0 j (l.val + 1) ∗ rch c 0 j (l.val + 1) ∗ cr c 3 j l ∗ atP c 1 j l.val
          ∗ atP c 3 j l.val ∗ cr c 1 j l) (pRow_any V c l j) (by ac_rfl) (by ac_rfl)

theorem all_rsW (l : Fin 3) (n : ℕ) : (allP.map (Step.rsW l)).all (aboveB n) = true := by
  rw [List.all_map, List.all_eq_true]; exact fun _ _ => rfl
theorem all_agW (l : Fin 3) (n : ℕ) (js : List (Fin 32)) : (js.map (Step.agW l)).all (aboveB n) = true := by
  rw [List.all_map, List.all_eq_true]; exact fun _ _ => rfl
theorem all_agS (l : Fin 3) (n : ℕ) (h : n < 3 + 2 * l.val) : (allP.map (Step.agS l)).all (aboveB n) = true := by
  rw [List.all_map, List.all_eq_true]; exact fun _ _ => decide_eq_true h
theorem all_rsS (l : Fin 3) (n : ℕ) (h : n < 2 + 2 * l.val) (js : List (Fin 32)) : (js.map (Step.rsS l)).all (aboveB n) = true := by
  rw [List.all_map, List.all_eq_true]; exact fun _ _ => decide_eq_true h

theorem tri_tail (l : Fin 3) (rest : List Step) (W : sProp 𝕄) (hrest : rest.all (aboveB (2 + 2 * l.val)) = true) :
    Tri V K c (tailSteps l) rest iprop((bigSep Finset.univ fun j : Fin 32 => iprop(postRsS V c l j ∗ T c l j)) ∗ W)
      iprop((bigSep Finset.univ fun j : Fin 32 => iprop(PA c j ∗ B V c l j)) ∗ W) := by
  have h4 : ((Step.red l :: allP.map (.agS l)) ++ rest).all (aboveB (2 + 2 * l.val)) = true := by
    rw [List.all_append, hrest, Bool.and_true]; exact all_agS l _ (by omega)
  have h1 := tri_own_all V K c l (allP.map (.rsW l) ++ ((Step.red l :: allP.map (.agS l)) ++ rest)) W
  have h2 := tri_rsW_all V K c l ((Step.red l :: allP.map (.agS l)) ++ rest) W h4
  have h3 := tri_red_all V K c l (allP.map (.agS l) ++ rest) W
  exact Tri.four h1 h2 h3 (tri_agS_all V K c l rest W)

end

end Cert.KernelIdeal.Pf

end
-- ==== Proof.Layer.lean ====
/-
The layers one after another: the whole list of steps.
-/
module

public import proofs.«01_k».proof.Proof.Tail

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (V : Vals F) (K : Dev nD × CI → ℕ) (c : Dev nD)

def gIn (l : Fin 3) (j : Dev nD) : sProp 𝕄 := iprop(XL V c l j ∗ PA c j ∗ nz c j iprop(tokP c l j ∗ slotLent c l j))
def gOut (l : Fin 3) (j : Dev nD) : sProp 𝕄 := iprop(XL V c l j ∗ postRsS V c l j)

/-- A group's product and the starts of its transfers. -/
theorem tri_grp (l : Fin 3) (g : Fin 4) (rest : List Step) :
    Tri V K c (grpSteps l g) rest iprop(bigSep (grpF g) (gIn V c l) ∗ Wt V c l) iprop(bigSep (grpF g) (gOut V c l) ∗ Wt V c l) := by
  have h1 := (tri_comp V K c l g ((grp g).map (.rsS l) ++ rest) ldSh fullShare fullShare).frame
    (bigSep (grpF g) fun j : Fin 32 => nz c j iprop(tokP c l j ∗ slotLent c l j))
  have h2 := ((Tri.map (V := V) (K := K) (c := c) (.rsS l) (preRsS V c l) (postRsS V c l) rest 0 (fun j => decide_eq_true (by omega))
    (fun j st hst => tri_rsS V K c l j st) (all_above0 rest) (grp g) (by clear * -; revert g; decide)).frame
      iprop(bigSep (grpF g) (XL V c l) ∗ Wt V c l))
  rw [show (grp g).toFinset = grpF g from rfl] at h2
  have e1 : bigSep (grpF g) (gIn V c l) = iprop(bigSep (grpF g) (XL V c l) ∗ bigSep (grpF g) (PA (F := F) c)
      ∗ bigSep (grpF g) fun j : Fin 32 => nz c j iprop(tokP c l j ∗ slotLent c l j)) := by
    rw [← bigSep_sep', ← bigSep_sep']; rfl
  have e2 : bigSep (grpF g) (gOut V c l) = iprop(bigSep (grpF g) (XL V c l) ∗ bigSep (grpF g) (postRsS V c l)) := by
    rw [← bigSep_sep']; rfl
  have e3 : bigSep (grpF g) (preRsS V c l) = iprop(bigSep (grpF g) (fun j : Fin 32 => mPt part c (rowR j).set fullShare (V.pv l c))
      ∗ bigSep (grpF g) fun j : Fin 32 => nz c j iprop(tokP c l j ∗ slotLent c l j)) := by
    rw [← bigSep_sep']; rfl
  have e4 : mPt (E0.src l) c (grpR g).set ldSh (V.xv l c) = bigSep (grpF g) (XL V c l) := mPt_grp (E0.src l) c g ldSh (V.xv l c)
  have e5 : bigSep (grpF g) (PA (F := F) c) ⊢ anyPt part c (grpR g).set := by
    have h := mPt_biUnion_any (F := F) part c (grpF g) (fun j => (rowR j).set) fullShare fun t _ t' _ h => rows_disj h
    rw [grp_cover] at h; exact h
  have e6 : bigSep (grpF g) (fun j : Fin 32 => mPt part c (rowR j).set fullShare (V.pv l c)) = mPt part c (grpR g).set fullShare (V.pv l c) := (mPt_grp _ _ _ _ _).symm
  rw [e3, e6] at h2
  rw [e4] at h1
  rw [e1, e2]
  refine Tri.cons (h1.pre ?_) ((h2.pre ?_).post ?_)
  · unfold Wt
    exact part_mono iprop(bigSep (grpF g) (XL V c l) ∗ (bigSep (grpF g) fun j : Fin 32 => nz c j iprop(tokP c l j ∗ slotLent c l j))
      ∗ mPt (E0.win l) c Finset.univ fullShare (V.w1 l c) ∗ mPt (E0.wout l) c Finset.univ fullShare (V.w2 l c)) e5 (by ac_rfl) (by ac_rfl)
  · unfold Wt
    exact Entails.of_eq (by ac_rfl)
  · exact Entails.of_eq (by ac_rfl)

/-- What is held for a peer through the groups of a layer, besides what they use. -/
def R1 (l' l : Fin 3) (j : Dev nD) : sProp 𝕄 :=
  sel c j iprop(PA c c ∗ rowPt V c l' c ldSh ∗ rowPt V c l' c (keptSh 32) ∗ rowPt V c l' c (lendSh c.val) ∗ slotAny c c ∗ rowAny l c c)
    iprop(PA c j ∗ atP c 0 j l.val ∗ atP c 2 j l.val ∗ rch c 0 j l.val ∗ tokP c l j ∗ tokG c l j ∗ cr c 2 j l ∗ cr c 3 j l ∗ rowAny l j c)
def R2 (l' l : Fin 3) (j : Dev nD) : sProp 𝕄 :=
  sel c j iprop(rowPt V c l' c (keptSh 32) ∗ rowPt V c l' c (lendSh c.val) ∗ slotAny c c ∗ rowAny l c c)
    iprop(rowPt V c l' j fullShare.right ∗ rowPt V c l' c (lendSh j.val) ∗ T c l j)
def nIn (l' l : Fin 3) (j : Dev nD) : sProp 𝕄 := iprop(PA c j ∗ B V c l' j ∗ Fu c l j)
def nOut (l' l : Fin 3) (j : Dev nD) : sProp 𝕄 := iprop(Done V c l' j ∗ postRsS V c l j ∗ T c l j)

/-- A later layer's group: the waits for the rows of the layer before, then the product and the starts. -/
theorem tri_nextGrp (l' l : Fin 3) (hl : l.val = l'.val + 1) (hs : E0.src l = E0.dst l') (hx : V.xv l c = V.yv l') (g : Fin 4) (rest : List Step)
    (hrest : rest.all (aboveB (3 + 2 * l'.val)) = true) :
    Tri V K c ((grp g).map (.agW l') ++ grpSteps l g) rest iprop(bigSep (grpF g) (nIn V c l' l) ∗ Wt V c l) iprop(bigSep (grpF g) (nOut V c l' l) ∗ Wt V c l) := by
  have h2l : l'.val < 2 := by have := l.isLt; omega
  have hX : ∀ j, XL V c l j = rowPt V c l' j ldSh := fun j => by unfold XL rowPt; rw [hs, hx]
  have hg : (grpSteps l g ++ rest).all (aboveB (3 + 2 * l'.val)) = true := by
    rw [List.all_append, hrest, Bool.and_true, List.all_cons, all_rsS l _ (by omega)]; rfl
  have h1 := (Tri.map (V := V) (K := K) (c := c) (.agW l') (preAgW c l') (postAgW V c l') (grpSteps l g ++ rest) (3 + 2 * l'.val) (fun _ => rfl)
    (fun j st hst => tri_agW V K c l' j st hst) hg (grp g) (by clear * -; revert g; decide)).frame (Wt V c l)
  rw [show (grp g).toFinset = grpF g from rfl] at h1
  have h1' := Tri.peers (A' := nIn V c l' l) (B' := fun j => iprop(gIn V c l j ∗ R2 V c l' l j)) (R := R1 V c l' l) h1
    (by
      intro j
      refine (drop_left _ _).trans ?_
      rw [preAgW_eq]; unfold nIn B Fu R1
      rcases eq_or_ne j c with rfl | hj
      · simp only [sel_self, nz_self, emp_sep_eq]; exact Entails.of_eq (by ac_rfl)
      · unfold restSlot; simp only [sel_ne hj, nz_ne hj, if_pos h2l, sep_emp_eq, ← hl]
        generalize cr (F := F) c 3 j l = a; generalize cr (F := F) c 3 j l' = b; exact Entails.of_eq (by ac_rfl))
    (by
      intro j
      rw [postAgW_eq]; unfold R1 R2 gIn T
      rw [hX j]
      rcases eq_or_ne j c with rfl | hj
      · simp only [sel_self, nz_self, emp_sep_eq, sep_emp_eq]; exact Entails.of_eq (by ac_rfl)
      · rw [slotBack_eq, slotLent_eq]; simp only [sel_ne hj, nz_ne hj, if_pos h2l, ← hl]
        rw [rowPt_halves]; exact Entails.of_eq (by ac_rfl))
  have h2 := Tri.peers (A' := fun j => iprop(gIn V c l j ∗ R2 V c l' l j)) (B' := nOut V c l' l) (R := R2 V c l' l) (tri_grp V K c l g rest)
    (fun j => drop_left _ _)
    (by
      intro j
      unfold gOut R2 nOut Done T
      rw [hX j]
      rcases eq_or_ne j c with rfl | hj
      · simp only [sel_self]; exact Entails.of_eq (by ac_rfl)
      · simp only [sel_ne hj]; rw [rowPt_halves]; exact Entails.of_eq (by ac_rfl))
  exact Tri.append h1' h2

def nPost (l' l : Fin 3) (j : Dev nD) : sProp 𝕄 := iprop(PA c j ∗ B V c l j ∗ Done V c l' j)

theorem all_tail (l : Fin 3) (n : ℕ) (h : n < 3 + 2 * l.val) : (tailSteps l).all (aboveB n) = true := by
  rw [List.all_append, List.all_cons, List.all_cons, all_rsW, all_agS l n h]; rfl
theorem all_grp (l : Fin 3) (g : Fin 4) (n : ℕ) (h : n < 2 + 2 * l.val) : (grpSteps l g).all (aboveB n) = true := by
  rw [List.all_cons, all_rsS l n h]; rfl
theorem all_nextGrp (l' l : Fin 3) (g : Fin 4) (n : ℕ) (h : n < 2 + 2 * l.val) : ((grp g).map (Step.agW l') ++ grpSteps l g).all (aboveB n) = true := by
  rw [List.all_append, all_agW, all_grp l g n h]; rfl
theorem all_next (l' l : Fin 3) (n : ℕ) (h : n < 2 + 2 * l.val) : (nextSteps l' l).all (aboveB n) = true := by
  rw [List.all_append, all_tail l n (by omega), Bool.and_true, List.all_flatMap, List.all_eq_true]; exact fun g _ => all_nextGrp l' l g n h

/-- A later layer. -/
theorem tri_next (l' l : Fin 3) (hl : l.val = l'.val + 1) (hs : E0.src l = E0.dst l') (hx : V.xv l c = V.yv l') (rest : List Step)
    (hrest : rest.all (aboveB (2 + 2 * l.val)) = true) (hrest' : rest.all (aboveB (3 + 2 * l'.val)) = true) :
    Tri V K c (nextSteps l' l) rest iprop(bigSep Finset.univ (nIn V c l' l) ∗ Wt V c l) iprop(bigSep Finset.univ (nPost V c l' l) ∗ Wt V c l) := by
  have hr : (tailSteps l ++ rest).all (aboveB (3 + 2 * l'.val)) = true := by
    rw [List.all_append, hrest', all_tail l _ (by omega)]; rfl
  have h1 := Tri.groups (V := V) (K := K) (c := c) (fun g => (grp g).map (Step.agW l') ++ grpSteps l g) (nIn V c l' l) (nOut V c l' l) (Wt V c l) (tailSteps l ++ rest)
    (3 + 2 * l'.val) (fun g => all_nextGrp l' l g _ (by omega)) (fun g st hst => tri_nextGrp V K c l' l hl hs hx g st hst) hr
  have h2 := Tri.peers (A' := nOut V c l' l) (B' := nPost V c l' l) (R := Done V c l') (tri_tail V K c l rest (Wt V c l) hrest)
    (fun j => (drop_left _ _).trans (by unfold nOut; exact Entails.of_eq (by ac_rfl)))
    (fun j => by unfold nPost; exact Entails.of_eq (by ac_rfl))
  exact Tri.append h1 h2

theorem recs_rch (d : Dev nD) (k : Fin 4) (j : Dev nD) : recs V K ⊢ (rch d k j (0 : Fin 3).val : sProp 𝕄) := recs_rxc V K d k j

def fIn (j : Dev nD) : sProp 𝕄 := iprop(PA c j ∗ XL V c 0 j ∗ Z c j ∗ Fu c 0 j)
def fPost (j : Dev nD) : sProp 𝕄 := iprop(PA c j ∗ B V c 0 j ∗ XL V c 0 j)

/-- The first layer. -/
theorem tri_first (rest : List Step) (hrest : rest.all (aboveB 2) = true) :
    Tri V K c firstSteps rest iprop(bigSep Finset.univ (fIn V c) ∗ Wt V c 0) iprop(bigSep Finset.univ (fPost V c) ∗ Wt V c 0) := by
  have h1 := Tri.groups (V := V) (K := K) (c := c) (fun g => grpSteps 0 g) (gIn V c 0) (gOut V c 0) (Wt V c 0) (tailSteps 0 ++ rest)
    0 (fun g => all_above0 _) (fun g st hst => tri_grp V K c 0 g st) (all_above0 _)
  have h1' := Tri.peers (A' := fIn V c) (B' := fun j => iprop(gOut V c 0 j ∗ T c 0 j)) (R := T c 0) h1
    (by
      intro j
      unfold fIn gIn T Z Fu
      rcases eq_or_ne j c with rfl | hj
      · simp only [sel_self, nz_self, sep_emp_eq]; exact (drop_left _ _).trans (Entails.of_eq (by ac_rfl))
      · rw [slotLent_eq]; simp only [sel_ne hj, nz_ne hj]
        iintro ⟨#Hr, Hpa, Hx, ⟨Hs, H0, H1, H2, H3⟩, HP, HG, Hc2, Hc3, Hra⟩
        isplitl [Hpa Hx Hs HP]
        · isplitl [Hx]; · iexact Hx
          isplitl [Hpa]; · iexact Hpa
          isplitl [HP]; · iexact HP
          isplitl [Hs]; · iexact Hs
          isplitr; · iapply (recs_rch V K c 0 j); iexact Hr
          isplitr; · iapply (recs_rch V K j 2 c); iexact Hr
          iapply (recs_rch V K c 3 j); iexact Hr
        isplitl [Hc2]; · iexact Hc2
        isplitl [Hc3]; · iexact Hc3
        isplitl [H0]; · iexact H0
        isplitl [H1]; · iexact H1
        isplitl [H2]; · iexact H2
        isplitl [H3]; · iexact H3
        isplitl [HG]; · iexact HG
        isplitl [Hra]; · iexact Hra
        iapply (recs_rch V K c 1 j); iexact Hr)
    (fun j => Entails.refl _)
  have h2 := Tri.peers (A' := fun j => iprop(gOut V c 0 j ∗ T c 0 j)) (B' := fPost V c) (R := XL V c 0) (tri_tail V K c 0 rest (Wt V c 0) hrest)
    (fun j => (drop_left _ _).trans (by unfold gOut; exact Entails.of_eq (by ac_rfl)))
    (fun j => by unfold fPost; exact Entails.of_eq (by ac_rfl))
  exact Tri.append h1' h2

def eIn (j : Dev nD) : sProp 𝕄 := B V c 2 j
def ePost (j : Dev nD) : sProp 𝕄 := iprop(Done V c 2 j ∗ Fin' c j)

/-- The waits for the last layer's rows. -/
theorem tri_end (W : sProp 𝕄) :
    Tri V K c (allP.map (.agW 2)) [] iprop(bigSep Finset.univ (eIn V c) ∗ W) iprop(bigSep Finset.univ (ePost V c) ∗ W) := by
  have h1 := (Tri.map (V := V) (K := K) (c := c) (.agW 2) (preAgW c 2) (postAgW V c 2) [] 7 (fun _ => rfl)
    (fun j st hst => tri_agW V K c 2 j st hst) rfl allP (List.nodup_finRange 32)).frame W
  rw [show (allP).toFinset = (Finset.univ : Finset (Fin 32)) from List.toFinset_finRange 32] at h1
  refine Tri.peers (R := fun j => sel c j (B V c 2 c) iprop(atP c 0 j 3 ∗ atP c 2 j 3 ∗ slotAny c j)) h1 ?_ ?_
  · intro j
    refine (drop_left _ _).trans ?_
    rw [preAgW_eq]; unfold eIn
    rcases eq_or_ne j c with rfl | hj
    · simp only [sel_self, nz_self, emp_sep_eq]; exact Entails.refl _
    · unfold B restSlot
      simp only [sel_ne hj, nz_ne hj]
      rw [if_neg (show ¬ ((2 : Fin 3).val < 2) by decide)]
      iintro ⟨H1, H2, H3, H4, H5, H6, -, H7⟩
      isplitr [H3 H5 H7]
      · isplitl [H1]; · iexact H1
        isplitl [H2]; · iexact H2
        isplitl [H6]; · iexact H6
        iexact H4
      isplitl [H3]; · iexact H3
      isplitl [H5]; · iexact H5
      iexact H7
  · intro j
    rw [postAgW_eq]; unfold ePost Done Fin'
    rcases eq_or_ne j c with rfl | hj
    · unfold B
      simp only [sel_self, nz_self, emp_sep_eq]; exact Entails.of_eq (by ac_rfl)
    · simp only [sel_ne hj, nz_ne hj]
      iintro ⟨⟨H1, H2, H3, H4, -, -, -⟩, H5, H6, H7⟩
      isplitl [H1 H2]
      · isplitl [H2]; · iexact H2
        iexact H1
      isplitl [H7]; · iexact H7
      isplitl [H5]; · iexact H5
      isplitl [H4]; · iexact H4
      isplitl [H6]; · iexact H6
      iexact H3

def Wts : sProp 𝕄 := iprop(Wt V c 0 ∗ Wt V c 1 ∗ Wt V c 2)
def allIn (j : Dev nD) : sProp 𝕄 := iprop(PA c j ∗ XL V c 0 j ∗ Z c j ∗ Fu c 0 j ∗ Fu c 1 j ∗ Fu c 2 j)
def allOut (j : Dev nD) : sProp 𝕄 := iprop(PA c j ∗ XL V c 0 j ∗ Done V c 0 j ∗ Done V c 1 j ∗ Done V c 2 j ∗ Fin' c j)

/-- The whole list of steps. -/
theorem tri_all : Tri V K c allSteps [] iprop(bigSep Finset.univ (allIn V c) ∗ Wts V c) iprop(bigSep Finset.univ (allOut V c) ∗ Wts V c) := by
  have hE : (allP.map (Step.agW 2) ++ []).all (aboveB 6) = true := by rw [List.append_nil]; exact all_agW 2 _ _
  have hE' : ∀ n, (allP.map (Step.agW 2) ++ []).all (aboveB n) = true := fun n => by rw [List.append_nil]; exact all_agW 2 _ _
  have h2r : ∀ n, n < 6 → ((nextSteps 1 2 ++ allP.map (Step.agW 2)) ++ []).all (aboveB n) = true := fun n hn => by
    rw [List.append_nil, List.all_append (xs := nextSteps 1 2), all_next 1 2 n hn, all_agW]; rfl
  have h1r : ∀ n, n < 4 → ((nextSteps 0 1 ++ (nextSteps 1 2 ++ allP.map (Step.agW 2))) ++ []).all (aboveB n) = true := fun n hn => by
    have h := h2r n (by omega); rw [List.append_nil] at h ⊢; rw [List.all_append (xs := nextSteps 0 1), all_next 0 1 n hn, h]; rfl
  have hA := (tri_first V K c ((nextSteps 0 1 ++ (nextSteps 1 2 ++ allP.map (Step.agW 2))) ++ []) (h1r 2 (by decide))).frame iprop(Wt V c 1 ∗ Wt V c 2)
  have hB := (tri_next V K c 0 1 rfl rfl rfl ((nextSteps 1 2 ++ allP.map (Step.agW 2)) ++ []) (h2r 4 (by decide)) (h2r 3 (by decide))).frame iprop(Wt V c 0 ∗ Wt V c 2)
  have hC := (tri_next V K c 1 2 rfl rfl rfl (allP.map (.agW 2) ++ []) (hE' _) (hE' _)).frame iprop(Wt V c 0 ∗ Wt V c 1)
  have hA1 := Tri.peers (A' := allIn V c) (B' := fun j => iprop(fPost V c j ∗ Fu c 1 j ∗ Fu c 2 j)) (R := fun j => iprop(Fu c 1 j ∗ Fu c 2 j))
    (W := Wts V c) ((hA.pre (Entails.of_eq (by unfold Wts; ac_rfl))).post (Entails.of_eq (by unfold Wts; ac_rfl)))
    (fun j => (drop_left _ _).trans (by unfold allIn fIn; exact Entails.of_eq (by ac_rfl))) (fun j => Entails.refl _)
  have hB1 := Tri.peers (A' := fun j => iprop(fPost V c j ∗ Fu c 1 j ∗ Fu c 2 j)) (B' := fun j => iprop(nPost V c 0 1 j ∗ XL V c 0 j ∗ Fu c 2 j))
    (R := fun j => iprop(XL V c 0 j ∗ Fu c 2 j)) (W := Wts V c) ((hB.pre (Entails.of_eq (by unfold Wts; ac_rfl))).post (Entails.of_eq (by unfold Wts; ac_rfl)))
    (fun j => (drop_left _ _).trans (by unfold fPost nIn; exact Entails.of_eq (by ac_rfl))) (fun j => Entails.refl _)
  have hC1 := Tri.peers (A' := fun j => iprop(nPost V c 0 1 j ∗ XL V c 0 j ∗ Fu c 2 j)) (B' := fun j => iprop(nPost V c 1 2 j ∗ XL V c 0 j ∗ Done V c 0 j))
    (R := fun j => iprop(XL V c 0 j ∗ Done V c 0 j)) (W := Wts V c) ((hC.pre (Entails.of_eq (by unfold Wts; ac_rfl))).post (Entails.of_eq (by unfold Wts; ac_rfl)))
    (fun j => (drop_left _ _).trans (by unfold nPost nIn; exact Entails.of_eq (by ac_rfl))) (fun j => Entails.refl _)
  have hD1 := Tri.peers (A' := fun j => iprop(nPost V c 1 2 j ∗ XL V c 0 j ∗ Done V c 0 j)) (B' := allOut V c)
    (R := fun j => iprop(PA c j ∗ Done V c 1 j ∗ XL V c 0 j ∗ Done V c 0 j)) (W := Wts V c) (tri_end V K c (Wts V c))
    (fun j => (drop_left _ _).trans (by unfold nPost eIn; exact Entails.of_eq (by ac_rfl)))
    (fun j => by unfold ePost allOut; exact Entails.of_eq (by ac_rfl))
  exact Tri.append hA1 (Tri.append hB1 (Tri.append hC1 hD1))

end

end Cert.KernelIdeal.Pf

end
-- ==== Proof.Join.lean ====
/-
Whole buffers split into the pieces the peers take, and joined again at the end.
-/
module

public import proofs.«01_k».proof.Proof.Layer

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

section
variable (V : Vals F) (c : Dev nD)

/-- Pieces at any values are the whole buffer at some values, and the other way round. -/
theorem rows_any (m : Memref sig .tc .vmem S256x256 .f32) : (bigSep Finset.univ fun j : Fin 32 => (anyPt m c (rowR j).set : sProp 𝕄)) ⊢ anyPt m c Finset.univ := by
  have h := mPt_biUnion_any (F := F) m c Finset.univ (fun j : Fin 32 => (rowR j).set) fullShare fun t _ t' _ h => rows_disj h
  rw [rows_cover] at h
  exact h
theorem slots_any (m : Memref sig .tc .vmem S32x8x256 .f32) : (bigSep Finset.univ fun j : Fin 32 => (anyPt m c (slotR j).set : sProp 𝕄)) ⊢ anyPt m c Finset.univ := by
  have h := mPt_biUnion_any (F := F) m c Finset.univ (fun j : Fin 32 => (slotR j).set) fullShare fun t _ t' _ h => slots_disj h
  rw [slots_cover] at h
  exact h
theorem any_rows (m : Memref sig .tc .vmem S256x256 .f32) : (anyPt m c Finset.univ : sProp 𝕄) ⊢ bigSep Finset.univ fun j : Fin 32 => anyPt m c (rowR j).set := by
  refine (show (anyPt m c Finset.univ : sProp 𝕄) ⊢ iprop(∃ x, mPt m c Finset.univ fullShare x) from .rfl).trans ?_
  iintro ⟨%x, H⟩
  iapply (show (mPt m c Finset.univ fullShare x : sProp 𝕄) ⊢ bigSep Finset.univ fun j : Fin 32 => anyPt m c (rowR j).set from by
    rw [mPt_rows]; exact bigSep_mono fun j _ => anyPt_intro _ _ _ _)
  iexact H
theorem any_slots (m : Memref sig .tc .vmem S32x8x256 .f32) : (anyPt m c Finset.univ : sProp 𝕄) ⊢ bigSep Finset.univ fun j : Fin 32 => anyPt m c (slotR j).set := by
  refine (show (anyPt m c Finset.univ : sProp 𝕄) ⊢ iprop(∃ x, mPt m c Finset.univ fullShare x) from .rfl).trans ?_
  iintro ⟨%x, H⟩
  iapply (show (mPt m c Finset.univ fullShare x : sProp 𝕄) ⊢ bigSep Finset.univ fun j : Fin 32 => anyPt m c (slotR j).set from by
    rw [mPt_slots]; exact bigSep_mono fun j _ => anyPt_intro _ _ _ _)
  iexact H

/-- The four cells of a peer at round `n`; what the launch gives for a peer. -/
def At (n : ℕ) (j : Dev nD) : sProp 𝕄 := iprop(atP c 0 j n ∗ atP c 1 j n ∗ atP c 2 j n ∗ atP c 3 j n)
def Tk (l : Fin 3) (j : Dev nD) : sProp 𝕄 := iprop(tokP c l j ∗ tokG c l j ∗ cr c 2 j l ∗ cr c 3 j l)

theorem barPay_eq (d : Dev nD) : (barPay c d : sProp 𝕄) = iprop(slotAny d c ∗ rowAny 0 d c ∗ rowAny 1 d c ∗ rowAny 2 d c) := rfl

theorem univ_split (Φ : Dev nD → sProp 𝕄) : bigSep Finset.univ Φ = iprop(Φ c ∗ bigSep (Finset.univ.erase c) Φ) := bigSep_univ_split c

/-- What the launch and the barrier give is what the layers take. -/
theorem split_in : iprop((bigSep (Finset.univ.erase c) fun d => (barPay c d : sProp 𝕄)) ∗ (barPay c c)
      ∗ (bigSep Finset.univ (PA c)) ∗ (bigSep Finset.univ (XL V c 0))
      ∗ (bigSep (Finset.univ.erase c) fun j => iprop(At c 0 j ∗ Tk c 0 j ∗ Tk c 1 j ∗ Tk c 2 j)))
    ⊢ bigSep Finset.univ (allIn V c) := by
  have h1 : (bigSep Finset.univ (allIn V c) : sProp 𝕄)
      = iprop(bigSep Finset.univ (PA c) ∗ bigSep Finset.univ (XL V c 0) ∗ bigSep Finset.univ fun j => iprop(Z c j ∗ Fu c 0 j ∗ Fu c 1 j ∗ Fu c 2 j)) := by
    rw [← bigSep_sep', ← bigSep_sep']; rfl
  have h2 : (bigSep Finset.univ fun j => (iprop(Z c j ∗ Fu c 0 j ∗ Fu c 1 j ∗ Fu c 2 j) : sProp 𝕄))
      = iprop(barPay c c ∗ (bigSep (Finset.univ.erase c) fun d => (barPay c d : sProp 𝕄))
        ∗ (bigSep (Finset.univ.erase c) fun j => iprop(At c 0 j ∗ Tk c 0 j ∗ Tk c 1 j ∗ Tk c 2 j))) := by
    rw [univ_split c, ← bigSep_sep']
    congr 1
    · unfold Z Fu; simp only [sel_self]; rfl
    · refine bigSep_congr fun j hj => ?_
      unfold Z Fu At Tk; simp only [sel_ne (Finset.ne_of_mem_erase hj), barPay_eq]
      ac_rfl
  rw [h1, h2]
  exact Entails.of_eq (by ac_rfl)

/-- The result of a layer, whole. -/
theorem join_done (l : Fin 3) : (bigSep Finset.univ (Done V c l) : sProp 𝕄) = mPt (E0.dst l) c Finset.univ fullShare (V.yv l) := by
  have h1 : (mPt (E0.dst l) c Finset.univ fullShare (V.yv l) : sProp 𝕄) = bigSep Finset.univ fun j => rowPt V c l j fullShare := mPt_rows _ _ _ _
  have h2 : (rowPt V c l c fullShare.right : sProp 𝕄) = iprop(rowPt V c l c (keptSh 32) ∗ bigSep Finset.univ fun j : Dev nD => rowPt V c l c (lendSh j.val)) :=
    lend_fin _ _ _ _
  have h3 : (bigSep (Finset.univ.erase c) (Done V c l) : sProp 𝕄)
      = iprop((bigSep (Finset.univ.erase c) fun j => rowPt V c l j fullShare) ∗ bigSep (Finset.univ.erase c) fun j => rowPt V c l c (lendSh j.val)) := by
    rw [← bigSep_sep']
    exact bigSep_congr fun j hj => sel_ne (Finset.ne_of_mem_erase hj) _ _
  rw [h1, univ_split c, h3, univ_split c (fun j => rowPt V c l j fullShare), rowPt_halves V c l c, h2,
    univ_split c (fun j : Dev nD => rowPt V c l c (lendSh j.val))]
  unfold Done
  rw [sel_self]
  ac_rfl

theorem join_fin : (bigSep Finset.univ (Fin' c) : sProp 𝕄) = iprop((bigSep Finset.univ (slotAny c)) ∗ bigSep (Finset.univ.erase c) (At c 3)) := by
  have h3 : (bigSep (Finset.univ.erase c) (Fin' c) : sProp 𝕄)
      = iprop((bigSep (Finset.univ.erase c) (slotAny c)) ∗ bigSep (Finset.univ.erase c) (At c 3)) := by
    rw [← bigSep_sep']
    exact bigSep_congr fun j hj => sel_ne (Finset.ne_of_mem_erase hj) _ _
  rw [univ_split c, h3, univ_split c (slotAny c)]
  unfold Fin'
  rw [sel_self]
  ac_rfl

/-- What the layers leave. -/
theorem join_out : (bigSep Finset.univ (allOut V c) : sProp 𝕄) ⊢ iprop(anyPt part c Finset.univ ∗ mPt E0.a0 c Finset.univ ldSh (V.x c)
      ∗ mPt (E0.dst 0) c Finset.univ fullShare (V.yv 0) ∗ mPt (E0.dst 1) c Finset.univ fullShare (V.yv 1)
      ∗ mPt (E0.dst 2) c Finset.univ fullShare (V.yv 2) ∗ anyPt rs c Finset.univ ∗ bigSep (Finset.univ.erase c) (At c 3)) := by
  have h1 : (bigSep Finset.univ (allOut V c) : sProp 𝕄)
      = iprop(bigSep Finset.univ (PA c) ∗ bigSep Finset.univ (XL V c 0) ∗ bigSep Finset.univ (Done V c 0) ∗ bigSep Finset.univ (Done V c 1)
        ∗ bigSep Finset.univ (Done V c 2) ∗ bigSep Finset.univ (Fin' c)) := by
    rw [← bigSep_sep', ← bigSep_sep', ← bigSep_sep', ← bigSep_sep', ← bigSep_sep']; rfl
  have h2 : (bigSep Finset.univ (XL V c 0) : sProp 𝕄) = mPt E0.a0 c Finset.univ ldSh (V.x c) := (mPt_rows _ _ _ _).symm
  rw [h1, h2, join_done, join_done, join_done, join_fin]
  iintro ⟨H1, H2, H3, H4, H5, H6, H7⟩
  isplitl [H1]; · iapply (rows_any c part); iexact H1
  isplitl [H2]; · iexact H2
  isplitl [H3]; · iexact H3
  isplitl [H4]; · iexact H4
  isplitl [H5]; · iexact H5
  isplitl [H6]; · iapply (slots_any c rs); iexact H6
  iexact H7

end

end Cert.KernelIdeal.Pf

end
-- ==== Proof.Body.lean ====
/-
The run of one device: the barrier, the layers, and the closing of its cells.
-/
module

public import proofs.«01_k».proof.Proof.Join

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ### The barrier -/

/-- The device the barrier's trip `n` signals. -/
def peer (c : Dev nD) (n : ℕ) : Dev nD := ⟨(c.val + 1 + n) % 32, Nat.mod_lt _ (by decide)⟩
/-- What is owed to the other barriers from trip `n` on, and everything a device owes at the start. -/
def barOwed (c : Dev nD) (n : ℕ) : CellTallies nD τ sig ℕ := ∑ i ∈ Finset.Ico n 31, tallyAt (bar (peer c i)) 0 1
def owedFrom (c : Dev nD) (n : ℕ) : CellTallies nD τ sig ℕ := owedOf c allSteps + barOwed c n
def O₀ (c : Dev nD) : CellTallies nD τ sig ℕ := owedFrom c 0

theorem Ico_step {n : ℕ} (h : n < 31) : Finset.Ico n 31 = insert n (Finset.Ico (n + 1) 31) := by
  ext i; simp only [Finset.mem_insert, Finset.mem_Ico]; omega
theorem notMem_step (n : ℕ) : n ∉ Finset.Ico (n + 1) 31 := by simp only [Finset.mem_Ico]; omega
theorem owedFrom_step (c : Dev nD) {n : ℕ} (h : n < 31) : owedFrom c n = owedFrom c (n + 1) + tallyAt (bar (peer c n)) 0 1 := by
  unfold owedFrom barOwed
  rw [Ico_step h, Finset.sum_insert (notMem_step n), add_comm (tallyAt _ _ _), add_assoc]
theorem owedFrom_last (c : Dev nD) : owedFrom c 31 = owedOf c allSteps := by
  unfold owedFrom barOwed; rw [Finset.Ico_self, Finset.sum_empty, add_zero]

theorem trips_eq : k0_t1_loop.trips = 31 := by decide +kernel
theorem dev1_val : ∀ (c : Dev nD) (k : Fin 31), k0_dev1 c (k.cast trips_eq.symm) = (peer c k.val).val := by decide +kernel
theorem dev1_eq (c : Dev nD) (k : Fin k0_t1_loop.trips) : (⟨k0_dev1 c k, k0_dev1_lt c k⟩ : Dev nD) = peer c k.val :=
  Fin.ext (dev1_val c (k.cast trips_eq))
theorem peer_ne : ∀ (c : Dev nD) (k : Fin 31), c ≠ peer c k.val := by decide +kernel
theorem peer_inj (c : Dev nD) : Function.Injective fun k : Fin 31 => peer c k.val := by revert c; decide +kernel
theorem peer_cover : ∀ c : Dev nD, Finset.univ.erase c = Finset.univ.map (⟨fun k : Fin 31 => peer c k.val, peer_inj c⟩ : Fin 31 ↪ Dev nD) := by
  decide +kernel

theorem by_peers (c : Dev nD) (Φ : Dev nD → sProp 𝕄) : bigSep (Finset.univ.erase c) Φ = bigSep (Finset.Ico 0 31) fun n => Φ (peer c n) := by
  rw [peer_cover c, bigSep_map, show Finset.Ico 0 31 = (Finset.univ : Finset (Fin 31)).map Fin.valEmbedding by decide +kernel, bigSep_map]
  rfl

section
variable (V : Vals F) (K : Dev nD × CI → ℕ) (c : Dev nD)

/-- A loop from its invariant. -/
theorem run_loop (lp : Scf.Loop 32) (hok : lp.OK) (body : Fin lp.trips → PUnit → P F PUnit) (I : ℕ → sProp (MT nD τ sig ℕ (Elt F) ℕ UU ℕ))
    (hstep : ∀ k : Fin lp.trips, I k.val ⊢ WP c (body k ⟨⟩) fun _ => I (k.val + 1)) :
    I 0 ⊢ WP c (Scf.Loop.for lp hok ⟨⟩ body) fun _ => I lp.trips := by
  have h := exec_loop_last (M := MT nD τ sig ℕ (Elt F) ℕ UU ℕ) frame (wpE (defs₀ (F := F)) 𝒱₀ (c : Thread nD τ) none) Set.univ lp.lb lp.ub lp.st hok ⟨⟩ body
    { inv := fun k _ => I k, step := fun k _ => hstep k } (Q := fun _ => I lp.trips)
  have h' : I 0 ⊢ iprop((∀ acc : PUnit, I lp.trips -∗ I lp.trips) -∗ WP c (Scf.Loop.for lp hok ⟨⟩ body) fun _ => I lp.trips) := h
  iintro HI
  iapply h' $$ [HI]
  · iexact HI
  iintro %acc H
  iexact H

/-- What a device holds for the signals from trip `n` on: their tokens, and the places it hands over. -/
def barHold (n : ℕ) : sProp 𝕄 := bigSep (Finset.Ico n 31) fun i => iprop(dutyTok ER (bar (peer c i)) 0 c ∗ barPay (peer c i) c)
def barInv (n : ℕ) : sProp 𝕄 := iprop(recs V K ∗ (∃ W, owes (c : Thread nD τ) (owedFrom c n) W) ∗ barHold c n)

theorem barHold_step {n : ℕ} (h : n < 31) : (barHold c n : sProp 𝕄) = iprop((dutyTok ER (bar (peer c n)) 0 c ∗ barPay (peer c n) c) ∗ barHold c (n + 1)) := by
  unfold barHold; rw [Ico_step h, bigSep_insert (notMem_step n)]; rfl

theorem payload_bar (d : Dev nD) : (Rd V).payload (bar d) 0 c = barPay d c := rfl

theorem bar_step (n : ℕ) (h : n < 31) (d : Dev nD) (hd : d = peer c n) :
    barInv V K c n ⊢ WP c (semSignalWord d barS 1#32) fun _ => barInv V K c (n + 1) := by
  subst hd
  unfold barInv
  rw [barHold_step c h, owedFrom_step c h]
  simp only [semSignalWord, Prog.lift, Prog.bind_op, Prog.bind_ret, Prog.pure_eq_ret]
  iintro ⟨#Hr, ⟨%W, HO⟩, ⟨Ht, Hp⟩, Hrest⟩
  iapply (Rounds.wp_signal 𝒱₀ ER (Rd V) (c : Thread nD τ) none (dst := (peer c n : Thread nD τ)) (κ := K (peer c n, .inl ())) (r := 0)
      (d := c) (by rw [duties_bar]; exact Finset.mem_erase.mpr ⟨peer_ne c ⟨n, h⟩, Finset.mem_univ _⟩) (show (1 : ℕ) = _ by decide) (0 : ℕ) (owedFrom c (n + 1)) rfl (W := W))
    $$ [HO Ht Hp]
  · isplitr; · iapply (recs_bar V K (peer c n)); iexact Hr
    isplitl [HO]; · iexact HO
    isplitl [Ht]; · iexact Ht
    isplitl [Hp]; · rw [payload_bar]; iexact Hp
    iapply (recs_rbar V K (peer c n)); iexact Hr
  iintro HO
  rw [wp_ret]; imodintro
  isplitr; · iexact Hr
  isplitl [HO]; · iexists W; iexact HO
  iexact Hrest

/-- The barrier: every device's places go out to the others, and every other device's places for this one come in. -/
theorem bar_run (body : Fin k0_t1_loop.trips → PUnit → P F PUnit)
    (hb : ∀ k, body k ⟨⟩ = semSignalWord (⟨k0_dev1 c k, k0_dev1_lt c k⟩ : Dev nD) barS 1#32)
    {Q : PUnit → sProp (MT nD τ sig ℕ (Elt F) ℕ UU ℕ)} (k : P F PUnit) :
    iprop(recs V K ∗ (∃ W, owes (c : Thread nD τ) (O₀ c) W) ∗ atPos ER (bar c) 0 ∅ 0 ∗ cred (tallyAt (bar c) 0 31)
        ∗ (bigSep (Finset.univ.erase c) fun d => dutyTok ER (bar d) 0 c) ∗ (bigSep (Finset.univ.erase c) fun d => barPay d c)
        ∗ ((Inv c allSteps ∗ atPos ER (bar c) 1 ∅ 0 ∗ (bigSep (Finset.univ.erase c) fun d => barPay c d)) -∗ WP c k Q))
      ⊢ WP c (Scf.Loop.for k0_t1_loop k0_t1_ok ⟨⟩ body >>= fun _ => semWaitWord barS 31#32 >>= fun _ => k) Q := by
  have hloop := run_loop c k0_t1_loop k0_t1_ok body (barInv V K c) fun i => by
    rw [hb i]; exact bar_step V K c i.val (lt_of_lt_of_eq i.isLt trips_eq) _ (dev1_eq c i)
  rw [trips_eq] at hloop
  unfold WP
  rw [wp_bind]
  iintro ⟨#Hr, HO, Hat, Hcr, Htok, Hpay, Hk⟩
  ihave Hw := hloop $$ [HO Htok Hpay]
  · unfold barInv
    isplitr; · iexact Hr
    isplitl [HO]; · iexact HO
    unfold barHold
    rw [bigSep_sep', ← by_peers c fun d => (dutyTok ER (bar d) 0 c : sProp 𝕄), ← by_peers c fun d => (barPay d c : sProp 𝕄)]
    isplitl [Htok] <;> iassumption
  iapply (wp_wand frame (wpE (defs₀ (F := F)) 𝒱₀ (c : Thread nD τ) none) Set.univ) $$ Hw
  iintro %a H
  simp only [semWaitWord, Prog.lift, Prog.bind_op, Prog.bind_ret, Prog.pure_eq_ret]
  unfold barInv
  rw [owedFrom_last]
  icases H with ⟨-, ⟨%W, HO⟩, -⟩
  iapply (Rounds.wp_wait_rest_token 𝒱₀ ER (Rd V) (c : Thread nD τ) none (κ := K (c, .inl ()))
      (wpE_semWait_eq 𝒱₀ (c : Thread nD τ) none Set.univ) (Set.mem_univ _) (0 : ℕ) (O := owedOf c allSteps) (W := W) (R := 0) (m := 0) (T := ∅)
      (by rw [expect_bar]; decide)) $$ [Hcr HO Hat]
  · isplitr; · iapply (recs_bar V K c); iexact Hr
    isplitl [Hcr]; · iexact Hcr
    isplitl [HO]; · iexact HO
    isplitr; · iapply (mayWait c (.reg barS) 0 allSteps 1 (lv_bar c 0).le (by decide +kernel)); iapply (recs_lev V K); iexact Hr
    iexact Hat
  iintro ⟨HO, Hat, -, Hp⟩
  ihave Hp := (Entails.of_eq (rest_bar V c)) $$ Hp
  iapply Hk
  isplitl [HO]; · unfold Inv; iexists _; iexact HO
  isplitl [Hat]; · iexact Hat
  iexact Hp

/-! ### The closing of the cells -/

theorem close_bar : iprop(recs V K ∗ atPos ER (bar c) 1 ∅ 0) ⊢ |={Set.univ}=> semVal (bar c) 0 := by
  iintro ⟨#Hr, H⟩
  iapply (Rounds.cell_close ER (Rd V) (Set.mem_univ (K (c, .inl ()))) (fun h => h) (R := 1) (duties_bar_later V c))
  isplitr; · iapply (recs_bar V K c); iexact Hr
  iexact H
/-- The round a transfer cell ends at. -/
def rOf (j : Dev nD) : ℕ := if j = c then 0 else 3
theorem close_xc (k : Fin 4) (j : Dev nD) : iprop(recs V K ∗ atP c k j (rOf c j)) ⊢ |={Set.univ}=> semVal (xc c k j) 0 := by
  iintro ⟨#Hr, H⟩
  unfold atP
  iapply (Rounds.cell_close ER (Rd V) (Set.mem_univ (K (c, .inr (k, j)))) (fun h => h) (R := rOf c j) (fun r hr => by
    by_cases h : j = c
    · subst h; exact duties_xc_self V j k r
    · exact duties_xc_later V c k j r (by unfold rOf at hr; rwa [if_neg h] at hr)))
  isplitr; · iapply (recs_xc V K c k j); iexact Hr
  iexact H

theorem fin4_sep (Φ : Fin 4 → sProp 𝕄) : bigSep Finset.univ Φ = iprop(Φ 0 ∗ Φ 1 ∗ Φ 2 ∗ Φ 3) := bigSep_univ_eq_bigSepL [0, 1, 2, 3] (by decide) (by decide) Φ
theorem At_eq (n : ℕ) (j : Dev nD) : (At c n j : sProp 𝕄) = bigSep Finset.univ fun k : Fin 4 => atP c k j n := by rw [fin4_sep]; rfl

/-- The transfer cells at their ends are semaphores at zero. -/
theorem close_all : iprop(recs V K ∗ At c 0 c ∗ bigSep (Finset.univ.erase c) (At c 3))
    ⊢ |={Set.univ}=> bigSep Finset.univ fun kj : Fin 4 × Fin 32 => (semVal (xc c kj.1 kj.2) 0 : sProp 𝕄) := by
  have h1 : iprop(At c 0 c ∗ bigSep (Finset.univ.erase c) (At c 3)) = (bigSep Finset.univ fun kj : Fin 4 × Fin 32 => (atP c kj.1 kj.2 (rOf c kj.2) : sProp 𝕄)) := by
    rw [bigSep_univ_prod, bigSep_univ_comm, univ_split c]
    congr 1
    · rw [At_eq]; exact bigSep_congr fun k _ => congrArg (atP c k c) (if_pos rfl).symm
    · refine bigSep_congr fun j hj => ?_
      rw [At_eq]; exact bigSep_congr fun k _ => congrArg (atP c k j) (if_neg (Finset.ne_of_mem_erase hj)).symm
  rw [h1]
  exact (bigSep_recs (R := recs V K) fun kj _ => close_xc V K c kj.1 kj.2).trans (bigSep_fupd _ _)

/-! ### The run -/

/-- What a device starts from besides its buffers. -/
def lin : sProp 𝕄 := iprop(atPos ER (bar c) 0 ∅ 0 ∗ cred (tallyAt (bar c) 0 31) ∗ (bigSep (Finset.univ.erase c) fun d => dutyTok ER (bar d) 0 c)
  ∗ At c 0 c ∗ (bigSep (Finset.univ.erase c) fun j => iprop(At c 0 j ∗ Tk c 0 j ∗ Tk c 1 j ∗ Tk c 2 j)))
/-- The scratch buffers at any values, and the semaphores at zero. -/
def scr : sProp 𝕄 := iprop(anyPt part c Finset.univ ∗ anyPt E0.a9 c Finset.univ ∗ anyPt E0.a10 c Finset.univ ∗ anyPt rs c Finset.univ)
def zeros : sProp 𝕄 := iprop((bigSep Finset.univ fun kj : Fin 4 × Fin 32 => semVal (xc c kj.1 kj.2) 0) ∗ semVal (bar c) 0)

theorem layers_run {Q : PUnit → sProp (MT nD τ sig ℕ (Elt F) ℕ UU ℕ)} :
    iprop(recs V K ∗ Inv c allSteps ∗ (bigSep Finset.univ (allIn V c) ∗ Wts V c) ∗ ((Inv c [] ∗ (bigSep Finset.univ (allOut V c) ∗ Wts V c)) -∗ |={Set.univ}=> Q ⟨⟩))
      ⊢ WP c (runK E0 c allSteps (pure ⟨⟩)) Q := by
  have h := tri_all V K c Q (pure ⟨⟩)
  simp only [List.append_nil] at h
  iintro ⟨Hr, HI, Hin, Hk⟩
  iapply h
  isplitl [Hr]; · iexact Hr
  isplitl [HI]; · iexact HI
  isplitl [Hin]; · iexact Hin
  iintro H
  simp only [Prog.pure_eq_ret, wp_ret]
  iapply Hk; iexact H

theorem bar_split : iprop(anyPt rs c Finset.univ ∗ anyPt (E0.dst 0) c Finset.univ ∗ anyPt (E0.dst 1) c Finset.univ ∗ anyPt (E0.dst 2) c Finset.univ)
    ⊢ (bigSep Finset.univ fun d => (barPay d c : sProp 𝕄)) := by
  have h : (bigSep Finset.univ fun d => (barPay d c : sProp 𝕄)) = iprop((bigSep Finset.univ fun j : Fin 32 => anyPt rs c (slotR j).set)
      ∗ (bigSep Finset.univ fun j : Fin 32 => anyPt (E0.dst 0) c (rowR j).set) ∗ (bigSep Finset.univ fun j : Fin 32 => anyPt (E0.dst 1) c (rowR j).set)
      ∗ (bigSep Finset.univ fun j : Fin 32 => anyPt (E0.dst 2) c (rowR j).set)) := by
    rw [← bigSep_sep', ← bigSep_sep', ← bigSep_sep']; rfl
  rw [h]
  iintro ⟨H1, H2, H3, H4⟩
  isplitl [H1]; · iapply (any_slots c rs); iexact H1
  isplitl [H2]; · iapply (any_rows c (E0.dst 0)); iexact H2
  isplitl [H3]; · iapply (any_rows c (E0.dst 1)); iexact H3
  iapply (any_rows c (E0.dst 2)); iexact H4

/-- What a device holds of its arrays, before and after. -/
def bufs : sProp 𝕄 := iprop(mPt E0.a0 c Finset.univ fullShare (V.x c) ∗ Wts V c ∗ scr c)

/-- The body of the kernel on one device. -/
theorem device_run (h0 : E0.a0.IsWhole) (h1 : E0.a1.IsWhole) (h2 : E0.a2.IsWhole) (h3 : E0.a3.IsWhole) (h4 : E0.a4.IsWhole)
    (h5 : E0.a5.IsWhole) (h6 : E0.a6.IsWhole) (h7 : E0.a7.IsWhole) (h8 : E0.a8.IsWhole) (h9 : E0.a9.IsWhole) (h10 : E0.a10.IsWhole)
    (h11 : E0.a11.IsWhole) {Q : PUnit → sProp (MT nD τ sig ℕ (Elt F) ℕ UU ℕ)} :
    iprop(recs V K ∗ (∃ W, owes (c : Thread nD τ) (O₀ c) W) ∗ lin c ∗ bufs V c ∗ anyPt E0.a7 c Finset.univ
        ∗ ((Inv c [] ∗ zeros c ∗ bufs V c ∗ mPt E0.a7 c Finset.univ fullShare (V.yv 2)) -∗ Q ⟨⟩))
      ⊢ WP c (cc0_body (F := F) E0.a0 h0 E0.a1 h1 E0.a2 h2 E0.a3 h3 E0.a4 h4 E0.a5 h5 E0.a6 h6 E0.a7 h7 E0.a8 h8 E0.a9 h9 E0.a10 h10 E0.a11 h11
          E0.a12 E0.a13 E0.a14 E0.a15) Q := by
  rw [body_eq E0 h0 h1 h2 h3 h4 h5 h6 h7 h8 h9 h10 h11]
  unfold WP
  rw [wp_deviceId]
  have hx : (mPt E0.a0 c Finset.univ fullShare (V.x c) : sProp 𝕄) = iprop(mPt E0.a0 c Finset.univ ldSh (V.x c) ∗ mPt E0.a0 c Finset.univ fullShare.right (V.x c)) :=
    mPt_halves _ _ _ _ _
  have hxl : (mPt E0.a0 c Finset.univ ldSh (V.x c) : sProp 𝕄) = bigSep Finset.univ (XL V c 0) := mPt_rows _ _ _ _
  unfold bufs lin scr
  iintro ⟨#Hr, HO, ⟨Hat, Hcr, Htok, Hself, Hpeers⟩, ⟨Hx, HW, Hpart, H9, H10, Hrs⟩, H7, Hk⟩
  ihave Hx := (Entails.of_eq hx) $$ Hx
  icases Hx with ⟨Hx, Hx'⟩
  ihave Hb := (bar_split (F := F) c) $$ [Hrs H9 H10 H7]
  · isplitl [Hrs]; · iexact Hrs
    isplitl [H9]; · iexact H9
    isplitl [H10]; · iexact H10
    iexact H7
  ihave Hb := (Entails.of_eq (univ_split c fun d => (barPay d c : sProp 𝕄))) $$ Hb
  icases Hb with ⟨Hme, Hb⟩
  iapply (bar_run V K c _ (fun _ => rfl) _)
  isplitr; · iexact Hr
  isplitl [HO]; · iexact HO
  isplitl [Hat]; · iexact Hat
  isplitl [Hcr]; · iexact Hcr
  isplitl [Htok]; · iexact Htok
  isplitl [Hb]; · iexact Hb
  iintro ⟨HI, Hat, Hin⟩
  iapply (layers_run V K c)
  isplitr; · iexact Hr
  isplitl [HI]; · iexact HI
  isplitl [Hin Hme Hpart Hx Hpeers HW]
  · isplitr [HW]
    · iapply (split_in V c)
      isplitl [Hin]; · iexact Hin
      isplitl [Hme]; · iexact Hme
      isplitl [Hpart]; · iapply (any_rows (F := F) c part); iexact Hpart
      isplitl [Hx]; · iapply (Entails.of_eq hxl); iexact Hx
      iexact Hpeers
    · iexact HW
  iintro ⟨HI, Hout, HW⟩
  ihave Hout := (join_out V c) $$ Hout
  icases Hout with ⟨Hpart, Hx, H9, H10, H7, Hrs, Hat3⟩
  imod (close_bar V K c) $$ [Hat] with Hz
  · isplitr; · iexact Hr
    iexact Hat
  imod (close_all V K c) $$ [Hself Hat3] with Hzs
  · isplitr; · iexact Hr
    isplitl [Hself] <;> iassumption
  imodintro
  iapply Hk
  isplitl [HI]; · iexact HI
  isplitl [Hz Hzs]; · unfold zeros; isplitl [Hzs] <;> iassumption
  isplitr [H7]
  · isplitl [Hx Hx']; · iapply (Entails.of_eq hx.symm); isplitl [Hx] <;> iassumption
    isplitl [HW]; · iexact HW
    isplitl [Hpart]; · iexact Hpart
    isplitl [H9]; · iapply (anyPt_intro (E0.dst 0) c Finset.univ (V.yv 0)); iexact H9
    isplitl [H10]; · iapply (anyPt_intro (E0.dst 1) c Finset.univ (V.yv 1)); iexact H10
    iexact Hrs
  · iexact H7

end

end Cert.KernelIdeal.Pf

end
-- ==== Proof.Dats.lean ====
/-
The proof data of the pipeline call: what its windows hold before and after the one point, and its body's obligation.
-/
module

public import proofs.«01_k».proof.Proof.Body

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The values the arguments hold. -/
def vals : Vals F where
  x c := (win0_0.blk (0 : Fin 1)).view.read (Elt F) ((s₀ m ρ).mem ((c : Thread nD τ).loc main_arg0))
  w1
    | 0 => fun c => (win0_1.blk (0 : Fin 1)).view.read (Elt F) ((s₀ m ρ).mem ((c : Thread nD τ).loc main_arg1))
    | 1 => fun c => (win0_3.blk (0 : Fin 1)).view.read (Elt F) ((s₀ m ρ).mem ((c : Thread nD τ).loc main_arg2))
    | 2 => fun c => (win0_5.blk (0 : Fin 1)).view.read (Elt F) ((s₀ m ρ).mem ((c : Thread nD τ).loc main_arg3))
  w2
    | 0 => fun c => (win0_2.blk (0 : Fin 1)).view.read (Elt F) ((s₀ m ρ).mem ((c : Thread nD τ).loc main_arg4))
    | 1 => fun c => (win0_4.blk (0 : Fin 1)).view.read (Elt F) ((s₀ m ρ).mem ((c : Thread nD τ).loc main_arg5))
    | 2 => fun c => (win0_6.blk (0 : Fin 1)).view.read (Elt F) ((s₀ m ρ).mem ((c : Thread nD τ).loc main_arg6))

/-- What a device starts from; what it holds before and after the point. -/
def start (c : Dev nD) : sProp 𝕄 := iprop(∃ K, recs (vals m ρ) K ∗ lin c)
def Φ₀ (c : Dev nD) : sProp 𝕄 := iprop(start m ρ c ∗ scr c)
def Φ₁ (c : Dev nD) : sProp 𝕄 := iprop(scr c ∗ zeros c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => (vals m ρ).x c
    | ⟨1, _⟩ => (vals m ρ).w1 0 c
    | ⟨2, _⟩ => (vals m ρ).w2 0 c
    | ⟨3, _⟩ => (vals m ρ).w1 1 c
    | ⟨4, _⟩ => (vals m ρ).w2 1 c
    | ⟨5, _⟩ => (vals m ρ).w1 2 c
    | ⟨6, _⟩ => (vals m ρ).w2 2 c
    | ⟨7, _⟩ => (vals m ρ).yv 2
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_mPt {sp : Space} {s : Shape} {e : EltTy} (M : Memref sig .tc sp s e) (c : Dev nD) (X : s.Idx → Elt F e) :
    (owns (Ix := ℕ) (Name := ℕ) (U := UU) (Lvl := ℕ) (c : Thread nD τ) M fullShare X : sProp 𝕄) = mPt M c Finset.univ fullShare X := by
  have h1 : (owns (Ix := ℕ) (Name := ℕ) (U := UU) (Lvl := ℕ) (c : Thread nD τ) M fullShare X : sProp 𝕄) ⊢ mPt M c Finset.univ fullShare X := by
    unfold owns
    iintro ⟨%f, %hf, H⟩
    iapply (Entails.of_eq (mPt_of_read M c Finset.univ fullShare X f fun i _ => congrFun hf i)); iexact H
  have h2 : (mPt M c Finset.univ fullShare X : sProp 𝕄) ⊢ owns (Ix := ℕ) (Name := ℕ) (U := UU) (Lvl := ℕ) (c : Thread nD τ) M fullShare X := by
    unfold owns
    iintro H
    iexists (M.view.rep X)
    isplitr; · ipureintro; exact View.read_rep _ _
    iapply (Entails.of_eq (show (mPt M c Finset.univ fullShare X : sProp 𝕄) = (M.view.loc (c : Thread nD τ) ↦[M.view.set]{fullShare} M.view.rep X) from rfl)); iexact H
  exact BI.equiv_iff.mp ⟨h1, h2⟩

theorem whole_any (b : Ref sig .tc) (c : Dev nD) :
    (iprop(∃ f : Buf (Elt F) ((c : Thread nD τ).loc b), ((c : Thread nD τ).loc b) ↦{fullShare} f) : sProp 𝕄) = anyPt (Memref.whole b) c Finset.univ := by
  have h1 : (iprop(∃ f : Buf (Elt F) ((c : Thread nD τ).loc b), ((c : Thread nD τ).loc b) ↦{fullShare} f) : sProp 𝕄) ⊢ anyPt (Memref.whole b) c Finset.univ := by
    iintro ⟨%f, H⟩
    iapply (anyPt_intro (Memref.whole b) c Finset.univ ((Memref.whole b).view.read (Elt F) f))
    iapply (Entails.of_eq (mPt_whole (m := Memref.whole b) (View.set_whole b) c fullShare f)); iexact H
  have h2 : (anyPt (Memref.whole b) c Finset.univ : sProp 𝕄) ⊢ iprop(∃ f : Buf (Elt F) ((c : Thread nD τ).loc b), ((c : Thread nD τ).loc b) ↦{fullShare} f) := by
    unfold anyPt
    iintro ⟨%x, H⟩
    iexists ((Memref.whole b).view.rep x)
    iapply (Entails.of_eq ((mPt_whole (m := Memref.whole b) (View.set_whole b) c fullShare ((Memref.whole b).view.rep x)).trans (by rw [View.read_rep])).symm); iexact H
  exact BI.equiv_iff.mp ⟨h1, h2⟩

theorem fetch_in (t : Fin cfg0.N) (w : Fin 8) (h : w ≠ 7) : (cfg0.win w).fetch t = true := by
  rw [fin_N0 t]; revert w; decide

theorem stage_in (c : Dev nD) (w : Fin 8) (h : w ≠ 7) (X) (hX : ∀ d, (dats m ρ 0 c).fetched w t0_0 d = X) :
    (iprop(∃ d, owns (Ix := ℕ) (Name := ℕ) (U := UU) (Lvl := ℕ) (c : Thread nD τ) ((cfg0.win w).stage (cfg0.slots t0_0 w)) fullShare ((dats m ρ 0 c).before w t0_0 d)) : sProp 𝕄)
      ⊢ mPt ((cfg0.win w).stage (cfg0.slots t0_0 w)) c Finset.univ fullShare X := by
  iintro ⟨%d, H⟩
  iapply (Entails.of_eq ((owns_mPt ((cfg0.win w).stage (cfg0.slots t0_0 w)) c _).trans (congrArg (mPt ((cfg0.win w).stage (cfg0.slots t0_0 w)) c Finset.univ fullShare)
    (show (dats m ρ 0 c).before w t0_0 d = X by unfold Pipeline.Dat.before; rw [if_pos (fetch_in t0_0 w h)]; exact hX d))))
  iexact H

theorem stage_res (c : Dev nD) : (iprop(∃ d, owns (Ix := ℕ) (Name := ℕ) (U := UU) (Lvl := ℕ) (c : Thread nD τ) ((cfg0.win (7 : Fin 8)).stage (cfg0.slots t0_0 (7 : Fin 8))) fullShare
    ((dats m ρ 0 c).before (7 : Fin 8) t0_0 d)) : sProp 𝕄) ⊢ anyPt E0.a7 c Finset.univ := by
  iintro ⟨%d, H⟩
  iapply (anyPt_intro E0.a7 c Finset.univ ((dats m ρ 0 c).before (7 : Fin 8) t0_0 d))
  iapply (show (owns (Ix := ℕ) (Name := ℕ) (U := UU) (Lvl := ℕ) (c : Thread nD τ) ((cfg0.win (7 : Fin 8)).stage (cfg0.slots t0_0 (7 : Fin 8))) fullShare
    ((dats m ρ 0 c).before (7 : Fin 8) t0_0 d) : sProp 𝕄) ⊢ mPt E0.a7 c Finset.univ fullShare ((dats m ρ 0 c).before (7 : Fin 8) t0_0 d)
    from Entails.of_eq (owns_mPt E0.a7 c _))
  iexact H

/-- The library's body obligation on core `c`. -/
theorem body_obligation (c : Dev nD) : Pipeline.BodyObligation (dats (F := F) m ρ 0 c) (defs₀ (F := F)) 𝒱₀ 0 Set.univ := fun t => by
  rw [fin_N0 t]
  rw [bigSep_W0, bigSep_W0]
  show iprop(Φ₀ m ρ c ∗ _) ⊢ WP c (cc0_body (F := F) E0.a0 _ E0.a1 _ E0.a2 _ E0.a3 _ E0.a4 _ E0.a5 _ E0.a6 _ E0.a7 _ E0.a8 _ E0.a9 _ E0.a10 _ E0.a11 _
          E0.a12 E0.a13 E0.a14 E0.a15) fun _ => iprop(Φ₁ c ∗ _)
  unfold Φ₀ start
  iintro ⟨⟨⟨%K, #Hr, Hlin⟩, Hscr⟩, Ho, H0, H1, H2, H3, H4, H5, H6, H7⟩
  ihave H0 := (stage_in m ρ c 0 (by decide) ((vals m ρ).x c) fun _ => rfl) $$ H0
  ihave H1 := (stage_in m ρ c 1 (by decide) ((vals m ρ).w1 0 c) fun _ => rfl) $$ H1
  ihave H2 := (stage_in m ρ c 2 (by decide) ((vals m ρ).w2 0 c) fun _ => rfl) $$ H2
  ihave H3 := (stage_in m ρ c 3 (by decide) ((vals m ρ).w1 1 c) fun _ => rfl) $$ H3
  ihave H4 := (stage_in m ρ c 4 (by decide) ((vals m ρ).w2 1 c) fun _ => rfl) $$ H4
  ihave H5 := (stage_in m ρ c 5 (by decide) ((vals m ρ).w1 2 c) fun _ => rfl) $$ H5
  ihave H6 := (stage_in m ρ c 6 (by decide) ((vals m ρ).w2 2 c) fun _ => rfl) $$ H6
  ihave H7 := (stage_res m ρ c) $$ H7
  unfold Pipeline.Dat.owesAt Pipeline.owesWithin
  icases Ho with ⟨%W, %hW, HO⟩
  iapply (device_run (vals m ρ) K c)
  isplitr; · iexact Hr
  isplitl [HO]; · iexists W; iexact HO
  isplitl [Hlin]; · iexact Hlin
  isplitl [H0 H1 H2 H3 H4 H5 H6 Hscr]
  · unfold bufs Wts Wt
    isplitl [H0]; · iexact H0
    isplitr [Hscr]
    · isplitl [H1 H2]
      · isplitl [H1]; · iexact H1
        iexact H2
      isplitl [H3 H4]
      · isplitl [H3]; · iexact H3
        iexact H4
      isplitl [H5]; · iexact H5
      iexact H6
    · iexact Hscr
  isplitl [H7]; · iexact H7
  unfold Inv bufs Wts Wt
  iintro ⟨⟨%W', HO⟩, Hz, ⟨H0, ⟨⟨H1, H2⟩, ⟨H3, H4⟩, H5, H6⟩, Hscr⟩, H7⟩
  isplitl [Hscr Hz]; · unfold Φ₁; isplitl [Hscr] <;> iassumption
  isplitl [HO]
  · iexists W'
    isplitr; · ipureintro; exact fun _ _ => Or.inl trivial
    iexact HO
  isplitl [H0]; · iapply (Entails.of_eq (owns_mPt E0.a0 c _).symm); iexact H0
  isplitl [H1]; · iapply (Entails.of_eq (owns_mPt E0.a1 c _).symm); iexact H1
  isplitl [H2]; · iapply (Entails.of_eq (owns_mPt E0.a2 c _).symm); iexact H2
  isplitl [H3]; · iapply (Entails.of_eq (owns_mPt E0.a3 c _).symm); iexact H3
  isplitl [H4]; · iapply (Entails.of_eq (owns_mPt E0.a4 c _).symm); iexact H4
  isplitl [H5]; · iapply (Entails.of_eq (owns_mPt E0.a5 c _).symm); iexact H5
  isplitl [H6]; · iapply (Entails.of_eq (owns_mPt E0.a6 c _).symm); iexact H6
  iapply (Entails.of_eq (owns_mPt E0.a7 c _).symm); iexact H7

end Cert.KernelIdeal.Pf

end
-- ==== Proof.Credit.lean ====
/-
The credit a device's cells get at the launch.
-/
module

public import proofs.«01_k».proof.Proof.Dats

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ### What a device owes to one cell -/

/-- The cell a step pays on another device: its kind, the layer, the device. -/
def tgt : Step → Option (Fin 4 × Fin 3 × Fin 32)
  | .rsS l e => some (2, l, e)
  | .agS l e => some (3, l, e)
  | _ => none
theorem stepOwes_tgt (d : Dev nD) (s : Step) : stepOwes d s = match tgt s with
    | some (k, l, e) => if e = d then 0 else tallyAt (xc e k d) l.val N
    | none => 0 := by cases s <;> rfl

theorem step_at (d c j : Dev nD) (k : Fin 4) (l : Fin 3) (s : Step) :
    stepOwes d s (xc c k j) l.val = (if tgt s = some (k, l, c) then 1 else 0) * if d = j ∧ c ≠ j then N else 0 := by
  have hz : (0 : CellTallies nD τ sig ℕ) (xc c k j) l.val = 0 := rfl
  rw [stepOwes_tgt]
  cases htg : tgt s with
  | none => rw [if_neg (by intro h; cases h), Nat.zero_mul]; rfl
  | some p =>
    obtain ⟨k', l', e⟩ := p
    dsimp only
    by_cases h : (k', l', e) = (k, l, c)
    · injection h with h1 h2; injection h2 with h2 h3
      subst h1 h2 h3
      rw [if_pos rfl, Nat.one_mul]
      by_cases hd : d = j ∧ e ≠ j
      · obtain ⟨rfl, hne⟩ := hd
        rw [if_neg hne, if_pos ⟨rfl, hne⟩, tallyAt_apply, if_pos ⟨rfl, rfl⟩]
      · rw [if_neg hd]
        split
        · rfl
        · rename_i hne
          rw [tallyAt_apply, if_neg]
          intro h
          have := (xc_inj h.1).2.2
          exact hd ⟨this.symm, by rw [this]; exact hne⟩
    · rw [if_neg (fun h' => h (Option.some.inj h')), Nat.zero_mul]
      split
      · rfl
      · rw [tallyAt_apply, if_neg]
        intro h'
        obtain ⟨h1, h2, -⟩ := xc_inj h'.1
        exact h (by rw [h1, h2, Fin.ext h'.2])

theorem owed_at (d c j : Dev nD) (k : Fin 4) (l : Fin 3) (st : List Step) :
    owedOf d st (xc c k j) l.val = (st.countP fun s => tgt s = some (k, l, c)) * if d = j ∧ c ≠ j then N else 0 := by
  induction st with
  | nil => rw [owedOf_nil, List.countP_nil, Nat.zero_mul]; rfl
  | cons s st ih =>
    rw [owedOf_cons, Pi.add_apply, Finsupp.add_apply, ih, step_at, List.countP_cons, Nat.add_mul]
    simp only [decide_eq_true_eq]

theorem count_all : ∀ (kk : Fin 2) (l : Fin 3) (c : Fin 32), (allSteps.countP fun s => tgt s = some (kk.natAdd 2, l, c)) = 1 := by decide +kernel

theorem owed_bar (d c : Dev nD) (i : ℕ) (st : List Step) : owedOf d st (bar c) i = 0 := by
  induction st with
  | nil => rfl
  | cons s st ih =>
    rw [owedOf_cons, Pi.add_apply, Finsupp.add_apply, ih, Nat.zero_add, stepOwes_tgt]
    split
    · split
      · rfl
      · rw [tallyAt_apply, if_neg]
        intro h; have := congrArg Prod.snd h.1; cases this
    · rfl

theorem barOwed_eq (d : Dev nD) : barOwed d 0 = ∑ e ∈ Finset.univ.erase d, tallyAt (bar e) 0 1 := by
  unfold barOwed
  rw [peer_cover d, Finset.sum_map, show Finset.Ico 0 31 = (Finset.univ : Finset (Fin 31)).map Fin.valEmbedding by decide +kernel, Finset.sum_map]
  rfl
theorem bar_inj {c d : Dev nD} (h : bar c = bar d) : c = d := congrArg (fun g : GSem nD τ sig => g.1.1) h
theorem barOwed_at (d c : Dev nD) : barOwed d 0 (bar c) 0 = if d = c then 0 else 1 := by
  rw [barOwed_eq, Finset.sum_apply, Finsupp.finset_sum_apply]
  rw [Finset.sum_congr rfl fun e _ => show (tallyAt (bar e) 0 1 : CellTallies nD τ sig ℕ) (bar c) 0 = if c = e then 1 else 0 by
    rw [tallyAt_apply]
    by_cases h : c = e
    · rw [if_pos h, if_pos ⟨by rw [h], rfl⟩]
    · rw [if_neg h, if_neg fun h' => h (bar_inj h'.1)], Finset.sum_ite_eq]
  by_cases h : d = c
  · rw [if_pos h, if_neg fun h' => Finset.ne_of_mem_erase h' h.symm]
  · rw [if_neg h, if_pos (Finset.mem_erase.mpr ⟨fun h' => h h'.symm, Finset.mem_univ _⟩)]
theorem barOwed_xc (d c : Dev nD) (k : Fin 4) (j : Fin 32) (i : ℕ) : barOwed d 0 (xc c k j) i = 0 := by
  rw [barOwed_eq, Finset.sum_apply, Finsupp.finset_sum_apply]
  refine Finset.sum_eq_zero fun e _ => ?_
  rw [tallyAt_apply, if_neg]
  intro h; have := congrArg Prod.snd h.1; cases this
theorem barOwed_pos (d : Dev nD) {g : GSem nD τ sig} {i : ℕ} (h : 0 < barOwed d 0 g i) : 0 < lv g i ∧ i ∈ L g := by
  rw [barOwed_eq, Finset.sum_apply, Finsupp.finset_sum_apply] at h
  obtain ⟨e, -, he⟩ := Finset.exists_ne_zero_of_sum_ne_zero (Nat.pos_iff_ne_zero.mp h)
  obtain ⟨rfl, rfl⟩ := tally_pos (Nat.pos_of_ne_zero he)
  exact ⟨by rw [lv_bar]; exact Nat.one_pos, mem_L e _ 0⟩
theorem O₀_pos (d : Dev nD) {g : GSem nD τ sig} {i : ℕ} (h : 0 < O₀ d g i) : 0 < lv g i ∧ i ∈ L g := by
  unfold O₀ owedFrom at h
  rw [Pi.add_apply, Finsupp.add_apply] at h
  rcases Nat.eq_zero_or_pos (owedOf d allSteps g i) with h' | h'
  · rw [h', Nat.zero_add] at h; exact barOwed_pos d h
  · exact owedOf_pos (by decide +kernel) h'

/-! ### The credit of the launch -/

theorem launch_bar (c : Dev nD) :
    tallyOn (bar c) (launchCredit (Pipeline.owing O₀) 0 (bar c)) = (tallyAt (bar c) 0 31 : CellTallies nD τ sig ℕ) := by
  unfold tallyAt; refine congrArg _ (Finsupp.ext fun u => ?_)
  rw [Pipeline.launchCredit_owing]
  by_cases hu : u = 0
  · subst hu
    rw [Finsupp.single_eq_same, Finset.sum_congr rfl fun d _ => show O₀ d (bar c) 0 = if d = c then 0 else 1 by
      unfold O₀ owedFrom; rw [Pi.add_apply, Finsupp.add_apply, owed_bar, barOwed_at, Nat.zero_add]]
    revert c; decide +kernel
  · rw [Finsupp.single_eq_of_ne hu]
    refine Finset.sum_eq_zero fun d _ => ?_
    by_contra h
    have h1 : 0 < barOwed d 0 (bar c) u := by
      refine Nat.pos_of_ne_zero fun h' => h ?_
      unfold O₀ owedFrom; rw [Pi.add_apply, Finsupp.add_apply, owed_bar, h', Nat.add_zero]
    rw [barOwed_eq, Finset.sum_apply, Finsupp.finset_sum_apply] at h1
    obtain ⟨e, -, he⟩ := Finset.exists_ne_zero_of_sum_ne_zero (Nat.pos_iff_ne_zero.mp h1)
    exact hu (tally_pos (Nat.pos_of_ne_zero he)).2

theorem launch_xc (c j : Dev nD) (kk : Fin 2) (h : c ≠ j) :
    tallyOn (xc c (kk.natAdd 2) j) (launchCredit (Pipeline.owing O₀) 0 (xc c (kk.natAdd 2) j))
      = (tallyAt (xc c (kk.natAdd 2) j) 0 N + tallyAt (xc c (kk.natAdd 2) j) 1 N + tallyAt (xc c (kk.natAdd 2) j) 2 N : CellTallies nD τ sig ℕ) := by
  have hl (l : ℕ) (hl : l < 3) : launchCredit (Pipeline.owing O₀) 0 (xc c (kk.natAdd 2) j) l = N := by
    rw [Pipeline.launchCredit_owing, Finset.sum_congr rfl fun d _ => show O₀ d (xc c (kk.natAdd 2) j) l = if d = j then N else 0 by
      unfold O₀ owedFrom
      rw [Pi.add_apply, Finsupp.add_apply, show owedOf d allSteps (xc c (kk.natAdd 2) j) l = _ from owed_at d c j (kk.natAdd 2) ⟨l, hl⟩ allSteps, barOwed_xc, Nat.add_zero, count_all, Nat.one_mul]
      exact if_congr ⟨fun h' => h'.1, fun h' => ⟨h', h⟩⟩ rfl rfl]
    rw [Finset.sum_ite_eq', if_pos (Finset.mem_univ _)]
  unfold tallyAt
  rw [← tallyOn_add, ← tallyOn_add]
  refine congrArg _ (Finsupp.ext fun u => ?_)
  rw [Finsupp.add_apply, Finsupp.add_apply, Finsupp.single_apply, Finsupp.single_apply, Finsupp.single_apply]
  match u with
  | 0 => rw [if_pos rfl, if_neg (by decide), if_neg (by decide)]; exact hl 0 (by decide)
  | 1 => rw [if_pos rfl, if_neg (by decide), if_neg (by decide), Nat.zero_add]; exact hl 1 (by decide)
  | 2 => rw [if_pos rfl, if_neg (by decide), if_neg (by decide), Nat.zero_add]; exact hl 2 (by decide)
  | u + 3 =>
    rw [if_neg (by omega), if_neg (by omega), if_neg (by omega), Pipeline.launchCredit_owing]
    refine Finset.sum_eq_zero fun d _ => ?_
    by_contra h'
    have := (O₀_pos d (Nat.pos_of_ne_zero h')).2
    rw [show L (xc c (kk.natAdd 2) j) = {0, 1, 2} from if_pos rfl] at this
    simp only [Finset.mem_insert, Finset.mem_singleton] at this
    omega

/-- A peer's six credits. -/
def Cr (c j : Dev nD) : sProp 𝕄 := bigSep Finset.univ fun kk : Fin 2 => iprop(cr c (kk.natAdd 2) j 0 ∗ cr c (kk.natAdd 2) j 1 ∗ cr c (kk.natAdd 2) j 2)

def rcell (p : Fin 32 × Fin 2) : SemLoc sig := .dma (dsem (p.2.natAdd 2) p.1)
theorem rcell_inj : Function.Injective rcell := by
  rintro ⟨j, k⟩ ⟨j', k'⟩ h
  obtain ⟨h1, h2⟩ := dsem_inj (SemLoc.dma.inj h)
  exact Prod.ext h2 (Fin.ext (by have := congrArg Fin.val h1; simpa using this))

theorem cred_split (a b : CellTallies nD τ sig ℕ) : (cred (a + b) : sProp 𝕄) ⊢ iprop(cred a ∗ cred b) := (cred_add a b).1

theorem cred_xc (c j : Dev nD) (kk : Fin 2) (h : c ≠ j) :
    (cred (tallyOn (xc c (kk.natAdd 2) j) (launchCredit (Pipeline.owing O₀) 0 (xc c (kk.natAdd 2) j))) : sProp 𝕄)
      ⊢ iprop(cr c (kk.natAdd 2) j 0 ∗ cr c (kk.natAdd 2) j 1 ∗ cr c (kk.natAdd 2) j 2) := by
  have h3 (a b d : CellTallies nD τ sig ℕ) : (cred (a + b + d) : sProp 𝕄) ⊢ iprop(cred a ∗ cred b ∗ cred d) := by
    iintro H
    ihave H := (cred_split (a + b) d) $$ H
    icases H with ⟨H, H2⟩
    ihave H := (cred_split a b) $$ H
    icases H with ⟨H0, H1⟩
    isplitl [H0]; · iexact H0
    isplitl [H1]; · iexact H1
    iexact H2
  rw [launch_xc c j kk h]
  exact h3 _ _ _

theorem creds (c : Dev nD) : (Pipeline.launchCred O₀ c : sProp 𝕄) ⊢ iprop(cred (tallyAt (bar c) 0 31) ∗ bigSep (Finset.univ.erase c) (Cr c)) := by
  unfold Pipeline.launchCred
  rw [bigSep_univ_at _ (SemLoc.reg barS), launch_bar]
  refine sep_mono_right ?_
  have h1 : (Finset.univ : Finset (Fin 32 × Fin 2)).map ⟨rcell, rcell_inj⟩ ⊆ Finset.univ.erase (SemLoc.reg barS) := by
    intro x hx
    obtain ⟨p, -, rfl⟩ := Finset.mem_map.mp hx
    exact Finset.mem_erase.mpr ⟨(by intro h; cases h), Finset.mem_univ _⟩
  refine (bigSep_subset h1).trans ?_
  rw [bigSep_map, bigSep_univ_prod]
  refine (bigSep_subset (Finset.subset_univ (Finset.univ.erase c))).trans ?_
  exact bigSep_mono fun j hj => bigSep_mono fun kk _ => cred_xc c j kk (Finset.ne_of_mem_erase hj).symm

end Cert.KernelIdeal.Pf

end
-- ==== Proof.Launch.lean ====
/-
The launch: the cells' invariants, the tokens dealt to those who pay with them, and the run of the whole program.
-/
module

public import proofs.«01_k».proof.Proof.Credit
public import Idealize.ShloMosaic.Lib.Pipeline.CollectiveSegs

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The kernel's own semaphores: the transfer cells. -/
abbrev osem : Fin 4 × Fin 32 → SemLoc sig := fun kj => .dma (dsem kj.1 kj.2)
theorem ownSemFacts : Pipeline.OwnSemFacts cfg0.spec osem := by decide +kernel
theorem share_eq (c : Dev nD) (w : Fin cfg0.W) : (dats m ρ 0 c).share w = fullShare := by unfold Pipeline.Dat.share; split <;> rfl

theorem kcell_inj : Function.Injective (kcell : Dev nD × CI → GSem nD τ sig) := by
  rintro ⟨c, a⟩ ⟨c', a'⟩ h
  obtain rfl : c = c' := congrArg (fun g : GSem nD τ sig => g.1.1) h
  have h2 : csem a = csem a' := congrArg Prod.snd h
  cases a with
  | inl a => cases a' with
    | inl a' => rfl
    | inr a' => cases h2
  | inr a => cases a' with
    | inl a' => cases h2
    | inr a' => obtain ⟨h3, h4⟩ := dsem_inj (SemLoc.dma.inj h2); exact congrArg (fun x => (c, Sum.inr x)) (Prod.ext h3 h4)
def ringCells : Finset (GSem nD τ sig) := Finset.univ.map ⟨kcell, kcell_inj⟩

/-- The tokens minted for the cells of a device: one per device for its barrier, three for every transfer cell. -/
abbrev TI : Type := Dev nD ⊕ (Fin 32 × Fin 4 × Fin 3)
def tokOf (x : Dev nD × TI) : GSem nD τ sig × ℕ × Dev nD := match x.2 with
  | .inl d => (bar x.1, 0, d)
  | .inr p => (xc x.1 p.2.1 p.1, p.2.2.val, 0)
theorem tokOf_inj : Function.Injective tokOf := by
  rintro ⟨c, a⟩ ⟨c', a'⟩ h
  cases a with
  | inl a => cases a' with
    | inl a' =>
      have h1 := congrArg Prod.fst h
      have h2 := congrArg (fun x => x.2.2) h
      obtain rfl : c = c' := bar_inj h1
      exact congrArg (fun x => (c, Sum.inl x)) h2
    | inr a' => have h1 := congrArg (fun x => x.1.2) h; cases h1
  | inr a => cases a' with
    | inl a' => have h1 := congrArg (fun x => x.1.2) h; cases h1
    | inr a' =>
      obtain ⟨rfl, h3, h4⟩ := xc_inj (congrArg Prod.fst h)
      have h2 : a.2.2 = a'.2.2 := Fin.ext (congrArg (fun x => x.2.1) h)
      exact congrArg (fun x => (c, Sum.inr x)) (Prod.ext h4 (Prod.ext h3 h2))
def ringToks : Finset (GSem nD τ sig × ℕ × Dev nD) := Finset.univ.map ⟨tokOf, tokOf_inj⟩

def u₀ : UU := (initOf (Pipeline.cells cfgs cellOf_inj) (Pipeline.launchToks cfgs cellOf_inj), initOf ringCells ringToks)

/-- The tokens of a peer's send cells, and of its receive cells. -/
def D (k : Fin 4) (l : Fin 3) (c j : Dev nD) : sProp 𝕄 := dutyTok ER (xc c k j) l.val 0
def own3 (k k' : Fin 4) (c j : Dev nD) : sProp 𝕄 := iprop(D k 0 c j ∗ D k 1 c j ∗ D k 2 c j ∗ D k' 0 c j ∗ D k' 1 c j ∗ D k' 2 c j)
def toks (c : Dev nD) : sProp 𝕄 := iprop((bigSep Finset.univ fun d : Dev nD => dutyTok ER (bar c) 0 d)
  ∗ (bigSep Finset.univ fun j : Dev nD => own3 0 1 c j) ∗ (bigSep Finset.univ fun j : Dev nD => own3 2 3 c j))
/-- The tokens a device pays with. -/
def pays (c : Dev nD) : sProp 𝕄 := iprop((bigSep Finset.univ fun d : Dev nD => dutyTok ER (bar d) 0 c)
  ∗ (bigSep Finset.univ fun j : Dev nD => own3 0 1 c j) ∗ (bigSep Finset.univ fun j : Dev nD => own3 2 3 j c))

theorem fin3_sep (Φ : Fin 3 → sProp 𝕄) : bigSep Finset.univ Φ = iprop(Φ 0 ∗ Φ 1 ∗ Φ 2) := bigSep_univ_eq_bigSepL [0, 1, 2] (by decide) (by decide) Φ

theorem toks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_sum, bigSep_univ_prod]
  unfold toks
  rw [← bigSep_sep']
  congr 1
  refine bigSep_congr fun j _ => ?_
  have h : (bigSep Finset.univ fun p : Fin 4 × Fin 3 => (D p.1 p.2 c j : sProp 𝕄)) = iprop(own3 0 1 c j ∗ own3 2 3 c j) := by
    rw [bigSep_univ_prod, fin4_sep]
    simp only [fin3_sep]
    unfold own3
    ac_rfl
  exact h

theorem toks_around : (bigSep Finset.univ fun c : Dev nD => (toks c : sProp 𝕄)) = bigSep Finset.univ fun c : Dev nD => pays c := by
  unfold toks pays
  rw [bigSep_sep', bigSep_sep', bigSep_sep', bigSep_sep', bigSep_univ_comm fun c d : Dev nD => (dutyTok ER (bar c) 0 d : sProp 𝕄),
    bigSep_univ_comm fun c j : Dev nD => (own3 2 3 c j : sProp 𝕄)]

/-- What the launch element deals a device, and what the global step makes of it. -/
def G (c : Dev nD) : sProp 𝕄 :=
  iprop((bigSep Finset.univ fun a : CI => roundState ER (Rd (vals m ρ)) (kcell (c, a)) 0)
    ∗ (bigSep Finset.univ fun a : CI => iprop(atPos ER (kcell (c, a)) 0 ∅ 0 ∗ reached ER (kcell (c, a)) 0)) ∗ toks c)
def recs0 (K : Dev nD × CI → ℕ) : sProp 𝕄 :=
  iprop((bigSep Finset.univ fun ci : Dev nD × CI => cellInv ER (Rd (vals m ρ)) (K ci) (kcell ci))
    ∗ bigSep Finset.univ fun ci : Dev nD × CI => reached ER (kcell ci) 0)
instance recs0_persistent (K : Dev nD × CI → ℕ) : BI.Persistent (recs0 m ρ K) := by unfold recs0; infer_instance
def lin0 (c : Dev nD) : sProp 𝕄 := iprop((bigSep Finset.univ fun a : CI => atPos ER (kcell (c, a)) 0 ∅ 0) ∗ pays c)
def G' (c : Dev nD) : sProp 𝕄 := iprop(∃ K, recs0 m ρ K ∗ lin0 c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun a : CI => Φ (kcell (c, a)) := by
    unfold ringCells; rw [bigSep_map, bigSep_univ_prod]; rfl
  iintro HX
  imod (Rounds.fund ER (Rd (vals m ρ)) ringCells ringToks) $$ HX with ⟨Hst, Hr, Hat, Htok⟩
  imodintro
  ihave Hst' := (Entails.of_eq (hX fun g => roundState ER (Rd (vals m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = bigSep Finset.univ fun kj : Fin 4 × Fin 32 => semVal (xc c kj.1 kj.2) 0 := rfl
theorem unscopedSems0_eq (c : Dev nD) : (unscopedSems0 c : sProp 𝕄) = semVal (bar c) 0 := by
  unfold unscopedSems0; rw [bigSep_eq_bigSepL_of_eq [SemLoc.reg barS] (by decide +kernel) (by decide)]; rfl
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun a : CI => semVal (kcell (c, a)) 0 : sProp 𝕄) := by
  have hs : (bigSep Finset.univ fun a : CI => (semVal (kcell (c, a)) 0 : sProp 𝕄))
      = iprop(semVal (bar c) 0 ∗ bigSep Finset.univ fun kj : Fin 4 × Fin 32 => semVal (xc c kj.1 kj.2) 0) := by
    rw [bigSep_univ_sum, Finset.univ_unique (α := Unit), bigSep_singleton]; rfl
  rw [ownSems0_eq, unscopedSems0_eq, hs]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun a => iprop(∃ κ : ℕ, cellInv ER (Rd (vals m ρ)) κ (kcell (c, a))))
          ∗ (bigSep Finset.univ fun a => iprop(atPos ER (kcell (c, a)) 0 ∅ 0 ∗ reached ER (kcell (c, a)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun a : CI => semVal (kcell (c, a)) 0) ∗ bigSep Finset.univ fun a : CI => roundState ER (Rd (vals m ρ)) (kcell (c, a)) 0)
      ⊢ (|={Set.univ}=> bigSep Finset.univ fun a => iprop(∃ κ : ℕ, cellInv ER (Rd (vals m ρ)) κ (kcell (c, a))) : sProp 𝕄) from by
        rw [← bigSep_sep']
        exact (bigSep_mono fun a _ => (Rounds.body_intro ER (Rd (vals m ρ)) (kcell (c, a))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun a => iprop(∃ κ : ℕ, cellInv ER (Rd (vals m ρ)) κ (kcell (c, a))))
          ∗ (bigSep Finset.univ fun a => iprop(atPos ER (kcell (c, a)) 0 ∅ 0 ∗ reached ER (kcell (c, a)) 0)) ∗ toks c) : sProp 𝕄)
      ⊢ bigSep Finset.univ (G' m ρ) := by
  rw [bigSep_sep', bigSep_sep', ← bigSep_univ_prod (fun ca : Dev nD × CI => iprop(∃ κ : ℕ, cellInv ER (Rd (vals m ρ)) κ (kcell ca))),
    bigSep_congr (s := Finset.univ) (fun (c : Dev nD) _ => bigSep_sep' Finset.univ (fun a : CI => (atPos ER (kcell (c, a)) 0 ∅ 0 : sProp 𝕄)) (fun a => reached ER (kcell (c, a)) 0)),
    bigSep_sep', ← bigSep_univ_prod (fun ca : Dev nD × CI => (reached ER (kcell ca) 0 : sProp 𝕄)), toks_around]
  iintro ⟨HI, ⟨Hat, #HR⟩, Htok⟩
  ihave HK := (BI.bigSep_exists_pi Finset.univ (fun (ca : Dev nD × CI) (κ : ℕ) => (cellInv ER (Rd (vals m ρ)) κ (kcell ca) : sProp 𝕄))) $$ HI
  icases HK with ⟨%K, #HI⟩
  iapply (bigSep_recs (R := recs0 m ρ K) fun c _ => show iprop(recs0 m ρ K ∗ lin0 c) ⊢ G' m ρ c from by
    unfold G'; iintro H; iexists K; iexact H)
  isplitr
  · unfold recs0; isplitl; · iexact HI
    iexact HR
  · unfold lin0
    rw [bigSep_sep']
    isplitl [Hat]; · iexact Hat
    iexact Htok

/-- The global step: the own and the unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem pos_eq (c : Dev nD) : (bigSep Finset.univ fun a : CI => (atPos ER (kcell (c, a)) 0 ∅ 0 : sProp 𝕄))
    = iprop(atPos ER (bar c) 0 ∅ 0 ∗ At c 0 c ∗ bigSep (Finset.univ.erase c) (At c 0)) := by
  rw [bigSep_univ_sum, Finset.univ_unique (α := Unit), bigSep_singleton, ← univ_split c (At c 0)]
  refine congrArg (fun x => iprop(atPos ER (bar c) 0 ∅ 0 ∗ x)) ?_
  rw [bigSep_univ_prod, bigSep_univ_comm]
  exact bigSep_congr fun j _ => (At_eq c 0 j).symm

theorem tk_eq (c j : Dev nD) : iprop(own3 0 1 c j ∗ own3 2 3 j c ∗ Cr c j) = (iprop(Tk c 0 j ∗ Tk c 1 j ∗ Tk c 2 j) : sProp 𝕄) := by
  have h1 : (Cr c j : sProp 𝕄) = iprop((cr c 2 j 0 ∗ cr c 2 j 1 ∗ cr c 2 j 2) ∗ (cr c 3 j 0 ∗ cr c 3 j 1 ∗ cr c 3 j 2)) :=
    bigSep_univ_eq_bigSepL [0, 1] (by decide) (by decide) _
  have hp (l : Fin 3) : (tokP c l j : sProp 𝕄) = iprop(D 0 l c j ∗ D 2 l j c) := rfl
  have hg (l : Fin 3) : (tokG c l j : sProp 𝕄) = iprop(D 1 l c j ∗ D 3 l j c) := rfl
  rw [h1]
  unfold Tk own3
  simp only [hp, hg]
  ac_rfl

theorem lin_intro (c : Dev nD) : iprop(lin0 c ∗ cred (tallyAt (bar c) 0 31) ∗ bigSep (Finset.univ.erase c) (Cr c)) ⊢ (lin c : sProp 𝕄) := by
  have h2 : iprop((bigSep (Finset.univ.erase c) (At c 0)) ∗ (bigSep (Finset.univ.erase c) fun j => own3 0 1 c j) ∗ (bigSep (Finset.univ.erase c) fun j => own3 2 3 j c)
      ∗ bigSep (Finset.univ.erase c) (Cr c)) = (bigSep (Finset.univ.erase c) fun j => (iprop(At c 0 j ∗ Tk c 0 j ∗ Tk c 1 j ∗ Tk c 2 j) : sProp 𝕄)) := by
    rw [← bigSep_sep', ← bigSep_sep', ← bigSep_sep']
    exact bigSep_congr fun j _ => congrArg (fun x => iprop(At c 0 j ∗ x)) (tk_eq c j)
  have hd (Φ : Dev nD → sProp 𝕄) : bigSep Finset.univ Φ ⊢ bigSep (Finset.univ.erase c) Φ := bigSep_subset (Finset.subset_univ _)
  unfold lin0 pays lin
  rw [pos_eq, ← h2]
  iintro ⟨⟨⟨Hb, Hme, Hat⟩, Ht1, Ht2, Ht3⟩, Hcb, Hcr⟩
  isplitl [Hb]; · iexact Hb
  isplitl [Hcb]; · iexact Hcb
  isplitl [Ht1]; · iapply (hd fun d => dutyTok ER (bar d) 0 c); iexact Ht1
  isplitl [Hme]; · iexact Hme
  isplitl [Hat]; · iexact Hat
  isplitl [Ht2]; · iapply (hd fun j => own3 0 1 c j); iexact Ht2
  isplitl [Ht3]; · iapply (hd fun j => own3 2 3 j c); iexact Ht3
  iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, Hr, Hl⟩⟩
  ihave Hc := (creds (F := F) c) $$ Hcr
  imodintro
  isplitl
  · iexists K
    isplitl [Hr Hlev]
    · unfold recs0 recs
      icases Hr with ⟨H1, H2⟩
      isplitl [H1]; · iexact H1
      isplitl [H2]; · iexact H2
      iexact Hlev
    · iapply (lin_intro (F := F) c)
      isplitl [Hl]; · iexact Hl
      iexact Hc
  · iempintro

theorem scr_eq (c : Dev nD) : (Pipeline.scopedRest cfg0.spec c : sProp 𝕄) = scr c := by
  rw [show (Pipeline.scopedRest cfg0.spec c : sProp 𝕄) = _ from scopedRest0_eq c, whole_any, whole_any, whole_any, whole_any]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq]
  unfold Φ₁ zeros
  iintro ⟨Hr, Hz, HzB⟩
  isplitl [HzB]; · iexact HzB
  isplitl [Hz]; · iexact Hz
  iexact Hr

theorem mayWait_stage (c : Dev nD) (q : DmaSem sig) (hq : q.val < 8) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0 (fun p hp => by rw [Finset.mem_singleton.mp hp]; exact mem_L c _ 0)
      (fun g u hg => (O₀_pos c hg).2) (fun p hp => by rw [Finset.mem_singleton.mp hp]; dsimp only [lv]; rw [if_pos hq]) (fun g u hg => (O₀_pos c hg).1)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

/-- The windows' arrays at the end of the run. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every weakly fair execution of the program on the thirty-two devices ends, with each device's arrays at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pf

end
-- ==== Proof.Run.lean ====
/-
What the arrays hold at the end of the run: the arguments what they held, the result the three layers' values.
-/
module

public import proofs.«01_k».proof.Proof.Launch

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

theorem final_in (c : Dev nD) (w : Fin 8) (h : (cfg0.win w).isOut = false) : finalA m ρ c w = (s₀ m ρ).mem ((cfg0.win w).arr.view.loc (c : Thread nD τ)) :=
  (dats m ρ 0 c).arrAt_in w h _
theorem final_out (c : Dev nD) : finalA m ρ c 7 = (vals m ρ).yv 2 := by
  funext i
  refine ((dats m ρ 0 c).arrAt_emb_eq_after_last 7 t0_0 (by decide +kernel) i).trans ?_
  rfl

/-- Every execution ends with the result array of every device at the third layer's value, the arguments unchanged and the counters at zero. -/
theorem run_read : θ_run defs (onTc (τ := τ) (main (F := F))) ⟨m, fun _ => 0, ρ⟩ (fun r => (∀ c : Dev nD,
    r.2.mem ((c.tc : Thread nD τ).loc main_v1) = (vals m ρ).yv 2
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  (θ_run defs _ _).mono (fun _ h => ⟨fun c => ⟨(h.1 c 7).trans (final_out m ρ c), (h.1 c 0).trans (final_in m ρ c 0 rfl),
    (h.1 c 1).trans (final_in m ρ c 1 rfl), (h.1 c 3).trans (final_in m ρ c 3 rfl), (h.1 c 5).trans (final_in m ρ c 5 rfl),
    (h.1 c 2).trans (final_in m ρ c 2 rfl), (h.1 c 4).trans (final_in m ρ c 4 rfl), (h.1 c 6).trans (final_in m ρ c 6 rfl)⟩, h.2⟩) (run_main m ρ)

/-- A window's block is the whole argument. -/
theorem x_eq (c : Dev nD) : (vals m ρ).x c = m ((c : Thread nD τ).loc main_arg0) :=
  funext fun i => congrArg (m ((c : Thread nD τ).loc main_arg0)) (funext fun a => Fin.ext (win0_0.rect_emb_val_of_index_zero t0_0 a rfl i))
theorem w1_0 (c : Dev nD) : (vals m ρ).w1 0 c = m ((c : Thread nD τ).loc main_arg1) :=
  funext fun i => congrArg (m ((c : Thread nD τ).loc main_arg1)) (funext fun a => Fin.ext (win0_1.rect_emb_val_of_index_zero t0_0 a rfl i))
theorem w1_1 (c : Dev nD) : (vals m ρ).w1 1 c = m ((c : Thread nD τ).loc main_arg2) :=
  funext fun i => congrArg (m ((c : Thread nD τ).loc main_arg2)) (funext fun a => Fin.ext (win0_3.rect_emb_val_of_index_zero t0_0 a rfl i))
theorem w1_2 (c : Dev nD) : (vals m ρ).w1 2 c = m ((c : Thread nD τ).loc main_arg3) :=
  funext fun i => congrArg (m ((c : Thread nD τ).loc main_arg3)) (funext fun a => Fin.ext (win0_5.rect_emb_val_of_index_zero t0_0 a rfl i))
theorem w2_0 (c : Dev nD) : (vals m ρ).w2 0 c = m ((c : Thread nD τ).loc main_arg4) :=
  funext fun i => congrArg (m ((c : Thread nD τ).loc main_arg4)) (funext fun a => Fin.ext (win0_2.rect_emb_val_of_index_zero t0_0 a rfl i))
theorem w2_1 (c : Dev nD) : (vals m ρ).w2 1 c = m ((c : Thread nD τ).loc main_arg5) :=
  funext fun i => congrArg (m ((c : Thread nD τ).loc main_arg5)) (funext fun a => Fin.ext (win0_4.rect_emb_val_of_index_zero t0_0 a rfl i))
theorem w2_2 (c : Dev nD) : (vals m ρ).w2 2 c = m ((c : Thread nD τ).loc main_arg6) :=
  funext fun i => congrArg (m ((c : Thread nD τ).loc main_arg6)) (funext fun a => Fin.ext (win0_6.rect_emb_val_of_index_zero t0_0 a rfl i))

end Cert.KernelIdeal.Pf

end
-- ==== Proof.Value.lean ====
/-
The value over the extended reals: each layer's sum over the thirty-two devices is the reference's one contraction.
-/
module

public import proofs.«01_k».proof.Proof.Run
public import proofs.«01_k».proof.Proof.Gen.ReferenceIdeal.Run
public import Idealize.ShloMosaic.Lib.Pointwise

@[expose] public section

set_option maxRecDepth 20000

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A layer as the problem states it: the product with the first weights, its positive part, the product with the second. -/
def mlp (X : Vec Ideal S256x256 .f32) (W1 : Vec Ideal ⟨2, ![256, 16384]⟩ .f32) (W2 : Vec Ideal ⟨2, ![16384, 256]⟩ .f32) : Vec Ideal S256x256 .f32 :=
  fun i => ∑ k : Fin 16384, max (∑ d : Fin 256, X (ix2 (i 0) d) * W1 (ix2 d k)) 0 * W2 (ix2 k (i 1))

theorem gpay_apply (l : Fin 3) (X : Vec Ideal S64x256 .f32) (w1 : Vec Ideal S256x512 .f32) (w2 : Vec Ideal S512x256 .f32) (i : S64x256.Idx) :
    gpay l X w1 w2 i = ∑ k : Fin 512, max (∑ d : Fin 256, X (ix2 (i 0) d) * w1 (ix2 d k)) 0 * w2 (ix2 k (i 1)) := by
  fin_cases l
  · show k0_pay1 X w1 w2 i = _
    pointwise [k0_pay1]
  · show k0_pay11 X w1 w2 i = _
    pointwise [k0_pay11]
  · show k0_pay17 X w1 w2 i = _
    pointwise [k0_pay17]

theorem rpay_apply (l : Fin 3) (S : Vec Ideal S32x8x256 .f32) (i : S8x256.Idx) : rpay l S i = ∑ j : Fin 32, S (ix3 j (i 0) (i 1)) := by
  fin_cases l
  · show k0_pay10 (k0_pay9 S) i = _
    pointwise [k0_pay10, k0_pay9]
  · show k0_pay16 S i = _
    pointwise [k0_pay16]
  · show k0_pay22 S i = _
    pointwise [k0_pay22]

theorem partF_apply (l : Fin 3) (X : Vec Ideal S256x256 .f32) (w1 : Vec Ideal S256x512 .f32) (w2 : Vec Ideal S512x256 .f32) (i : S256x256.Idx) :
    partF l X w1 w2 i = ∑ k : Fin 512, max (∑ d : Fin 256, X (ix2 (i 0) d) * w1 (ix2 d k)) 0 * w2 (ix2 k (i 1)) := by
  unfold partF
  rw [gpay_apply]
  refine Finset.sum_congr rfl fun k _ => ?_
  have hX (d : Fin 256) : X ((grpR (gOf i)).emb (ix2 ⟨(i 0).val % 64, Nat.mod_lt _ (by decide)⟩ d)) = X (ix2 (i 0) d) := by
    refine congrArg X (funext fun a => Fin.ext ?_)
    match a with
    | ⟨0, _⟩ => refine (grp_emb_0 _ _).trans ?_; show 64 * ((i 0).val / 64) + (i 0).val % 64 = (i 0).val; omega
    | ⟨1, _⟩ => exact grp_emb_1 _ _
  exact congrArg (fun x : EReal => max x 0 * w2 (ix2 k (i 1))) (Finset.sum_congr rfl fun d _ => congrArg (fun x : EReal => x * w1 (ix2 d k)) (hX d))

theorem outF_apply (l : Fin 3) (P : Dev nD → Vec Ideal S256x256 .f32) (i : S256x256.Idx) : outF l P i = ∑ j : Fin 32, P j i := by
  unfold outF
  rw [rpay_apply]
  refine Finset.sum_congr rfl fun j _ => ?_
  unfold slotF
  refine congrArg (P j) (funext fun a => Fin.ext ?_)
  match a with
  | ⟨0, _⟩ => show 8 * ((i 0).val / 8) + (i 0).val % 8 = (i 0).val; omega
  | ⟨1, _⟩ => rfl

/-- The hidden coordinates, device by device. -/
def hidden : Fin 32 × Fin 512 ≃ Fin 16384 := finProdFinEquiv.trans (finCongr rfl)
theorem hidden_val (p : Fin 32 × Fin 512) : (hidden p).val = p.1.val * 512 + p.2.val := by
  show p.2.val + 512 * p.1.val = _; omega

/-- A layer over the thirty-two devices, each with its block of the weights, is the layer. -/
theorem layer_eq (l : Fin 3) (X : Vec Ideal S256x256 .f32) (W1 : Vec Ideal ⟨2, ![256, 16384]⟩ .f32) (W2 : Vec Ideal ⟨2, ![16384, 256]⟩ .f32)
    (P : Dev nD → Vec Ideal S256x256 .f32)
    (hP : ∀ c, P c = partF l X (Layout.block ⟨2, ![256, 512]⟩ ⟨2, ![256, 16384]⟩ 1 32 c W1) (Layout.block ⟨2, ![512, 256]⟩ ⟨2, ![16384, 256]⟩ 0 32 c W2)) :
    outF l P = mlp X W1 W2 := by
  funext i
  rw [outF_apply]
  unfold mlp
  rw [← Equiv.sum_comp hidden, Fintype.sum_prod_type]
  refine Finset.sum_congr rfl fun j _ => ?_
  rw [hP, partF_apply]
  refine Finset.sum_congr rfl fun k _ => ?_
  have h1 (d : Fin 256) : Layout.block ⟨2, ![256, 512]⟩ ⟨2, ![256, 16384]⟩ 1 32 j W1 (by decide) (ix2 d k) = W1 (ix2 d (hidden (j, k))) :=
    congrArg W1 (funext fun a => Fin.ext (match a with | ⟨0, _⟩ => rfl | ⟨1, _⟩ => (hidden_val (j, k)).symm))
  have h2 : Layout.block ⟨2, ![512, 256]⟩ ⟨2, ![16384, 256]⟩ 0 32 j W2 (by decide) (ix2 k (i 1)) = W2 (ix2 (hidden (j, k)) (i 1)) :=
    congrArg W2 (funext fun a => Fin.ext (match a with | ⟨0, _⟩ => (hidden_val (j, k)).symm | ⟨1, _⟩ => rfl))
  rw [h2]
  exact congrArg (fun x : EReal => max x 0 * W2 (ix2 (hidden (j, k)) (i 1))) (Finset.sum_congr rfl fun d _ => congrArg (fun x : EReal => X (ix2 (i 0) d) * x) (h1 d))

/-- The three layers. -/
theorem value_eq (V : Vals Ideal) (X : Vec Ideal S256x256 .f32) (W1 : Fin 3 → Vec Ideal ⟨2, ![256, 16384]⟩ .f32) (W2 : Fin 3 → Vec Ideal ⟨2, ![16384, 256]⟩ .f32)
    (hx : ∀ c, V.x c = X) (h1 : ∀ l c, V.w1 l c = Layout.block ⟨2, ![256, 512]⟩ ⟨2, ![256, 16384]⟩ 1 32 c (W1 l))
    (h2 : ∀ l c, V.w2 l c = Layout.block ⟨2, ![512, 256]⟩ ⟨2, ![16384, 256]⟩ 0 32 c (W2 l)) :
    V.yv 2 = mlp (mlp (mlp X (W1 0) (W2 0)) (W1 1) (W2 1)) (W1 2) (W2 2) := by
  have e0 : V.y0 = mlp X (W1 0) (W2 0) := layer_eq 0 X _ _ _ fun c => by unfold Vals.pOf; rw [hx, h1, h2]
  have e1 : V.y1 = mlp (mlp X (W1 0) (W2 0)) (W1 1) (W2 1) := layer_eq 1 _ _ _ _ fun c => by unfold Vals.pOf; rw [e0, h1, h2]
  show V.y2 = _
  exact layer_eq 2 _ _ _ _ fun c => by unfold Vals.pOf; rw [e1, h1, h2]

theorem ref_layer (X : Vec Ideal S256x256 .f32) (W1 : Vec Ideal ⟨2, ![256, 16384]⟩ .f32) (W2 : Vec Ideal ⟨2, ![16384, 256]⟩ .f32) :
    Host.dotGeneral (F := Ideal) (φ₁ := .f32) (φ₂ := .f32) Cert.ReferenceIdeal.dot_S256x16384_S16384x256_S256x256_1_0_0_1_n_n none
      (maximumf (Host.dotGeneral (F := Ideal) (φ₁ := .f32) (φ₂ := .f32) Cert.ReferenceIdeal.dot_S256x256_S256x16384_S256x16384_1_0_0_1_n_n none X W1)
        (broadcastInDim Cert.ReferenceIdeal.S256x16384 ![] Cert.ReferenceIdeal.Gen.facts.bcast_S_S256x16384 (constant Cert.ReferenceIdeal.S_ .f32 0x00000000#32))) W2 = mlp X W1 W2 := by
  funext i
  unfold mlp
  pointwise

end Cert.KernelIdeal.Pf

end
-- ==== Proof.lean ====
/- The three-layer MLP over thirty-two devices: every claim of the certificate, from the run of the whole program (Proof/Run.lean
   of the idealized program, Proof/KRun.lean of the program as printed). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KRun
public import proofs.«01_k».proof.Proof.Value
public import Idealize.ShloMosaic.Adequacy
public import Idealize.ShloMosaic.Init

@[expose] public section

noncomputable section

namespace Cert.Proof

open Idealize.ShloMosaic Idealize.SL.Sem

theorem kernel_quiescent : Cert.quiescent_Kernel (hKernel := Cert.Kernel.Gen.facts) := fun m g _ =>
  (θ_run _ _ _).mono (fun _ h => ⟨fun c => (h.1 c).2, h.2⟩) (Cert.Kernel.Pf.run_read m g)
theorem ideal_quiescent : Cert.quiescent_KernelIdeal (hKernelIdeal := Cert.KernelIdeal.Gen.facts) := fun m g _ =>
  (θ_run _ _ _).mono (fun _ h => ⟨fun c => (h.1 c).2, h.2⟩) (Cert.KernelIdeal.Pf.run_read m g)

theorem reference_quiescent : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's result on every device is the reference's: layer by layer, the sum over the devices is the contraction. -/
theorem same_value : Cert.algebraic_KernelIdeal_ReferenceIdeal (hKernelIdeal := Cert.KernelIdeal.Gen.facts) (hReferenceIdeal := Cert.ReferenceIdeal.Gen.facts) := by
  intro m g m' g' _ hag
  let A (b : Ref Cert.ReferenceIdeal.sig .tc) := m' (((0 : Dev Cert.ReferenceIdeal.nD).tc : Thread Cert.ReferenceIdeal.nD Cert.ReferenceIdeal.τ).loc b)
  let X : Vec Ideal Cert.KernelIdeal.S256x256 .f32 := A Cert.ReferenceIdeal.main_arg0
  let W1 : Fin 3 → Vec Ideal ⟨2, ![256, 16384]⟩ .f32 := fun | 0 => A Cert.ReferenceIdeal.main_arg1 | 1 => A Cert.ReferenceIdeal.main_arg2 | 2 => A Cert.ReferenceIdeal.main_arg3
  let W2 : Fin 3 → Vec Ideal ⟨2, ![16384, 256]⟩ .f32 := fun | 0 => A Cert.ReferenceIdeal.main_arg4 | 1 => A Cert.ReferenceIdeal.main_arg5 | 2 => A Cert.ReferenceIdeal.main_arg6
  have hv : (Cert.KernelIdeal.Pf.vals m g).yv 2 = _ := Cert.KernelIdeal.Pf.value_eq (Cert.KernelIdeal.Pf.vals m g) X W1 W2
    (fun c => (Cert.KernelIdeal.Pf.x_eq m g c).trans (hag c).1)
    (fun l c => match l with
      | 0 => (Cert.KernelIdeal.Pf.w1_0 m g c).trans (hag c).2.1
      | 1 => (Cert.KernelIdeal.Pf.w1_1 m g c).trans (hag c).2.2.1
      | 2 => (Cert.KernelIdeal.Pf.w1_2 m g c).trans (hag c).2.2.2.1)
    (fun l c => match l with
      | 0 => (Cert.KernelIdeal.Pf.w2_0 m g c).trans (hag c).2.2.2.2.1
      | 1 => (Cert.KernelIdeal.Pf.w2_1 m g c).trans (hag c).2.2.2.2.2.1
      | 2 => (Cert.KernelIdeal.Pf.w2_2 m g c).trans (hag c).2.2.2.2.2.2)
  refine ⟨Cert.KernelIdeal.Pf.mlp (Cert.KernelIdeal.Pf.mlp (Cert.KernelIdeal.Pf.mlp X (W1 0) (W2 0)) (W1 1) (W2 1)) (W1 2) (W2 2), ?_, ?_⟩
  · exact (θ_run Cert.KernelIdeal.defs _ _).mono (fun _ h c => ⟨(h.1 c).1.trans hv, (h.1 c).2⟩) (Cert.KernelIdeal.Pf.run_read (F := Ideal) m g)
  · refine (θ_run Cert.ReferenceIdeal.defs _ _).mono (fun _ h => ⟨(h 0).1.trans ?_, (h 0).2⟩) (Cert.ReferenceIdeal.Value.run (F := Ideal) m' g')
    have r0 := Cert.KernelIdeal.Pf.ref_layer X (W1 0) (W2 0)
    have r1 := Cert.KernelIdeal.Pf.ref_layer (Cert.KernelIdeal.Pf.mlp X (W1 0) (W2 0)) (W1 1) (W2 1)
    have r2 := Cert.KernelIdeal.Pf.ref_layer (Cert.KernelIdeal.Pf.mlp (Cert.KernelIdeal.Pf.mlp X (W1 0) (W2 0)) (W1 1) (W2 1)) (W1 2) (W2 2)
    rw [← r2, ← r1, ← r0]

theorem claim : Cert.Claim := ⟨Cert.Kernel.Gen.facts, Cert.KernelIdeal.Gen.facts, Cert.ReferenceIdeal.Gen.facts,
  kernel_quiescent, ideal_quiescent, reference_quiescent, trivial, same_value⟩

end Cert.Proof

end
